-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_v296) = v1 c
          ∧ r.2.mem ((c.tc : Thread Cert.ReferenceIdeal.nD Cert.ReferenceIdeal.τ).loc Cert.ReferenceIdeal.main_v333) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v75)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v75) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v107) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v77)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v77) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S2x1x224x224 : Shape := ⟨4, ![2, 1, 224, 224]⟩
abbrev S16x1x4x4 : Shape := ⟨4, ![16, 1, 4, 4]⟩
abbrev S16 : Shape := ⟨1, ![16]⟩
abbrev S32x16x4x4 : Shape := ⟨4, ![32, 16, 4, 4]⟩
abbrev S32 : Shape := ⟨1, ![32]⟩
abbrev S64x32x1x1 : Shape := ⟨4, ![64, 32, 1, 1]⟩
abbrev S64 : Shape := ⟨1, ![64]⟩
abbrev S512x64 : Shape := ⟨2, ![512, 64]⟩
abbrev S32x64x1x1 : Shape := ⟨4, ![32, 64, 1, 1]⟩
abbrev S_ : Shape := ⟨0, ![]⟩

class Facts : Prop where
  bcast_S_S2x1x224x224 : S_.BroadcastsInDim S2x1x224x224 (![] : Fin 0 → Fin S2x1x224x224.rank)
  reducesTo_S2x1x224x224_S_d0_1_2_3 : S2x1x224x224.ReducesTo [0, 1, 2, 3] S_
  h_S_ : 0 < S_.numel
  bcast_S_S16x1x4x4 : S_.BroadcastsInDim S16x1x4x4 (![] : Fin 0 → Fin S16x1x4x4.rank)
  reducesTo_S16x1x4x4_S_d0_1_2_3 : S16x1x4x4.ReducesTo [0, 1, 2, 3] S_
  bcast_S_S16 : S_.BroadcastsInDim S16 (![] : Fin 0 → Fin S16.rank)
  reducesTo_S16_S_d0 : S16.ReducesTo [0] S_
  bcast_S_S32x16x4x4 : S_.BroadcastsInDim S32x16x4x4 (![] : Fin 0 → Fin S32x16x4x4.rank)
  reducesTo_S32x16x4x4_S_d0_1_2_3 : S32x16x4x4.ReducesTo [0, 1, 2, 3] S_
  bcast_S_S32 : S_.BroadcastsInDim S32 (![] : Fin 0 → Fin S32.rank)
  reducesTo_S32_S_d0 : S32.ReducesTo [0] S_
  bcast_S_S64x32x1x1 : S_.BroadcastsInDim S64x32x1x1 (![] : Fin 0 → Fin S64x32x1x1.rank)
  reducesTo_S64x32x1x1_S_d0_1_2_3 : S64x32x1x1.ReducesTo [0, 1, 2, 3] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S32x64x1x1 : S_.BroadcastsInDim S32x64x1x1 (![] : Fin 0 → Fin S32x64x1x1.rank)
  reducesTo_S32x64x1x1_S_d0_1_2_3 : S32x64x1x1.ReducesTo [0, 1, 2, 3] S_

variable [Facts]

def fn_part5 {F : FTy → Type} [FloatOps F] (main_arg17 : FVec F S32 .f32) (main_v84 : IVec S_ 1) : IVec S_ 1 :=
  let main_v85 : FVec F S32 .f32 := Host.absf main_arg17
  let main_cst_33 : FVec F S_ .f32 := constant S_ .f32 0x7F800000#32
  let main_v86 : FVec F S32 .f32 := broadcastInDim S32 ![] bcast_S_S32 main_cst_33
  let main_v87 : IVec S32 1 := cmpf .olt main_v85 main_v86
  let main_c_34 : IVec S_ 1 := constantI S_ 1 1#1
  let main_v88 : IVec S_ 1 := (fun x v => Host.reduce IntOp.andi x v reducesTo_S32_S_d0 h_S_) main_v87 main_c_34
  let main_v89 : IVec S_ 1 := andi main_v84 main_v88
  main_v89

def fn_part4 {F : FTy → Type} [FloatOps F] (main_arg14 : FVec F S32x64x1x1 .f32) (main_arg15 : FVec F S32 .f32) (main_arg16 : FVec F S32 .f32) (main_arg17 : FVec F S32 .f32) (main_v64 : IVec S_ 1) (main_v67 : IVec S512x64 1) : IVec S_ 1 :=
  let main_c_26 : IVec S_ 1 := constantI S_ 1 1#1
  let main_v68 : IVec S_ 1 := (fun x v => Host.reduce IntOp.andi x v reducesTo_S512x64_S_d0_1 h_S_) main_v67 main_c_26
  let main_v69 : IVec S_ 1 := andi main_v64 main_v68
  let main_v70 : FVec F S32x64x1x1 .f32 := Host.absf main_arg14
  let main_cst_27 : FVec F S_ .f32 := constant S_ .f32 0x7F800000#32
  let main_v71 : FVec F S32x64x1x1 .f32 := broadcastInDim S32x64x1x1 ![] bcast_S_S32x64x1x1 main_cst_27
  let main_v72 : IVec S32x64x1x1 1 := cmpf .olt main_v70 main_v71
  let main_c_28 : IVec S_ 1 := constantI S_ 1 1#1
  let main_v73 : IVec S_ 1 := (fun x v => Host.reduce IntOp.andi x v reducesTo_S32x64x1x1_S_d0_1_2_3 h_S_) main_v72 main_c_28
  let main_v74 : IVec S_ 1 := andi main_v69 main_v73
  let main_v75 : FVec F S32 .f32 := Host.absf main_arg15
  let main_cst_29 : FVec F S_ .f32 := constant S_ .f32 0x7F800000#32
  let main_v76 : FVec F S32 .f32 := broadcastInDim S32 ![] bcast_S_S32 main_cst_29
  let main_v77 : IVec S32 1 := cmpf .olt main_v75 main_v76
  let main_c_30 : IVec S_ 1 := constantI S_ 1 1#1
  let main_v78 : IVec S_ 1 := (fun x v => Host.reduce IntOp.andi x v reducesTo_S32_S_d0 h_S_) main_v77 main_c_30
  let main_v79 : IVec S_ 1 := andi main_v74 main_v78
  let main_v80 : FVec F S32 .f32 := Host.absf main_arg16
  let main_cst_31 : FVec F S_ .f32 := constant S_ .f32 0x7F800000#32
  let main_v81 : FVec F S32 .f32 := broadcastInDim S32 ![] bcast_S_S32 main_cst_31
  let main_v82 : IVec S32 1 := cmpf .olt main_v80 main_v81
  let main_c_32 : IVec S_ 1 := constantI S_ 1 1#1
  let main_v83 : IVec S_ 1 := (fun x v => Host.reduce IntOp.andi x v reducesTo_S32_S_d0 h_S_) main_v82 main_c_32
  let main_v84 : IVec S_ 1 := andi main_v79 main_v83
  fn_part5 (F := F) main_arg17 main_v84

def fn_part3 {F : FTy → Type} [FloatOps F] (main_arg11 : FVec F S64 .f32) (main_arg12 : FVec F S64 .f32) (main_arg13 : FVec F S512x64 .f32) (main_arg14 : FVec F S32x64x1x1 .f32) (main_arg15 : FVec F S32 .f32) (main_arg16 : FVec F S32 .f32) (main_arg17 : FVec F S32 .f32) (main_v49 : IVec S_ 1) (main_v50 : FVec F S64 .f32) : IVec S_ 1 :=
  let main_cst_19 : FVec F S_ .f32 := constant S_ .f32 0x7F800000#32
  let main_v51 : FVec F S64 .f32 := broadcastInDim S64 ![] bcast_S_S64 main_cst_19
  let main_v52 : IVec S64 1 := cmpf .olt main_v50 main_v51
  let main_c_20 : IVec S_ 1 := constantI S_ 1 1#1
  let main_v53 : IVec S_ 1 := (fun x v => Host.reduce IntOp.andi x v reducesTo_S64_S_d0 h_S_) main_v52 main_c_20
  let main_v54 : IVec S_ 1 := andi main_v49 main_v53
  let main_v55 : FVec F S64 .f32 := Host.absf main_arg11
  let main_cst_21 : FVec F S_ .f32 := constant S_ .f32 0x7F800000#32
  let main_v56 : FVec F S64 .f32 := broadcastInDim S64 ![] bcast_S_S64 main_cst_21
  let main_v57 : IVec S64 1 := cmpf .olt main_v55 main_v56
  let main_c_22 : IVec S_ 1 := constantI S_ 1 1#1
  let main_v58 : IVec S_ 1 := (fun x v => Host.reduce IntOp.andi x v reducesTo_S64_S_d0 h_S_) main_v57 main_c_22
  let main_v59 : IVec S_ 1 := andi main_v54 main_v58
  let main_v60 : FVec F S64 .f32 := Host.absf main_arg12
  let main_cst_23 : FVec F S_ .f32 := constant S_ .f32 0x7F800000#32
  let main_v61 : FVec F S64 .f32 := broadcastInDim S64 ![] bcast_S_S64 main_cst_23
  let main_v62 : IVec S64 1 := cmpf .olt main_v60 main_v61
  let main_c_24 : IVec S_ 1 := constantI S_ 1 1#1
  let main_v63 : IVec S_ 1 := (fun x v => Host.reduce IntOp.andi x v reducesTo_S64_S_d0 h_S_) main_v62 main_c_24
  let main_v64 : IVec S_ 1 := andi main_v59 main_v63
  let main_v65 : FVec F S512x64 .f32 := Host.absf main_arg13
  let main_cst_25 : FVec F S_ .f32 := constant S_ .f32 0x7F800000#32
  let main_v66 : FVec F S512x64 .f32 := broadcastInDim S512x64 ![] bcast_S_S512x64 main_cst_25
  let main_v67 : IVec S512x64 1 := cmpf .olt main_v65 main_v66
  fn_part4 (F := F) main_arg14 main_arg15 main_arg16 main_arg17 main_v64 main_v67

def fn_part2 {F : FTy → Type} [FloatOps F] (main_arg7 : FVec F S32 .f32) (main_arg8 : FVec F S32 .f32) (main_arg9 : FVec F S64x32x1x1 .f32) (main_arg10 : FVec F S64 .f32) (main_arg11 : FVec F S64 .f32) (main_arg12 : FVec F S64 .f32) (main_arg13 : FVec F S512x64 .f32) (main_arg14 : FVec F S32x64x1x1 .f32) (main_arg15 : FVec F S32 .f32) (main_arg16 : FVec F S32 .f32) (main_arg17 : FVec F S32 .f32) (main_v29 : IVec S_ 1) (main_v32 : IVec S32 1) (main_c_12 : IVec S_ 1) : IVec S_ 1 :=
  let main_v33 : IVec S_ 1 := (fun x v => Host.reduce IntOp.andi x v reducesTo_S32_S_d0 h_S_) main_v32 main_c_12
  let main_v34 : IVec S_ 1 := andi main_v29 main_v33
  let main_v35 : FVec F S32 .f32 := Host.absf main_arg7
  let main_cst_13 : FVec F S_ .f32 := constant S_ .f32 0x7F800000#32
  let main_v36 : FVec F S32 .f32 := broadcastInDim S32 ![] bcast_S_S32 main_cst_13
  let main_v37 : IVec S32 1 := cmpf .olt main_v35 main_v36
  let main_c_14 : IVec S_ 1 := constantI S_ 1 1#1
  let main_v38 : IVec S_ 1 := (fun x v => Host.reduce IntOp.andi x v reducesTo_S32_S_d0 h_S_) main_v37 main_c_14
  let main_v39 : IVec S_ 1 := andi main_v34 main_v38
  let main_v40 : FVec F S32 .f32 := Host.absf main_arg8
  let main_cst_15 : FVec F S_ .f32 := constant S_ .f32 0x7F800000#32
  let main_v41 : FVec F S32 .f32 := broadcastInDim S32 ![] bcast_S_S32 main_cst_15
  let main_v42 : IVec S32 1 := cmpf .olt main_v40 main_v41
  let main_c_16 : IVec S_ 1 := constantI S_ 1 1#1
  let main_v43 : IVec S_ 1 := (fun x v => Host.reduce IntOp.andi x v reducesTo_S32_S_d0 h_S_) main_v42 main_c_16
  let main_v44 : IVec S_ 1 := andi main_v39 main_v43
  let main_v45 : FVec F S64x32x1x1 .f32 := Host.absf main_arg9
  let main_cst_17 : FVec F S_ .f32 := constant S_ .f32 0x7F800000#32
  let main_v46 : FVec F S64x32x1x1 .f32 := broadcastInDim S64x32x1x1 ![] bcast_S_S64x32x1x1 main_cst_17
  let main_v47 : IVec S64x32x1x1 1 := cmpf .olt main_v45 main_v46
  let main_c_18 : IVec S_ 1 := constantI S_ 1 1#1
  let main_v48 : IVec S_ 1 := (fun x v => Host.reduce IntOp.andi x v reducesTo_S64x32x1x1_S_d0_1_2_3 h_S_) main_v47 main_c_18
  let main_v49 : IVec S_ 1 := andi main_v44 main_v48
  let main_v50 : FVec F S64 .f32 := Host.absf main_arg10
  fn_part3 (F := F) main_arg11 main_arg12 main_arg13 main_arg14 main_arg15 main_arg16 main_arg17 main_v49 main_v50

def fn_part1 {F : FTy → Type} [FloatOps F] (main_arg4 : FVec F S16 .f32) (main_arg5 : FVec F S32x16x4x4 .f32) (main_arg6 : FVec F S32 .f32) (main_arg7 : FVec F S32 .f32) (main_arg8 : FVec F S32 .f32) (main_arg9 : FVec F S64x32x1x1 .f32) (main_arg10 : FVec F S64 .f32) (main_arg11 : FVec F S64 .f32) (main_arg12 : FVec F S64 .f32) (main_arg13 : FVec F S512x64 .f32) (main_arg14 : FVec F S32x64x1x1 .f32) (main_arg15 : FVec F S32 .f32) (main_arg16 : FVec F S32 .f32) (main_arg17 : FVec F S32 .f32) (main_v14 : IVec S_ 1) (main_v15 : FVec F S16 .f32) (main_cst_5 : FVec F S_ .f32) : IVec S_ 1 :=
  let main_v16 : FVec F S16 .f32 := broadcastInDim S16 ![] bcast_S_S16 main_cst_5
  let main_v17 : IVec S16 1 := cmpf .olt main_v15 main_v16
  let main_c_6 : IVec S_ 1 := constantI S_ 1 1#1
  let main_v18 : IVec S_ 1 := (fun x v => Host.reduce IntOp.andi x v reducesTo_S16_S_d0 h_S_) main_v17 main_c_6
  let main_v19 : IVec S_ 1 := andi main_v14 main_v18
  let main_v20 : FVec F S16 .f32 := Host.absf main_arg4
  let main_cst_7 : FVec F S_ .f32 := constant S_ .f32 0x7F800000#32
  let main_v21 : FVec F S16 .f32 := broadcastInDim S16 ![] bcast_S_S16 main_cst_7
  let main_v22 : IVec S16 1 := cmpf .olt main_v20 main_v21
  let main_c_8 : IVec S_ 1 := constantI S_ 1 1#1
  let main_v23 : IVec S_ 1 := (fun x v => Host.reduce IntOp.andi x v reducesTo_S16_S_d0 h_S_) main_v22 main_c_8
  let main_v24 : IVec S_ 1 := andi main_v19 main_v23
  let main_v25 : FVec F S32x16x4x4 .f32 := Host.absf main_arg5
  let main_cst_9 : FVec F S_ .f32 := constant S_ .f32 0x7F800000#32
  let main_v26 : FVec F S32x16x4x4 .f32 := broadcastInDim S32x16x4x4 ![] bcast_S_S32x16x4x4 main_cst_9
  let main_v27 : IVec S32x16x4x4 1 := cmpf .olt main_v25 main_v26
  let main_c_10 : IVec S_ 1 := constantI S_ 1 1#1
  let main_v28 : IVec S_ 1 := (fun x v => Host.reduce IntOp.andi x v reducesTo_S32x16x4x4_S_d0_1_2_3 h_S_) main_v27 main_c_10
  let main_v29 : IVec S_ 1 := andi main_v24 main_v28
  let main_v30 : FVec F S32 .f32 := Host.absf main_arg6
  let main_cst_11 : FVec F S_ .f32 := constant S_ .f32 0x7F800000#32
  let main_v31 : FVec F S32 .f32 := broadcastInDim S32 ![] bcast_S_S32 main_cst_11
  let main_v32 : IVec S32 1 := cmpf .olt main_v30 main_v31
  let main_c_12 : IVec S_ 1 := constantI S_ 1 1#1
  fn_part2 (F := F) main_arg7 main_arg8 main_arg9 main_arg10 main_arg11 main_arg12 main_arg13 main_arg14 main_arg15 main_arg16 main_arg17 main_v29 main_v32 main_c_12

def fn {F : FTy → Type} [FloatOps F] (main_arg0 : FVec F S2x1x224x224 .f32) (main_arg1 : FVec F S16x1x4x4 .f32) (main_arg2 : FVec F S16 .f32) (main_arg3 : FVec F S16 .f32) (main_arg4 : FVec F S16 .f32) (main_arg5 : FVec F S32x16x4x4 .f32) (main_arg6 : FVec F S32 .f32) (main_arg7 : FVec F S32 .f32) (main_arg8 : FVec F S32 .f32) (main_arg9 : FVec F S64x32x1x1 .f32) (main_arg10 : FVec F S64 .f32) (main_arg11 : FVec F S64 .f32) (main_arg12 : FVec F S64 .f32) (main_arg13 : FVec F S512x64 .f32) (main_arg14 : FVec F S32x64x1x1 .f32) (main_arg15 : FVec F S32 .f32) (main_arg16 : FVec F S32 .f32) (main_arg17 : FVec F S32 .f32) : IVec S_ 1 :=
  let main_v0 : FVec F S2x1x224x224 .f32 := Host.absf main_arg0
  let main_cst : FVec F S_ .f32 := constant S_ .f32 0x7F800000#32
  let main_v1 : FVec F S2x1x224x224 .f32 := broadcastInDim S2x1x224x224 ![] bcast_S_S2x1x224x224 main_cst
  let main_v2 : IVec S2x1x224x224 1 := cmpf .olt main_v0 main_v1
  let main_c : IVec S_ 1 := constantI S_ 1 1#1
  let main_v3 : IVec S_ 1 := (fun x v => Host.reduce IntOp.andi x v reducesTo_S2x1x224x224_S_d0_1_2_3 h_S_) main_v2 main_c
  let main_c_0 : IVec S_ 1 := constantI S_ 1 1#1
  let main_v4 : IVec S_ 1 := andi main_c_0 main_v3
  let main_v5 : FVec F S16x1x4x4 .f32 := Host.absf main_arg1
  let main_cst_1 : FVec F S_ .f32 := constant S_ .f32 0x7F800000#32
  let main_v6 : FVec F S16x1x4x4 .f32 := broadcastInDim S16x1x4x4 ![] bcast_S_S16x1x4x4 main_cst_1
  let main_v7 : IVec S16x1x4x4 1 := cmpf .olt main_v5 main_v6
  let main_c_2 : IVec S_ 1 := constantI S_ 1 1#1
  let main_v8 : IVec S_ 1 := (fun x v => Host.reduce IntOp.andi x v reducesTo_S16x1x4x4_S_d0_1_2_3 h_S_) main_v7 main_c_2
  let main_v9 : IVec S_ 1 := andi main_v4 main_v8
  let main_v10 : FVec F S16 .f32 := Host.absf main_arg2
  let main_cst_3 : FVec F S_ .f32 := constant S_ .f32 0x7F800000#32
  let main_v11 : FVec F S16 .f32 := broadcastInDim S16 ![] bcast_S_S16 main_cst_3
  let main_v12 : IVec S16 1 := cmpf .olt main_v10 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v9 main_v13
  let main_v15 : FVec F S16 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_v14 main_v15 main_cst_5
-- ==== Pre_finite3.lean ====
abbrev S6272x32 : Shape := ⟨2, ![6272, 32]⟩
abbrev S32x16x4x4 : Shape := ⟨4, ![32, 16, 4, 4]⟩
abbrev S16 : Shape := ⟨1, ![16]⟩
abbrev S_ : Shape := ⟨0, ![]⟩

class Facts : Prop where
  bcast_S_S6272x32 : S_.BroadcastsInDim S6272x32 (![] : Fin 0 → Fin S6272x32.rank)
  reducesTo_S6272x32_S_d0_1 : S6272x32.ReducesTo [0, 1] S_
  h_S_ : 0 < S_.numel
  bcast_S_S32x16x4x4 : S_.BroadcastsInDim S32x16x4x4 (![] : Fin 0 → Fin S32x16x4x4.rank)
  reducesTo_S32x16x4x4_S_d0_1_2_3 : S32x16x4x4.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v14 : IVec S_ 1) (main_v15 : FVec F S16 .f32) (main_cst_5 : FVec F S_ .f32) : IVec S_ 1 :=
  let main_v16 : FVec F S16 .f32 := broadcastInDim S16 ![] bcast_S_S16 main_cst_5
  let main_v17 : IVec S16 1 := cmpf .olt main_v15 main_v16
  let main_c_6 : IVec S_ 1 := constantI S_ 1 1#1
  let main_v18 : IVec S_ 1 := (fun x v => Host.reduce IntOp.andi x v reducesTo_S16_S_d0 h_S_) main_v17 main_c_6
  let main_v19 : IVec S_ 1 := andi main_v14 main_v18
  let main_v20 : FVec F S16 .f32 := Host.absf main_arg4
  let main_cst_7 : FVec F S_ .f32 := constant S_ .f32 0x7F800000#32
  let main_v21 : FVec F S16 .f32 := broadcastInDim S16 ![] bcast_S_S16 main_cst_7
  let main_v22 : IVec S16 1 := cmpf .olt main_v20 main_v21
  let main_c_8 : IVec S_ 1 := constantI S_ 1 1#1
  let main_v23 : IVec S_ 1 := (fun x v => Host.reduce IntOp.andi x v reducesTo_S16_S_d0 h_S_) main_v22 main_c_8
  let main_v24 : IVec S_ 1 := andi main_v19 main_v23
  main_v24

def fn {F : FTy → Type} [FloatOps F] (main_arg0 : FVec F S6272x32 .f32) (main_arg1 : FVec F S32x16x4x4 .f32) (main_arg2 : FVec F S16 .f32) (main_arg3 : FVec F S16 .f32) (main_arg4 : FVec F S16 .f32) : IVec S_ 1 :=
  let main_v0 : FVec F S6272x32 .f32 := Host.absf main_arg0
  let main_cst : FVec F S_ .f32 := constant S_ .f32 0x7F800000#32
  let main_v1 : FVec F S6272x32 .f32 := broadcastInDim S6272x32 ![] bcast_S_S6272x32 main_cst
  let main_v2 : IVec S6272x32 1 := cmpf .olt main_v0 main_v1
  let main_c : IVec S_ 1 := constantI S_ 1 1#1
  let main_v3 : IVec S_ 1 := (fun x v => Host.reduce IntOp.andi x v reducesTo_S6272x32_S_d0_1 h_S_) main_v2 main_c
  let main_c_0 : IVec S_ 1 := constantI S_ 1 1#1
  let main_v4 : IVec S_ 1 := andi main_c_0 main_v3
  let main_v5 : FVec F S32x16x4x4 .f32 := Host.absf main_arg1
  let main_cst_1 : FVec F S_ .f32 := constant S_ .f32 0x7F800000#32
  let main_v6 : FVec F S32x16x4x4 .f32 := broadcastInDim S32x16x4x4 ![] bcast_S_S32x16x4x4 main_cst_1
  let main_v7 : IVec S32x16x4x4 1 := cmpf .olt main_v5 main_v6
  let main_c_2 : IVec S_ 1 := constantI S_ 1 1#1
  let main_v8 : IVec S_ 1 := (fun x v => Host.reduce IntOp.andi x v reducesTo_S32x16x4x4_S_d0_1_2_3 h_S_) main_v7 main_c_2
  let main_v9 : IVec S_ 1 := andi main_v4 main_v8
  let main_v10 : FVec F S16 .f32 := Host.absf main_arg2
  let main_cst_3 : FVec F S_ .f32 := constant S_ .f32 0x7F800000#32
  let main_v11 : FVec F S16 .f32 := broadcastInDim S16 ![] bcast_S_S16 main_cst_3
  let main_v12 : IVec S16 1 := cmpf .olt main_v10 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v9 main_v13
  let main_v15 : FVec F S16 .f32 := Host.absf main_arg3
  let main_cst_5 : FVec F S_ .f32 := constant S_ .f32 0x7F800000#32
  fn_part1 (F := F) main_arg4 main_v14 main_v15 main_cst_5
-- ==== Kernel.lean ====
abbrev S2x1x224x224 : Shape := ⟨4, ![2, 1, 224, 224]⟩
abbrev S16x1x4x4 : Shape := ⟨4, ![16, 1, 4, 4]⟩
abbrev S16 : Shape := ⟨1, ![16]⟩
abbrev S32x16x4x4 : Shape := ⟨4, ![32, 16, 4, 4]⟩
abbrev S32 : Shape := ⟨1, ![32]⟩
abbrev S64x32x1x1 : Shape := ⟨4, ![64, 32, 1, 1]⟩
abbrev S64 : Shape := ⟨1, ![64]⟩
abbrev S512x64 : Shape := ⟨2, ![512, 64]⟩
abbrev S32x64x1x1 : Shape := ⟨4, ![32, 64, 1, 1]⟩
abbrev S2x224x224 : Shape := ⟨3, ![2, 224, 224]⟩
abbrev S_ : Shape := ⟨0, ![]⟩
abbrev S2x226x226 : Shape := ⟨3, ![2, 226, 226]⟩
abbrev S2x112x112 : Shape := ⟨3, ![2, 112, 112]⟩
abbrev S2x112x112x1 : Shape := ⟨4, ![2, 112, 112, 1]⟩
abbrev S2x112x112x16 : Shape := ⟨4, ![2, 112, 112, 16]⟩
abbrev S3136x128 : Shape := ⟨2, ![3136, 128]⟩
abbrev S16x16 : Shape := ⟨2, ![16, 16]⟩
abbrev S16x128 : Shape := ⟨2, ![16, 128]⟩
abbrev S128x128 : Shape := ⟨2, ![128, 128]⟩
abbrev S1x16 : Shape := ⟨2, ![1, 16]⟩
abbrev S128 : Shape := ⟨1, ![128]⟩
abbrev S1x128 : Shape := ⟨2, ![1, 128]⟩
abbrev S2x114x114x16 : Shape := ⟨4, ![2, 114, 114, 16]⟩
abbrev S2x56x56x16 : Shape := ⟨4, ![2, 56, 56, 16]⟩
abbrev S2x56x56x256 : Shape := ⟨4, ![2, 56, 56, 256]⟩
abbrev S6272x256 : Shape := ⟨2, ![6272, 256]⟩
abbrev S4x4x16x32 : Shape := ⟨4, ![4, 4, 16, 32]⟩
abbrev S256x32 : Shape := ⟨2, ![256, 32]⟩
abbrev S1x32 : Shape := ⟨2, ![1, 32]⟩
abbrev S6272x32 : Shape := ⟨2, ![6272, 32]⟩
abbrev S64x32 : Shape := ⟨2, ![64, 32]⟩
abbrev S32x64 : Shape := ⟨2, ![32, 64]⟩
abbrev S1x64 : Shape := ⟨2, ![1, 64]⟩
abbrev S64x512 : Shape := ⟨2, ![64, 512]⟩
abbrev S6272x64 : Shape := ⟨2, ![6272, 64]⟩
abbrev S512 : Shape := ⟨1, ![512]⟩
abbrev S1x512 : Shape := ⟨2, ![1, 512]⟩
abbrev S784x64 : Shape := ⟨2, ![784, 64]⟩
abbrev S784x512 : Shape := ⟨2, ![784, 512]⟩
abbrev S784 : Shape := ⟨1, ![784]⟩
abbrev S784x1 : Shape := ⟨2, ![784, 1]⟩
abbrev S784x32 : Shape := ⟨2, ![784, 32]⟩
abbrev S2x56x56x64 : Shape := ⟨4, ![2, 56, 56, 64]⟩
abbrev S2x64x56x56 : Shape := ⟨4, ![2, 64, 56, 56]⟩

abbrev nBuf : Space → Nat
  | .hbm => 121
  | .vmem => 22
  | .smem => 0
  | _ => 0

abbrev bufTy : (tb : Table) → Fin (tcTables nBuf tb) → BufTy
  | .hbm, ⟨0, _⟩ => ⟨S2x1x224x224, .f32⟩
  | .hbm, ⟨1, _⟩ => ⟨S16x1x4x4, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S32x16x4x4, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S64x32x1x1, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S512x64, .f32⟩
  | .hbm, ⟨14, _⟩ => ⟨S32x64x1x1, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S2x224x224, .f32⟩
  | .hbm, ⟨19, _⟩ => ⟨S_, .i32⟩
  | .hbm, ⟨20, _⟩ => ⟨S_, .f32⟩
  | .hbm, ⟨21, _⟩ => ⟨S2x226x226, .f32⟩
  | .hbm, ⟨22, _⟩ => ⟨S2x112x112, .f32⟩
  | .hbm, ⟨23, _⟩ => ⟨S2x112x112, .f32⟩
  | .hbm, ⟨24, _⟩ => ⟨S2x112x112, .f32⟩
  | .hbm, ⟨25, _⟩ => ⟨S2x112x112, .f32⟩
  | .hbm, ⟨26, _⟩ => ⟨S2x112x112, .f32⟩
  | .hbm, ⟨27, _⟩ => ⟨S2x112x112, .f32⟩
  | .hbm, ⟨28, _⟩ => ⟨S2x112x112, .f32⟩
  | .hbm, ⟨29, _⟩ => ⟨S2x112x112, .f32⟩
  | .hbm, ⟨30, _⟩ => ⟨S2x112x112, .f32⟩
  | .hbm, ⟨31, _⟩ => ⟨S2x112x112, .f32⟩
  | .hbm, ⟨32, _⟩ => ⟨S2x112x112, .f32⟩
  | .hbm, ⟨33, _⟩ => ⟨S2x112x112, .f32⟩
  | .hbm, ⟨34, _⟩ => ⟨S2x112x112, .f32⟩
  | .hbm, ⟨35, _⟩ => ⟨S2x112x112, .f32⟩
  | .hbm, ⟨36, _⟩ => ⟨S2x112x112, .f32⟩
  | .hbm, ⟨37, _⟩ => ⟨S2x112x112, .f32⟩
  | .hbm, ⟨38, _⟩ => ⟨S2x112x112x1, .f32⟩
  | .hbm, ⟨39, _⟩ => ⟨S2x112x112x1, .f32⟩
  | .hbm, ⟨40, _⟩ => ⟨S2x112x112x1, .f32⟩
  | .hbm, ⟨41, _⟩ => ⟨S2x112x112x1, .f32⟩
  | .hbm, ⟨42, _⟩ => ⟨S2x112x112x1, .f32⟩
  | .hbm, ⟨43, _⟩ => ⟨S2x112x112x1, .f32⟩
  | .hbm, ⟨44, _⟩ => ⟨S2x112x112x1, .f32⟩
  | .hbm, ⟨45, _⟩ => ⟨S2x112x112x1, .f32⟩
  | .hbm, ⟨46, _⟩ => ⟨S2x112x112x1, .f32⟩
  | .hbm, ⟨47, _⟩ => ⟨S2x112x112x1, .f32⟩
  | .hbm, ⟨48, _⟩ => ⟨S2x112x112x1, .f32⟩
  | .hbm, ⟨49, _⟩ => ⟨S2x112x112x1, .f32⟩
  | .hbm, ⟨50, _⟩ => ⟨S2x112x112x1, .f32⟩
  | .hbm, ⟨51, _⟩ => ⟨S2x112x112x1, .f32⟩
  | .hbm, ⟨52, _⟩ => ⟨S2x112x112x1, .f32⟩
  | .hbm, ⟨53, _⟩ => ⟨S2x112x112x1, .f32⟩
  | .hbm, ⟨54, _⟩ => ⟨S2x112x112x16, .f32⟩
  | .hbm, ⟨55, _⟩ => ⟨S3136x128, .f32⟩
  | .hbm, ⟨56, _⟩ => ⟨S16x16, .f32⟩
  | .hbm, ⟨57, _⟩ => ⟨S16x16, .f32⟩
  | .hbm, ⟨58, _⟩ => ⟨S_, .f32⟩
  | .hbm, ⟨59, _⟩ => ⟨S16x128, .f32⟩
  | .hbm, ⟨60, _⟩ => ⟨S_, .f32⟩
  | .hbm, ⟨61, _⟩ => ⟨S16x128, .f32⟩
  | .hbm, ⟨62, _⟩ => ⟨S_, .f32⟩
  | .hbm, ⟨63, _⟩ => ⟨S16x128, .f32⟩
  | .hbm, ⟨64, _⟩ => ⟨S_, .f32⟩
  | .hbm, ⟨65, _⟩ => ⟨S16x128, .f32⟩
  | .hbm, ⟨66, _⟩ => ⟨S_, .f32⟩
  | .hbm, ⟨67, _⟩ => ⟨S16x128, .f32⟩
  | .hbm, ⟨68, _⟩ => ⟨S_, .f32⟩
  | .hbm, ⟨69, _⟩ => ⟨S16x128, .f32⟩
  | .hbm, ⟨70, _⟩ => ⟨S_, .f32⟩
  | .hbm, ⟨71, _⟩ => ⟨S16x128, .f32⟩
  | .hbm, ⟨72, _⟩ => ⟨S_, .f32⟩
  | .hbm, ⟨73, _⟩ => ⟨S16x128, .f32⟩
  | .hbm, ⟨74, _⟩ => ⟨S128x128, .f32⟩
  | .hbm, ⟨75, _⟩ => ⟨S1x16, .f32⟩
  | .hbm, ⟨76, _⟩ => ⟨S1x16, .f32⟩
  | .hbm, ⟨77, _⟩ => ⟨S3136x128, .f32⟩
  | .hbm, ⟨78, _⟩ => ⟨S2x112x112x16, .f32⟩
  | .hbm, ⟨79, _⟩ => ⟨S_, .i32⟩
  | .hbm, ⟨80, _⟩ => ⟨S_, .f32⟩
  | .hbm, ⟨81, _⟩ => ⟨S2x114x114x16, .f32⟩
  | .hbm, ⟨82, _⟩ => ⟨S2x56x56x16, .f32⟩
  | .hbm, ⟨83, _⟩ => ⟨S2x56x56x16, .f32⟩
  | .hbm, ⟨84, _⟩ => ⟨S2x56x56x16, .f32⟩
  | .hbm, ⟨85, _⟩ => ⟨S2x56x56x16, .f32⟩
  | .hbm, ⟨86, _⟩ => ⟨S2x56x56x16, .f32⟩
  | .hbm, ⟨87, _⟩ => ⟨S2x56x56x16, .f32⟩
  | .hbm, ⟨88, _⟩ => ⟨S2x56x56x16, .f32⟩
  | .hbm, ⟨89, _⟩ => ⟨S2x56x56x16, .f32⟩
  | .hbm, ⟨90, _⟩ => ⟨S2x56x56x16, .f32⟩
  | .hbm, ⟨91, _⟩ => ⟨S2x56x56x16, .f32⟩
  | .hbm, ⟨92, _⟩ => ⟨S2x56x56x16, .f32⟩
  | .hbm, ⟨93, _⟩ => ⟨S2x56x56x16, .f32⟩
  | .hbm, ⟨94, _⟩ => ⟨S2x56x56x16, .f32⟩
  | .hbm, ⟨95, _⟩ => ⟨S2x56x56x16, .f32⟩
  | .hbm, ⟨96, _⟩ => ⟨S2x56x56x16, .f32⟩
  | .hbm, ⟨97, _⟩ => ⟨S2x56x56x16, .f32⟩
  | .hbm, ⟨98, _⟩ => ⟨S2x56x56x256, .f32⟩
  | .hbm, ⟨99, _⟩ => ⟨S6272x256, .f32⟩
  | .hbm, ⟨100, _⟩ => ⟨S4x4x16x32, .f32⟩
  | .hbm, ⟨101, _⟩ => ⟨S256x32, .f32⟩
  | .hbm, ⟨102, _⟩ => ⟨S1x32, .f32⟩
  | .hbm, ⟨103, _⟩ => ⟨S1x32, .f32⟩
  | .hbm, ⟨104, _⟩ => ⟨S6272x32, .f32⟩
  | .hbm, ⟨105, _⟩ => ⟨S64x32, .f32⟩
  | .hbm, ⟨106, _⟩ => ⟨S32x64, .f32⟩
  | .hbm, ⟨107, _⟩ => ⟨S32x64, .f32⟩
  | .hbm, ⟨108, _⟩ => ⟨S64x32, .f32⟩
  | .hbm, ⟨109, _⟩ => ⟨S1x64, .f32⟩
  | .hbm, ⟨110, _⟩ => ⟨S1x64, .f32⟩
  | .hbm, ⟨111, _⟩ => ⟨S64x512, .f32⟩
  | .hbm, ⟨112, _⟩ => ⟨S1x32, .f32⟩
  | .hbm, ⟨113, _⟩ => ⟨S1x32, .f32⟩
  | .hbm, ⟨114, _⟩ => ⟨S6272x64, .f32⟩
  | .hbm, ⟨115, _⟩ => ⟨S6272x64, .f32⟩
  | .hbm, ⟨116, _⟩ => ⟨S6272x32, .f32⟩
  | .hbm, ⟨117, _⟩ => ⟨S2x56x56x64, .f32⟩
  | .hbm, ⟨118, _⟩ => ⟨S2x64x56x56, .f32⟩
  | .hbm, ⟨119, _⟩ => ⟨S2x56x56x64, .f32⟩
  | .hbm, ⟨120, _⟩ => ⟨S2x64x56x56, .f32⟩
  | .local _ .vmem, ⟨0, _⟩ => ⟨S3136x128, .f32⟩
  | .local _ .vmem, ⟨1, _⟩ => ⟨S128x128, .f32⟩
  | .local _ .vmem, ⟨2, _⟩ => ⟨S1x16, .f32⟩
  | .local _ .vmem, ⟨3, _⟩ => ⟨S1x16, .f32⟩
  | .local _ .vmem, ⟨4, _⟩ => ⟨S3136x128, .f32⟩
  | .local _ .vmem, ⟨5, _⟩ => ⟨S6272x256, .f32⟩
  | .local _ .vmem, ⟨6, _⟩ => ⟨S256x32, .f32⟩
  | .local _ .vmem, ⟨7, _⟩ => ⟨S1x32, .f32⟩
  | .local _ .vmem, ⟨8, _⟩ => ⟨S1x32, .f32⟩
  | .local _ .vmem, ⟨9, _⟩ => ⟨S6272x32, .f32⟩
  | .local _ .vmem, ⟨10, _⟩ => ⟨S6272x32, .f32⟩
  | .local _ .vmem, ⟨11, _⟩ => ⟨S32x64, .f32⟩
  | .local _ .vmem, ⟨12, _⟩ => ⟨S1x64, .f32⟩
  | .local _ .vmem, ⟨13, _⟩ => ⟨S1x64, .f32⟩
  | .local _ .vmem, ⟨14, _⟩ => ⟨S512x64, .f32⟩
  | .local _ .vmem, ⟨15, _⟩ => ⟨S64x512, .f32⟩
  | .local _ .vmem, ⟨16, _⟩ => ⟨S64x32, .f32⟩
  | .local _ .vmem, ⟨17, _⟩ => ⟨S1x32, .f32⟩
  | .local _ .vmem, ⟨18, _⟩ => ⟨S1x32, .f32⟩
  | .local _ .vmem, ⟨19, _⟩ => ⟨S6272x64, .f32⟩
  | .local _ .vmem, ⟨20, _⟩ => ⟨S6272x64, .f32⟩
  | .local _ .vmem, ⟨21, _⟩ => ⟨S6272x32, .f32⟩
  | _, _ => ⟨S2x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_cst : Ref sig .tc := ⟨.hbm, 58, rfl⟩
abbrev main_call1_v8 : Ref sig .tc := ⟨.hbm, 59, rfl⟩
abbrev main_call1_cst_0 : Ref sig .tc := ⟨.hbm, 60, rfl⟩
abbrev main_call1_v9 : Ref sig .tc := ⟨.hbm, 61, rfl⟩
abbrev main_call1_cst_1 : Ref sig .tc := ⟨.hbm, 62, rfl⟩
abbrev main_call1_v10 : Ref sig .tc := ⟨.hbm, 63, rfl⟩
abbrev main_call1_cst_2 : Ref sig .tc := ⟨.hbm, 64, rfl⟩
abbrev main_call1_v11 : Ref sig .tc := ⟨.hbm, 65, rfl⟩
abbrev main_call1_cst_3 : Ref sig .tc := ⟨.hbm, 66, rfl⟩
abbrev main_call1_v12 : Ref sig .tc := ⟨.hbm, 67, rfl⟩
abbrev main_call1_cst_4 : Ref sig .tc := ⟨.hbm, 68, rfl⟩
abbrev main_call1_v13 : Ref sig .tc := ⟨.hbm, 69, rfl⟩
abbrev main_call1_cst_5 : Ref sig .tc := ⟨.hbm, 70, rfl⟩
abbrev main_call1_v14 : Ref sig .tc := ⟨.hbm, 71, rfl⟩
abbrev main_call1_cst_6 : Ref sig .tc := ⟨.hbm, 72, rfl⟩
abbrev main_call1_v15 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_0 : Ref sig .tc := ⟨.hbm, 79, rfl⟩
abbrev main_call2_v0 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76_0 : Ref sig .tc := ⟨.hbm, 114, rfl⟩
abbrev main_v76_1 : Ref sig .tc := ⟨.hbm, 115, rfl⟩
abbrev main_v76_2 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg11_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21

abbrev nD : Nat := 1
abbrev τ : Topo := Topo.v7x

variable {F : FTy → Type} [FloatOps F]

abbrev grid0 : Pipeline.Grid := .none

abbrev stage0_0 : Fin 1 → Memref sig .tc .vmem S3136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S6272x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S6272x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := .none

abbrev stage2_0 : Fin 1 → Memref sig .tc .vmem S6272x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S6272x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S6272x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S6272x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
-- ==== ReferenceIdeal.lean ====
abbrev S2x1x224x224 : Shape := ⟨4, ![2, 1, 224, 224]⟩
abbrev S16x1x4x4 : Shape := ⟨4, ![16, 1, 4, 4]⟩
abbrev S16 : Shape := ⟨1, ![16]⟩
abbrev S32x16x4x4 : Shape := ⟨4, ![32, 16, 4, 4]⟩
abbrev S32 : Shape := ⟨1, ![32]⟩
abbrev S64x32x1x1 : Shape := ⟨4, ![64, 32, 1, 1]⟩
abbrev S64 : Shape := ⟨1, ![64]⟩
abbrev S512x64 : Shape := ⟨2, ![512, 64]⟩
abbrev S32x64x1x1 : Shape := ⟨4, ![32, 64, 1, 1]⟩
abbrev S_ : Shape := ⟨0, ![]⟩
abbrev S2x1x226x226 : Shape := ⟨4, ![2, 1, 226, 226]⟩
abbrev S2x1x112x112 : Shape := ⟨4, ![2, 1, 112, 112]⟩
abbrev S16x1x1x1 : Shape := ⟨4, ![16, 1, 1, 1]⟩
abbrev S16x1 : Shape := ⟨2, ![16, 1]⟩
abbrev S16x2x112x112 : Shape := ⟨4, ![16, 2, 112, 112]⟩
abbrev S2x16x112x112 : Shape := ⟨4, ![2, 16, 112, 112]⟩
abbrev S1x16x1x1 : Shape := ⟨4, ![1, 16, 1, 1]⟩
abbrev S2x16x114x114 : Shape := ⟨4, ![2, 16, 114, 114]⟩
abbrev S2x16x56x56 : Shape := ⟨4, ![2, 16, 56, 56]⟩
abbrev S32x16x1x1 : Shape := ⟨4, ![32, 16, 1, 1]⟩
abbrev S32x16 : Shape := ⟨2, ![32, 16]⟩
abbrev S32x2x56x56 : Shape := ⟨4, ![32, 2, 56, 56]⟩
abbrev S2x32x56x56 : Shape := ⟨4, ![2, 32, 56, 56]⟩
abbrev S1x32x1x1 : Shape := ⟨4, ![1, 32, 1, 1]⟩
abbrev S64x32 : Shape := ⟨2, ![64, 32]⟩
abbrev S64x2x56x56 : Shape := ⟨4, ![64, 2, 56, 56]⟩
abbrev S2x64x56x56 : Shape := ⟨4, ![2, 64, 56, 56]⟩
abbrev S1x64x1x1 : Shape := ⟨4, ![1, 64, 1, 1]⟩
abbrev S2x1x64x56x56 : Shape := ⟨5, ![2, 1, 64, 56, 56]⟩
abbrev S1x512x64x1x1 : Shape := ⟨5, ![1, 512, 64, 1, 1]⟩
abbrev S2x512x64x56x56 : Shape := ⟨5, ![2, 512, 64, 56, 56]⟩
abbrev S2x512x56x56 : Shape := ⟨4, ![2, 512, 56, 56]⟩
abbrev S2x56x56 : Shape := ⟨3, ![2, 56, 56]⟩
abbrev S2x56x56x1 : Shape := ⟨4, ![2, 56, 56, 1]⟩
abbrev S2x56x56x64 : Shape := ⟨4, ![2, 56, 56, 64]⟩
abbrev S32x64 : Shape := ⟨2, ![32, 64]⟩
abbrev S2x56x56x32 : Shape := ⟨4, ![2, 56, 56, 32]⟩
abbrev S6272x32 : Shape := ⟨2, ![6272, 32]⟩

abbrev nBuf : Space → Nat
  | .hbm => 389
  | .vmem => 0
  | .smem => 0
  | _ => 0

abbrev hbmTy0_0 (i : Nat) : BufTy := match i % 128 with
  | 0 => ⟨S2x1x224x224, .f32⟩
  | 1 => ⟨S16x1x4x4, .f32⟩
  | 2 => ⟨S16, .f32⟩
  | 3 => ⟨S16, .f32⟩
  | 4 => ⟨S16, .f32⟩
  | 5 => ⟨S32x16x4x4, .f32⟩
  | 6 => ⟨S32, .f32⟩
  | 7 => ⟨S32, .f32⟩
  | 8 => ⟨S32, .f32⟩
  | 9 => ⟨S64x32x1x1, .f32⟩
  | 10 => ⟨S64, .f32⟩
  | 11 => ⟨S64, .f32⟩
  | 12 => ⟨S64, .f32⟩
  | 13 => ⟨S512x64, .f32⟩
  | 14 => ⟨S32x64x1x1, .f32⟩
  | 15 => ⟨S32, .f32⟩
  | 16 => ⟨S32, .f32⟩
  | 17 => ⟨S32, .f32⟩
  | 18 => ⟨S_, .f32⟩
  | 19 => ⟨S2x1x226x226, .f32⟩
  | 20 => ⟨S2x1x112x112, .f32⟩
  | 21 => ⟨S16x1x1x1, .f32⟩
  | 22 => ⟨S16x1, .f32⟩
  | 23 => ⟨S16x2x112x112, .f32⟩
  | 24 => ⟨S2x16x112x112, .f32⟩
  | 25 => ⟨S_, .f32⟩
  | 26 => ⟨S2x16x112x112, .f32⟩
  | 27 => ⟨S2x16x112x112, .f32⟩
  | 28 => ⟨S2x1x112x112, .f32⟩
  | 29 => ⟨S16x1x1x1, .f32⟩
  | 30 => ⟨S16x1, .f32⟩
  | 31 => ⟨S16x2x112x112, .f32⟩
  | 32 => ⟨S2x16x112x112, .f32⟩
  | 33 => ⟨S2x16x112x112, .f32⟩
  | 34 => ⟨S2x1x112x112, .f32⟩
  | 35 => ⟨S16x1x1x1, .f32⟩
  | 36 => ⟨S16x1, .f32⟩
  | 37 => ⟨S16x2x112x112, .f32⟩
  | 38 => ⟨S2x16x112x112, .f32⟩
  | 39 => ⟨S2x16x112x112, .f32⟩
  | 40 => ⟨S2x1x112x112, .f32⟩
  | 41 => ⟨S16x1x1x1, .f32⟩
  | 42 => ⟨S16x1, .f32⟩
  | 43 => ⟨S16x2x112x112, .f32⟩
  | 44 => ⟨S2x16x112x112, .f32⟩
  | 45 => ⟨S2x16x112x112, .f32⟩
  | 46 => ⟨S2x1x112x112, .f32⟩
  | 47 => ⟨S16x1x1x1, .f32⟩
  | 48 => ⟨S16x1, .f32⟩
  | 49 => ⟨S16x2x112x112, .f32⟩
  | 50 => ⟨S2x16x112x112, .f32⟩
  | 51 => ⟨S2x16x112x112, .f32⟩
  | 52 => ⟨S2x1x112x112, .f32⟩
  | 53 => ⟨S16x1x1x1, .f32⟩
  | 54 => ⟨S16x1, .f32⟩
  | 55 => ⟨S16x2x112x112, .f32⟩
  | 56 => ⟨S2x16x112x112, .f32⟩
  | 57 => ⟨S2x16x112x112, .f32⟩
  | 58 => ⟨S2x1x112x112, .f32⟩
  | 59 => ⟨S16x1x1x1, .f32⟩
  | 60 => ⟨S16x1, .f32⟩
  | 61 => ⟨S16x2x112x112, .f32⟩
  | 62 => ⟨S2x16x112x112, .f32⟩
  | 63 => ⟨S2x16x112x112, .f32⟩
  | 64 => ⟨S2x1x112x112, .f32⟩
  | 65 => ⟨S16x1x1x1, .f32⟩
  | 66 => ⟨S16x1, .f32⟩
  | 67 => ⟨S16x2x112x112, .f32⟩
  | 68 => ⟨S2x16x112x112, .f32⟩
  | 69 => ⟨S2x16x112x112, .f32⟩
  | 70 => ⟨S2x1x112x112, .f32⟩
  | 71 => ⟨S16x1x1x1, .f32⟩
  | 72 => ⟨S16x1, .f32⟩
  | 73 => ⟨S16x2x112x112, .f32⟩
  | 74 => ⟨S2x16x112x112, .f32⟩
  | 75 => ⟨S2x16x112x112, .f32⟩
  | 76 => ⟨S2x1x112x112, .f32⟩
  | 77 => ⟨S16x1x1x1, .f32⟩
  | 78 => ⟨S16x1, .f32⟩
  | 79 => ⟨S16x2x112x112, .f32⟩
  | 80 => ⟨S2x16x112x112, .f32⟩
  | 81 => ⟨S2x16x112x112, .f32⟩
  | 82 => ⟨S2x1x112x112, .f32⟩
  | 83 => ⟨S16x1x1x1, .f32⟩
  | 84 => ⟨S16x1, .f32⟩
  | 85 => ⟨S16x2x112x112, .f32⟩
  | 86 => ⟨S2x16x112x112, .f32⟩
  | 87 => ⟨S2x16x112x112, .f32⟩
  | 88 => ⟨S2x1x112x112, .f32⟩
  | 89 => ⟨S16x1x1x1, .f32⟩
  | 90 => ⟨S16x1, .f32⟩
  | 91 => ⟨S16x2x112x112, .f32⟩
  | 92 => ⟨S2x16x112x112, .f32⟩
  | 93 => ⟨S2x16x112x112, .f32⟩
  | 94 => ⟨S2x1x112x112, .f32⟩
  | 95 => ⟨S16x1x1x1, .f32⟩
  | 96 => ⟨S16x1, .f32⟩
  | 97 => ⟨S16x2x112x112, .f32⟩
  | 98 => ⟨S2x16x112x112, .f32⟩
  | 99 => ⟨S2x16x112x112, .f32⟩
  | 100 => ⟨S2x1x112x112, .f32⟩
  | 101 => ⟨S16x1x1x1, .f32⟩
  | 102 => ⟨S16x1, .f32⟩
  | 103 => ⟨S16x2x112x112, .f32⟩
  | 104 => ⟨S2x16x112x112, .f32⟩
  | 105 => ⟨S2x16x112x112, .f32⟩
  | 106 => ⟨S2x1x112x112, .f32⟩
  | 107 => ⟨S16x1x1x1, .f32⟩
  | 108 => ⟨S16x1, .f32⟩
  | 109 => ⟨S16x2x112x112, .f32⟩
  | 110 => ⟨S2x16x112x112, .f32⟩
  | 111 => ⟨S2x16x112x112, .f32⟩
  | 112 => ⟨S2x1x112x112, .f32⟩
  | 113 => ⟨S16x1x1x1, .f32⟩
  | 114 => ⟨S16x1, .f32⟩
  | 115 => ⟨S16x2x112x112, .f32⟩
  | 116 => ⟨S2x16x112x112, .f32⟩
  | 117 => ⟨S2x16x112x112, .f32⟩
  | 118 => ⟨S1x16x1x1, .f32⟩
  | 119 => ⟨S2x16x112x112, .f32⟩
  | 120 => ⟨S2x16x112x112, .f32⟩
  | 121 => ⟨S_, .f32⟩
  | 122 => ⟨S16, .f32⟩
  | 123 => ⟨S1x16x1x1, .f32⟩
  | 124 => ⟨S_, .f32⟩
  | 125 => ⟨S1x16x1x1, .f32⟩
  | 126 => ⟨S1x16x1x1, .f32⟩
  | 127 => ⟨S2x16x112x112, .f32⟩
  | _ => ⟨S2x1x224x224, .f32⟩

abbrev hbmTy0_1 (i : Nat) : BufTy := match i % 128 with
  | 0 => ⟨S2x16x112x112, .f32⟩
  | 1 => ⟨S2x16x112x112, .f32⟩
  | 2 => ⟨S_, .f32⟩
  | 3 => ⟨S16, .f32⟩
  | 4 => ⟨S1x16x1x1, .f32⟩
  | 5 => ⟨S_, .f32⟩
  | 6 => ⟨S1x16x1x1, .f32⟩
  | 7 => ⟨S1x16x1x1, .f32⟩
  | 8 => ⟨S2x16x112x112, .f32⟩
  | 9 => ⟨S2x16x112x112, .f32⟩
  | 10 => ⟨S_, .f32⟩
  | 11 => ⟨S1x16x1x1, .f32⟩
  | 12 => ⟨S1x16x1x1, .f32⟩
  | 13 => ⟨S1x16x1x1, .f32⟩
  | 14 => ⟨S2x16x112x112, .f32⟩
  | 15 => ⟨S2x16x112x112, .f32⟩
  | 16 => ⟨S1x16x1x1, .f32⟩
  | 17 => ⟨S2x16x112x112, .f32⟩
  | 18 => ⟨S2x16x112x112, .f32⟩
  | 19 => ⟨S1x16x1x1, .f32⟩
  | 20 => ⟨S2x16x112x112, .f32⟩
  | 21 => ⟨S2x16x112x112, .f32⟩
  | 22 => ⟨S_, .f32⟩
  | 23 => ⟨S2x16x112x112, .f32⟩
  | 24 => ⟨S2x16x112x112, .f32⟩
  | 25 => ⟨S_, .f32⟩
  | 26 => ⟨S2x16x114x114, .f32⟩
  | 27 => ⟨S2x16x56x56, .f32⟩
  | 28 => ⟨S32x16x1x1, .f32⟩
  | 29 => ⟨S32x16, .f32⟩
  | 30 => ⟨S32x2x56x56, .f32⟩
  | 31 => ⟨S2x32x56x56, .f32⟩
  | 32 => ⟨S_, .f32⟩
  | 33 => ⟨S2x32x56x56, .f32⟩
  | 34 => ⟨S2x32x56x56, .f32⟩
  | 35 => ⟨S2x16x56x56, .f32⟩
  | 36 => ⟨S32x16x1x1, .f32⟩
  | 37 => ⟨S32x16, .f32⟩
  | 38 => ⟨S32x2x56x56, .f32⟩
  | 39 => ⟨S2x32x56x56, .f32⟩
  | 40 => ⟨S2x32x56x56, .f32⟩
  | 41 => ⟨S2x16x56x56, .f32⟩
  | 42 => ⟨S32x16x1x1, .f32⟩
  | 43 => ⟨S32x16, .f32⟩
  | 44 => ⟨S32x2x56x56, .f32⟩
  | 45 => ⟨S2x32x56x56, .f32⟩
  | 46 => ⟨S2x32x56x56, .f32⟩
  | 47 => ⟨S2x16x56x56, .f32⟩
  | 48 => ⟨S32x16x1x1, .f32⟩
  | 49 => ⟨S32x16, .f32⟩
  | 50 => ⟨S32x2x56x56, .f32⟩
  | 51 => ⟨S2x32x56x56, .f32⟩
  | 52 => ⟨S2x32x56x56, .f32⟩
  | 53 => ⟨S2x16x56x56, .f32⟩
  | 54 => ⟨S32x16x1x1, .f32⟩
  | 55 => ⟨S32x16, .f32⟩
  | 56 => ⟨S32x2x56x56, .f32⟩
  | 57 => ⟨S2x32x56x56, .f32⟩
  | 58 => ⟨S2x32x56x56, .f32⟩
  | 59 => ⟨S2x16x56x56, .f32⟩
  | 60 => ⟨S32x16x1x1, .f32⟩
  | 61 => ⟨S32x16, .f32⟩
  | 62 => ⟨S32x2x56x56, .f32⟩
  | 63 => ⟨S2x32x56x56, .f32⟩
  | 64 => ⟨S2x32x56x56, .f32⟩
  | 65 => ⟨S2x16x56x56, .f32⟩
  | 66 => ⟨S32x16x1x1, .f32⟩
  | 67 => ⟨S32x16, .f32⟩
  | 68 => ⟨S32x2x56x56, .f32⟩
  | 69 => ⟨S2x32x56x56, .f32⟩
  | 70 => ⟨S2x32x56x56, .f32⟩
  | 71 => ⟨S2x16x56x56, .f32⟩
  | 72 => ⟨S32x16x1x1, .f32⟩
  | 73 => ⟨S32x16, .f32⟩
  | 74 => ⟨S32x2x56x56, .f32⟩
  | 75 => ⟨S2x32x56x56, .f32⟩
  | 76 => ⟨S2x32x56x56, .f32⟩
  | 77 => ⟨S2x16x56x56, .f32⟩
  | 78 => ⟨S32x16x1x1, .f32⟩
  | 79 => ⟨S32x16, .f32⟩
  | 80 => ⟨S32x2x56x56, .f32⟩
  | 81 => ⟨S2x32x56x56, .f32⟩
  | 82 => ⟨S2x32x56x56, .f32⟩
  | 83 => ⟨S2x16x56x56, .f32⟩
  | 84 => ⟨S32x16x1x1, .f32⟩
  | 85 => ⟨S32x16, .f32⟩
  | 86 => ⟨S32x2x56x56, .f32⟩
  | 87 => ⟨S2x32x56x56, .f32⟩
  | 88 => ⟨S2x32x56x56, .f32⟩
  | 89 => ⟨S2x16x56x56, .f32⟩
  | 90 => ⟨S32x16x1x1, .f32⟩
  | 91 => ⟨S32x16, .f32⟩
  | 92 => ⟨S32x2x56x56, .f32⟩
  | 93 => ⟨S2x32x56x56, .f32⟩
  | 94 => ⟨S2x32x56x56, .f32⟩
  | 95 => ⟨S2x16x56x56, .f32⟩
  | 96 => ⟨S32x16x1x1, .f32⟩
  | 97 => ⟨S32x16, .f32⟩
  | 98 => ⟨S32x2x56x56, .f32⟩
  | 99 => ⟨S2x32x56x56, .f32⟩
  | 100 => ⟨S2x32x56x56, .f32⟩
  | 101 => ⟨S2x16x56x56, .f32⟩
  | 102 => ⟨S32x16x1x1, .f32⟩
  | 103 => ⟨S32x16, .f32⟩
  | 104 => ⟨S32x2x56x56, .f32⟩
  | 105 => ⟨S2x32x56x56, .f32⟩
  | 106 => ⟨S2x32x56x56, .f32⟩
  | 107 => ⟨S2x16x56x56, .f32⟩
  | 108 => ⟨S32x16x1x1, .f32⟩
  | 109 => ⟨S32x16, .f32⟩
  | 110 => ⟨S32x2x56x56, .f32⟩
  | 111 => ⟨S2x32x56x56, .f32⟩
  | 112 => ⟨S2x32x56x56, .f32⟩
  | 113 => ⟨S2x16x56x56, .f32⟩
  | 114 => ⟨S32x16x1x1, .f32⟩
  | 115 => ⟨S32x16, .f32⟩
  | 116 => ⟨S32x2x56x56, .f32⟩
  | 117 => ⟨S2x32x56x56, .f32⟩
  | 118 => ⟨S2x32x56x56, .f32⟩
  | 119 => ⟨S2x16x56x56, .f32⟩
  | 120 => ⟨S32x16x1x1, .f32⟩
  | 121 => ⟨S32x16, .f32⟩
  | 122 => ⟨S32x2x56x56, .f32⟩
  | 123 => ⟨S2x32x56x56, .f32⟩
  | 124 => ⟨S2x32x56x56, .f32⟩
  | 125 => ⟨S1x32x1x1, .f32⟩
  | 126 => ⟨S2x32x56x56, .f32⟩
  | 127 => ⟨S2x32x56x56, .f32⟩
  | _ => ⟨S2x1x224x224, .f32⟩

abbrev hbmTy0_2 (i : Nat) : BufTy := match i % 128 with
  | 0 => ⟨S_, .f32⟩
  | 1 => ⟨S32, .f32⟩
  | 2 => ⟨S1x32x1x1, .f32⟩
  | 3 => ⟨S_, .f32⟩
  | 4 => ⟨S1x32x1x1, .f32⟩
  | 5 => ⟨S1x32x1x1, .f32⟩
  | 6 => ⟨S2x32x56x56, .f32⟩
  | 7 => ⟨S2x32x56x56, .f32⟩
  | 8 => ⟨S2x32x56x56, .f32⟩
  | 9 => ⟨S_, .f32⟩
  | 10 => ⟨S32, .f32⟩
  | 11 => ⟨S1x32x1x1, .f32⟩
  | 12 => ⟨S_, .f32⟩
  | 13 => ⟨S1x32x1x1, .f32⟩
  | 14 => ⟨S1x32x1x1, .f32⟩
  | 15 => ⟨S2x32x56x56, .f32⟩
  | 16 => ⟨S2x32x56x56, .f32⟩
  | 17 => ⟨S_, .f32⟩
  | 18 => ⟨S1x32x1x1, .f32⟩
  | 19 => ⟨S1x32x1x1, .f32⟩
  | 20 => ⟨S1x32x1x1, .f32⟩
  | 21 => ⟨S2x32x56x56, .f32⟩
  | 22 => ⟨S2x32x56x56, .f32⟩
  | 23 => ⟨S1x32x1x1, .f32⟩
  | 24 => ⟨S2x32x56x56, .f32⟩
  | 25 => ⟨S2x32x56x56, .f32⟩
  | 26 => ⟨S1x32x1x1, .f32⟩
  | 27 => ⟨S2x32x56x56, .f32⟩
  | 28 => ⟨S2x32x56x56, .f32⟩
  | 29 => ⟨S_, .f32⟩
  | 30 => ⟨S2x32x56x56, .f32⟩
  | 31 => ⟨S2x32x56x56, .f32⟩
  | 32 => ⟨S_, .f32⟩
  | 33 => ⟨S2x32x56x56, .f32⟩
  | 34 => ⟨S64x32, .f32⟩
  | 35 => ⟨S64x2x56x56, .f32⟩
  | 36 => ⟨S2x64x56x56, .f32⟩
  | 37 => ⟨S_, .f32⟩
  | 38 => ⟨S2x64x56x56, .f32⟩
  | 39 => ⟨S2x64x56x56, .f32⟩
  | 40 => ⟨S1x64x1x1, .f32⟩
  | 41 => ⟨S2x64x56x56, .f32⟩
  | 42 => ⟨S2x64x56x56, .f32⟩
  | 43 => ⟨S_, .f32⟩
  | 44 => ⟨S64, .f32⟩
  | 45 => ⟨S1x64x1x1, .f32⟩
  | 46 => ⟨S_, .f32⟩
  | 47 => ⟨S1x64x1x1, .f32⟩
  | 48 => ⟨S1x64x1x1, .f32⟩
  | 49 => ⟨S2x64x56x56, .f32⟩
  | 50 => ⟨S2x64x56x56, .f32⟩
  | 51 => ⟨S2x64x56x56, .f32⟩
  | 52 => ⟨S_, .f32⟩
  | 53 => ⟨S64, .f32⟩
  | 54 => ⟨S1x64x1x1, .f32⟩
  | 55 => ⟨S_, .f32⟩
  | 56 => ⟨S1x64x1x1, .f32⟩
  | 57 => ⟨S1x64x1x1, .f32⟩
  | 58 => ⟨S2x64x56x56, .f32⟩
  | 59 => ⟨S2x64x56x56, .f32⟩
  | 60 => ⟨S_, .f32⟩
  | 61 => ⟨S1x64x1x1, .f32⟩
  | 62 => ⟨S1x64x1x1, .f32⟩
  | 63 => ⟨S1x64x1x1, .f32⟩
  | 64 => ⟨S2x64x56x56, .f32⟩
  | 65 => ⟨S2x64x56x56, .f32⟩
  | 66 => ⟨S1x64x1x1, .f32⟩
  | 67 => ⟨S2x64x56x56, .f32⟩
  | 68 => ⟨S2x64x56x56, .f32⟩
  | 69 => ⟨S1x64x1x1, .f32⟩
  | 70 => ⟨S2x64x56x56, .f32⟩
  | 71 => ⟨S2x64x56x56, .f32⟩
  | 72 => ⟨S2x1x64x56x56, .f32⟩
  | 73 => ⟨S1x512x64x1x1, .f32⟩
  | 74 => ⟨S2x512x64x56x56, .f32⟩
  | 75 => ⟨S2x512x64x56x56, .f32⟩
  | 76 => ⟨S2x512x64x56x56, .f32⟩
  | 77 => ⟨S2x512x64x56x56, .f32⟩
  | 78 => ⟨S_, .f32⟩
  | 79 => ⟨S2x512x56x56, .f32⟩
  | 80 => ⟨S2x512x56x56, .i32⟩
  | 81 => ⟨S_, .f32⟩
  | 82 => ⟨S_, .i32⟩
  | 83 => ⟨S2x56x56, .f32⟩
  | 84 => ⟨S2x56x56, .i32⟩
  | 85 => ⟨S2x56x56x1, .i32⟩
  | 86 => ⟨S2x56x56x64, .f32⟩
  | 87 => ⟨S2x64x56x56, .f32⟩
  | 88 => ⟨S_, .f32⟩
  | 89 => ⟨S2x64x56x56, .f32⟩
  | 90 => ⟨S32x64, .f32⟩
  | 91 => ⟨S32x2x56x56, .f32⟩
  | 92 => ⟨S2x32x56x56, .f32⟩
  | 93 => ⟨S_, .f32⟩
  | 94 => ⟨S2x32x56x56, .f32⟩
  | 95 => ⟨S2x32x56x56, .f32⟩
  | 96 => ⟨S1x32x1x1, .f32⟩
  | 97 => ⟨S2x32x56x56, .f32⟩
  | 98 => ⟨S2x32x56x56, .f32⟩
  | 99 => ⟨S_, .f32⟩
  | 100 => ⟨S32, .f32⟩
  | 101 => ⟨S1x32x1x1, .f32⟩
  | 102 => ⟨S_, .f32⟩
  | 103 => ⟨S1x32x1x1, .f32⟩
  | 104 => ⟨S1x32x1x1, .f32⟩
  | 105 => ⟨S2x32x56x56, .f32⟩
  | 106 => ⟨S2x32x56x56, .f32⟩
  | 107 => ⟨S2x32x56x56, .f32⟩
  | 108 => ⟨S_, .f32⟩
  | 109 => ⟨S32, .f32⟩
  | 110 => ⟨S1x32x1x1, .f32⟩
  | 111 => ⟨S_, .f32⟩
  | 112 => ⟨S1x32x1x1, .f32⟩
  | 113 => ⟨S1x32x1x1, .f32⟩
  | 114 => ⟨S2x32x56x56, .f32⟩
  | 115 => ⟨S2x32x56x56, .f32⟩
  | 116 => ⟨S_, .f32⟩
  | 117 => ⟨S1x32x1x1, .f32⟩
  | 118 => ⟨S1x32x1x1, .f32⟩
  | 119 => ⟨S1x32x1x1, .f32⟩
  | 120 => ⟨S2x32x56x56, .f32⟩
  | 121 => ⟨S2x32x56x56, .f32⟩
  | 122 => ⟨S1x32x1x1, .f32⟩
  | 123 => ⟨S2x32x56x56, .f32⟩
  | 124 => ⟨S2x32x56x56, .f32⟩
  | 125 => ⟨S1x32x1x1, .f32⟩
  | 126 => ⟨S2x32x56x56, .f32⟩
  | 127 => ⟨S2x32x56x56, .f32⟩
  | _ => ⟨S2x1x224x224, .f32⟩

abbrev hbmTy0_3 (i : Nat) : BufTy := match i % 128 with
  | 0 => ⟨S_, .f32⟩
  | 1 => ⟨S2x32x56x56, .f32⟩
  | 2 => ⟨S2x32x56x56, .f32⟩
  | 3 => ⟨S2x56x56x32, .f32⟩
  | 4 => ⟨S6272x32, .f32⟩
  | _ => ⟨S2x1x224x224, .f32⟩

abbrev hbmTy (i : Nat) : BufTy := match i / 128 with
  | 0 => hbmTy0_0 i
  | 1 => hbmTy0_1 i
  | 2 => hbmTy0_2 i
  | 3 => hbmTy0_3 i
  | _ => ⟨S2x1x224x224, .f32⟩

abbrev bufTy : (tb : Table) → Fin (tcTables nBuf tb) → BufTy
  | .hbm, ⟨i, _⟩ => hbmTy i
  | _, _ => ⟨S2x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_1 : Ref sig .tc := ⟨.hbm, 121, rfl⟩
abbrev main_v101 : Ref sig .tc := ⟨.hbm, 122, rfl⟩
abbrev main_v102 : Ref sig .tc := ⟨.hbm, 123, rfl⟩
abbrev main_cst_2 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_3 : Ref sig .tc := ⟨.hbm, 130, rfl⟩
abbrev main_v108 : Ref sig .tc := ⟨.hbm, 131, rfl⟩
abbrev main_v109 : Ref sig .tc := ⟨.hbm, 132, rfl⟩
abbrev main_cst_4 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_5 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_6 : Ref sig .tc := ⟨.hbm, 150, rfl⟩
abbrev main_v125 : Ref sig .tc := ⟨.hbm, 151, rfl⟩
abbrev main_v126 : Ref sig .tc := ⟨.hbm, 152, rfl⟩
abbrev main_cst_7 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_8 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_cst_9 : Ref sig .tc := ⟨.hbm, 256, rfl⟩
abbrev main_v228 : Ref sig .tc := ⟨.hbm, 257, rfl⟩
abbrev main_v229 : Ref sig .tc := ⟨.hbm, 258, rfl⟩
abbrev main_cst_10 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_cst_11 : Ref sig .tc := ⟨.hbm, 265, rfl⟩
abbrev main_v235 : Ref sig .tc := ⟨.hbm, 266, rfl⟩
abbrev main_v236 : Ref sig .tc := ⟨.hbm, 267, rfl⟩
abbrev main_cst_12 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_cst_13 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_cst_14 : Ref sig .tc := ⟨.hbm, 285, rfl⟩
abbrev main_v252 : Ref sig .tc := ⟨.hbm, 286, rfl⟩
abbrev main_v253 : Ref sig .tc := ⟨.hbm, 287, rfl⟩
abbrev main_cst_15 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_cst_16 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_cst_17 : Ref sig .tc := ⟨.hbm, 299, rfl⟩
abbrev main_v263 : Ref sig .tc := ⟨.hbm, 300, rfl⟩
abbrev main_v264 : Ref sig .tc := ⟨.hbm, 301, rfl⟩
abbrev main_cst_18 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_cst_19 : Ref sig .tc := ⟨.hbm, 308, rfl⟩
abbrev main_v270 : Ref sig .tc := ⟨.hbm, 309, rfl⟩
abbrev main_v271 : Ref sig .tc := ⟨.hbm, 310, rfl⟩
abbrev main_cst_20 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_cst_21 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_cst_22 : Ref sig .tc := ⟨.hbm, 334, rfl⟩
abbrev main_v293 : Ref sig .tc := ⟨.hbm, 335, rfl⟩
abbrev main_call0_v0 : Ref sig .tc := ⟨.hbm, 336, rfl⟩
abbrev main_call0_cst : Ref sig .tc := ⟨.hbm, 337, rfl⟩
abbrev main_call0_c : Ref sig .tc := ⟨.hbm, 338, rfl⟩
abbrev main_call0_v1_0 : Ref sig .tc := ⟨.hbm, 339, rfl⟩
abbrev main_v294 : Ref sig .tc := ⟨.hbm, 340, rfl⟩
abbrev main_call1_v0 : Ref sig .tc := ⟨.hbm, 341, rfl⟩
abbrev main_v295 : Ref sig .tc := ⟨.hbm, 342, rfl⟩
abbrev main_v296 : Ref sig .tc := ⟨.hbm, 343, rfl⟩
abbrev main_cst_23 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_cst_24 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_cst_25 : Ref sig .tc := ⟨.hbm, 355, rfl⟩
abbrev main_v306 : Ref sig .tc := ⟨.hbm, 356, rfl⟩
abbrev main_v307 : Ref sig .tc := ⟨.hbm, 357, rfl⟩
abbrev main_cst_26 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_cst_27 : Ref sig .tc := ⟨.hbm, 364, rfl⟩
abbrev main_v313 : Ref sig .tc := ⟨.hbm, 365, rfl⟩
abbrev main_v314 : Ref sig .tc := ⟨.hbm, 366, rfl⟩
abbrev main_cst_28 : Ref sig .tc := ⟨.hbm, 367, rfl⟩
abbrev main_v315 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_cst_29 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_cst_30 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩

abbrev nD : Nat := 1
abbrev τ : Topo := Topo.v7x

variable {F : FTy → Type} [FloatOps F]
-- ==== Kernel2.lean ====
abbrev S2x112x112x16 : Shape := ⟨4, ![2, 112, 112, 16]⟩
abbrev S16x1x4x4 : Shape := ⟨4, ![16, 1, 4, 4]⟩
abbrev S1 : Shape := ⟨1, ![1]⟩
abbrev S_ : Shape := ⟨0, ![]⟩
abbrev S2x114x114x16 : Shape := ⟨4, ![2, 114, 114, 16]⟩
abbrev S25088x16 : Shape := ⟨2, ![25088, 16]⟩
abbrev S25088x256 : Shape := ⟨2, ![25088, 256]⟩
abbrev S16x1x1x1 : Shape := ⟨4, ![16, 1, 1, 1]⟩
abbrev S16x1 : Shape := ⟨2, ![16, 1]⟩
abbrev S64x1 : Shape := ⟨2, ![64, 1]⟩
abbrev S64x4 : Shape := ⟨2, ![64, 4]⟩
abbrev S256x4 : Shape := ⟨2, ![256, 4]⟩
abbrev S1x1 : Shape := ⟨2, ![1, 1]⟩
abbrev S25088x4 : Shape := ⟨2, ![25088, 4]⟩
abbrev S3136x256 : Shape := ⟨2, ![3136, 256]⟩
abbrev S3136x4 : Shape := ⟨2, ![3136, 4]⟩
abbrev S2x112x112x2x2 : Shape := ⟨5, ![2, 112, 112, 2, 2]⟩
abbrev S2x112x2x112x2 : Shape := ⟨5, ![2, 112, 2, 112, 2]⟩
abbrev S2x1x224x224 : Shape := ⟨4, ![2, 1, 224, 224]⟩

abbrev nBuf : Space → Nat
  | .hbm => 89
  | .vmem => 6
  | .smem => 0
  | _ => 0

abbrev bufTy : (tb : Table) → Fin (tcTables nBuf tb) → BufTy
  | .hbm, ⟨0, _⟩ => ⟨S2x112x112x16, .f32⟩
  | .hbm, ⟨1, _⟩ => ⟨S16x1x4x4, .f32⟩
  | .hbm, ⟨2, _⟩ => ⟨S1, .f32⟩
  | .hbm, ⟨3, _⟩ => ⟨S_, .i32⟩
  | .hbm, ⟨4, _⟩ => ⟨S_, .f32⟩
  | .hbm, ⟨5, _⟩ => ⟨S2x114x114x16, .f32⟩
  | .hbm, ⟨6, _⟩ => ⟨S2x112x112x16, .f32⟩
  | .hbm, ⟨7, _⟩ => ⟨S25088x16, .f32⟩
  | .hbm, ⟨8, _⟩ => ⟨S2x112x112x16, .f32⟩
  | .hbm, ⟨9, _⟩ => ⟨S25088x16, .f32⟩
  | .hbm, ⟨10, _⟩ => ⟨S2x112x112x16, .f32⟩
  | .hbm, ⟨11, _⟩ => ⟨S25088x16, .f32⟩
  | .hbm, ⟨12, _⟩ => ⟨S2x112x112x16, .f32⟩
  | .hbm, ⟨13, _⟩ => ⟨S25088x16, .f32⟩
  | .hbm, ⟨14, _⟩ => ⟨S2x112x112x16, .f32⟩
  | .hbm, ⟨15, _⟩ => ⟨S25088x16, .f32⟩
  | .hbm, ⟨16, _⟩ => ⟨S2x112x112x16, .f32⟩
  | .hbm, ⟨17, _⟩ => ⟨S25088x16, .f32⟩
  | .hbm, ⟨18, _⟩ => ⟨S2x112x112x16, .f32⟩
  | .hbm, ⟨19, _⟩ => ⟨S25088x16, .f32⟩
  | .hbm, ⟨20, _⟩ => ⟨S2x112x112x16, .f32⟩
  | .hbm, ⟨21, _⟩ => ⟨S25088x16, .f32⟩
  | .hbm, ⟨22, _⟩ => ⟨S2x112x112x16, .f32⟩
  | .hbm, ⟨23, _⟩ => ⟨S25088x16, .f32⟩
  | .hbm, ⟨24, _⟩ => ⟨S2x112x112x16, .f32⟩
  | .hbm, ⟨25, _⟩ => ⟨S25088x16, .f32⟩
  | .hbm, ⟨26, _⟩ => ⟨S2x112x112x16, .f32⟩
  | .hbm, ⟨27, _⟩ => ⟨S25088x16, .f32⟩
  | .hbm, ⟨28, _⟩ => ⟨S2x112x112x16, .f32⟩
  | .hbm, ⟨29, _⟩ => ⟨S25088x16, .f32⟩
  | .hbm, ⟨30, _⟩ => ⟨S2x112x112x16, .f32⟩
  | .hbm, ⟨31, _⟩ => ⟨S25088x16, .f32⟩
  | .hbm, ⟨32, _⟩ => ⟨S2x112x112x16, .f32⟩
  | .hbm, ⟨33, _⟩ => ⟨S25088x16, .f32⟩
  | .hbm, ⟨34, _⟩ => ⟨S2x112x112x16, .f32⟩
  | .hbm, ⟨35, _⟩ => ⟨S25088x16, .f32⟩
  | .hbm, ⟨36, _⟩ => ⟨S2x112x112x16, .f32⟩
  | .hbm, ⟨37, _⟩ => ⟨S25088x16, .f32⟩
  | .hbm, ⟨38, _⟩ => ⟨S25088x256, .f32⟩
  | .hbm, ⟨39, _⟩ => ⟨S16x1x1x1, .f32⟩
  | .hbm, ⟨40, _⟩ => ⟨S16x1, .f32⟩
  | .hbm, ⟨41, _⟩ => ⟨S16x1x1x1, .f32⟩
  | .hbm, ⟨42, _⟩ => ⟨S16x1, .f32⟩
  | .hbm, ⟨43, _⟩ => ⟨S16x1x1x1, .f32⟩
  | .hbm, ⟨44, _⟩ => ⟨S16x1, .f32⟩
  | .hbm, ⟨45, _⟩ => ⟨S16x1x1x1, .f32⟩
  | .hbm, ⟨46, _⟩ => ⟨S16x1, .f32⟩
  | .hbm, ⟨47, _⟩ => ⟨S64x1, .f32⟩
  | .hbm, ⟨48, _⟩ => ⟨S16x1x1x1, .f32⟩
  | .hbm, ⟨49, _⟩ => ⟨S16x1, .f32⟩
  | .hbm, ⟨50, _⟩ => ⟨S16x1x1x1, .f32⟩
  | .hbm, ⟨51, _⟩ => ⟨S16x1, .f32⟩
  | .hbm, ⟨52, _⟩ => ⟨S16x1x1x1, .f32⟩
  | .hbm, ⟨53, _⟩ => ⟨S16x1, .f32⟩
  | .hbm, ⟨54, _⟩ => ⟨S16x1x1x1, .f32⟩
  | .hbm, ⟨55, _⟩ => ⟨S16x1, .f32⟩
  | .hbm, ⟨56, _⟩ => ⟨S64x1, .f32⟩
  | .hbm, ⟨57, _⟩ => ⟨S16x1x1x1, .f32⟩
  | .hbm, ⟨58, _⟩ => ⟨S16x1, .f32⟩
  | .hbm, ⟨59, _⟩ => ⟨S16x1x1x1, .f32⟩
  | .hbm, ⟨60, _⟩ => ⟨S16x1, .f32⟩
  | .hbm, ⟨61, _⟩ => ⟨S16x1x1x1, .f32⟩
  | .hbm, ⟨62, _⟩ => ⟨S16x1, .f32⟩
  | .hbm, ⟨63, _⟩ => ⟨S16x1x1x1, .f32⟩
  | .hbm, ⟨64, _⟩ => ⟨S16x1, .f32⟩
  | .hbm, ⟨65, _⟩ => ⟨S64x1, .f32⟩
  | .hbm, ⟨66, _⟩ => ⟨S16x1x1x1, .f32⟩
  | .hbm, ⟨67, _⟩ => ⟨S16x1, .f32⟩
  | .hbm, ⟨68, _⟩ => ⟨S16x1x1x1, .f32⟩
  | .hbm, ⟨69, _⟩ => ⟨S16x1, .f32⟩
  | .hbm, ⟨70, _⟩ => ⟨S16x1x1x1, .f32⟩
  | .hbm, ⟨71, _⟩ => ⟨S16x1, .f32⟩
  | .hbm, ⟨72, _⟩ => ⟨S16x1x1x1, .f32⟩
  | .hbm, ⟨73, _⟩ => ⟨S16x1, .f32⟩
  | .hbm, ⟨74, _⟩ => ⟨S64x1, .f32⟩
  | .hbm, ⟨75, _⟩ => ⟨S_, .f32⟩
  | .hbm, ⟨76, _⟩ => ⟨S64x4, .f32⟩
  | .hbm, ⟨77, _⟩ => ⟨S_, .f32⟩
  | .hbm, ⟨78, _⟩ => ⟨S64x4, .f32⟩
  | .hbm, ⟨79, _⟩ => ⟨S_, .f32⟩
  | .hbm, ⟨80, _⟩ => ⟨S64x4, .f32⟩
  | .hbm, ⟨81, _⟩ => ⟨S_, .f32⟩
  | .hbm, ⟨82, _⟩ => ⟨S64x4, .f32⟩
  | .hbm, ⟨83, _⟩ => ⟨S256x4, .f32⟩
  | .hbm, ⟨84, _⟩ => ⟨S1x1, .f32⟩
  | .hbm, ⟨85, _⟩ => ⟨S25088x4, .f32⟩
  | .hbm, ⟨86, _⟩ => ⟨S2x112x112x2x2, .f32⟩
  | .hbm, ⟨87, _⟩ => ⟨S2x112x2x112x2, .f32⟩
  | .hbm, ⟨88, _⟩ => ⟨S2x1x224x224, .f32⟩
  | .local _ .vmem, ⟨0, _⟩ => ⟨S3136x256, .f32⟩
  | .local _ .vmem, ⟨1, _⟩ => ⟨S3136x256, .f32⟩
  | .local _ .vmem, ⟨2, _⟩ => ⟨S256x4, .f32⟩
  | .local _ .vmem, ⟨3, _⟩ => ⟨S1x1, .f32⟩
  | .local _ .vmem, ⟨4, _⟩ => ⟨S3136x4, .f32⟩
  | .local _ .vmem, ⟨5, _⟩ => ⟨S3136x4, .f32⟩
  | _, _ => ⟨S2x112x112x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_call1_cst : Ref sig .tc := ⟨.hbm, 75, rfl⟩
abbrev main_call1_v4 : Ref sig .tc := ⟨.hbm, 76, rfl⟩
abbrev main_call1_cst_0 : Ref sig .tc := ⟨.hbm, 77, rfl⟩
abbrev main_call1_v5 : Ref sig .tc := ⟨.hbm, 78, rfl⟩
abbrev main_call1_cst_1 : Ref sig .tc := ⟨.hbm, 79, rfl⟩
abbrev main_call1_v6 : Ref sig .tc := ⟨.hbm, 80, rfl⟩
abbrev main_call1_cst_2 : Ref sig .tc := ⟨.hbm, 81, rfl⟩
abbrev main_call1_v7 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3136x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x112x112x16 : Shape := ⟨4, ![2, 112, 112, 16]⟩
abbrev S16x1x4x4 : Shape := ⟨4, ![16, 1, 4, 4]⟩
abbrev S1 : Shape := ⟨1, ![1]⟩
abbrev S2x16x112x112 : Shape := ⟨4, ![2, 16, 112, 112]⟩
abbrev S_ : Shape := ⟨0, ![]⟩
abbrev S2x16x227x227 : Shape := ⟨4, ![2, 16, 227, 227]⟩
abbrev S2x16x224x224 : Shape := ⟨4, ![2, 16, 224, 224]⟩
abbrev S16x1x1x1 : Shape := ⟨4, ![16, 1, 1, 1]⟩
abbrev S16x1 : Shape := ⟨2, ![16, 1]⟩
abbrev S1x2x224x224 : Shape := ⟨4, ![1, 2, 224, 224]⟩
abbrev S2x1x224x224 : Shape := ⟨4, ![2, 1, 224, 224]⟩
abbrev S1x1x1x1 : Shape := ⟨4, ![1, 1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S2x112x112x16, .f32⟩
  | .hbm, ⟨1, _⟩ => ⟨S16x1x4x4, .f32⟩
  | .hbm, ⟨2, _⟩ => ⟨S1, .f32⟩
  | .hbm, ⟨3, _⟩ => ⟨S2x16x112x112, .f32⟩
  | .hbm, ⟨4, _⟩ => ⟨S_, .f32⟩
  | .hbm, ⟨5, _⟩ => ⟨S2x16x227x227, .f32⟩
  | .hbm, ⟨6, _⟩ => ⟨S2x16x224x224, .f32⟩
  | .hbm, ⟨7, _⟩ => ⟨S16x1x1x1, .f32⟩
  | .hbm, ⟨8, _⟩ => ⟨S16x1, .f32⟩
  | .hbm, ⟨9, _⟩ => ⟨S1x2x224x224, .f32⟩
  | .hbm, ⟨10, _⟩ => ⟨S2x1x224x224, .f32⟩
  | .hbm, ⟨11, _⟩ => ⟨S_, .f32⟩
  | .hbm, ⟨12, _⟩ => ⟨S2x1x224x224, .f32⟩
  | .hbm, ⟨13, _⟩ => ⟨S2x1x224x224, .f32⟩
  | .hbm, ⟨14, _⟩ => ⟨S2x16x224x224, .f32⟩
  | .hbm, ⟨15, _⟩ => ⟨S16x1x1x1, .f32⟩
  | .hbm, ⟨16, _⟩ => ⟨S16x1, .f32⟩
  | .hbm, ⟨17, _⟩ => ⟨S1x2x224x224, .f32⟩
  | .hbm, ⟨18, _⟩ => ⟨S2x1x224x224, .f32⟩
  | .hbm, ⟨19, _⟩ => ⟨S2x1x224x224, .f32⟩
  | .hbm, ⟨20, _⟩ => ⟨S2x16x224x224, .f32⟩
  | .hbm, ⟨21, _⟩ => ⟨S16x1x1x1, .f32⟩
  | .hbm, ⟨22, _⟩ => ⟨S16x1, .f32⟩
  | .hbm, ⟨23, _⟩ => ⟨S1x2x224x224, .f32⟩
  | .hbm, ⟨24, _⟩ => ⟨S2x1x224x224, .f32⟩
  | .hbm, ⟨25, _⟩ => ⟨S2x1x224x224, .f32⟩
  | .hbm, ⟨26, _⟩ => ⟨S2x16x224x224, .f32⟩
  | .hbm, ⟨27, _⟩ => ⟨S16x1x1x1, .f32⟩
  | .hbm, ⟨28, _⟩ => ⟨S16x1, .f32⟩
  | .hbm, ⟨29, _⟩ => ⟨S1x2x224x224, .f32⟩
  | .hbm, ⟨30, _⟩ => ⟨S2x1x224x224, .f32⟩
  | .hbm, ⟨31, _⟩ => ⟨S2x1x224x224, .f32⟩
  | .hbm, ⟨32, _⟩ => ⟨S2x16x224x224, .f32⟩
  | .hbm, ⟨33, _⟩ => ⟨S16x1x1x1, .f32⟩
  | .hbm, ⟨34, _⟩ => ⟨S16x1, .f32⟩
  | .hbm, ⟨35, _⟩ => ⟨S1x2x224x224, .f32⟩
  | .hbm, ⟨36, _⟩ => ⟨S2x1x224x224, .f32⟩
  | .hbm, ⟨37, _⟩ => ⟨S2x1x224x224, .f32⟩
  | .hbm, ⟨38, _⟩ => ⟨S2x16x224x224, .f32⟩
  | .hbm, ⟨39, _⟩ => ⟨S16x1x1x1, .f32⟩
  | .hbm, ⟨40, _⟩ => ⟨S16x1, .f32⟩
  | .hbm, ⟨41, _⟩ => ⟨S1x2x224x224, .f32⟩
  | .hbm, ⟨42, _⟩ => ⟨S2x1x224x224, .f32⟩
  | .hbm, ⟨43, _⟩ => ⟨S2x1x224x224, .f32⟩
  | .hbm, ⟨44, _⟩ => ⟨S2x16x224x224, .f32⟩
  | .hbm, ⟨45, _⟩ => ⟨S16x1x1x1, .f32⟩
  | .hbm, ⟨46, _⟩ => ⟨S16x1, .f32⟩
  | .hbm, ⟨47, _⟩ => ⟨S1x2x224x224, .f32⟩
  | .hbm, ⟨48, _⟩ => ⟨S2x1x224x224, .f32⟩
  | .hbm, ⟨49, _⟩ => ⟨S2x1x224x224, .f32⟩
  | .hbm, ⟨50, _⟩ => ⟨S2x16x224x224, .f32⟩
  | .hbm, ⟨51, _⟩ => ⟨S16x1x1x1, .f32⟩
  | .hbm, ⟨52, _⟩ => ⟨S16x1, .f32⟩
  | .hbm, ⟨53, _⟩ => ⟨S1x2x224x224, .f32⟩
  | .hbm, ⟨54, _⟩ => ⟨S2x1x224x224, .f32⟩
  | .hbm, ⟨55, _⟩ => ⟨S2x1x224x224, .f32⟩
  | .hbm, ⟨56, _⟩ => ⟨S2x16x224x224, .f32⟩
  | .hbm, ⟨57, _⟩ => ⟨S16x1x1x1, .f32⟩
  | .hbm, ⟨58, _⟩ => ⟨S16x1, .f32⟩
  | .hbm, ⟨59, _⟩ => ⟨S1x2x224x224, .f32⟩
  | .hbm, ⟨60, _⟩ => ⟨S2x1x224x224, .f32⟩
  | .hbm, ⟨61, _⟩ => ⟨S2x1x224x224, .f32⟩
  | .hbm, ⟨62, _⟩ => ⟨S2x16x224x224, .f32⟩
  | .hbm, ⟨63, _⟩ => ⟨S16x1x1x1, .f32⟩
  | .hbm, ⟨64, _⟩ => ⟨S16x1, .f32⟩
  | .hbm, ⟨65, _⟩ => ⟨S1x2x224x224, .f32⟩
  | .hbm, ⟨66, _⟩ => ⟨S2x1x224x224, .f32⟩
  | .hbm, ⟨67, _⟩ => ⟨S2x1x224x224, .f32⟩
  | .hbm, ⟨68, _⟩ => ⟨S2x16x224x224, .f32⟩
  | .hbm, ⟨69, _⟩ => ⟨S16x1x1x1, .f32⟩
  | .hbm, ⟨70, _⟩ => ⟨S16x1, .f32⟩
  | .hbm, ⟨71, _⟩ => ⟨S1x2x224x224, .f32⟩
  | .hbm, ⟨72, _⟩ => ⟨S2x1x224x224, .f32⟩
  | .hbm, ⟨73, _⟩ => ⟨S2x1x224x224, .f32⟩
  | .hbm, ⟨74, _⟩ => ⟨S2x16x224x224, .f32⟩
  | .hbm, ⟨75, _⟩ => ⟨S16x1x1x1, .f32⟩
  | .hbm, ⟨76, _⟩ => ⟨S16x1, .f32⟩
  | .hbm, ⟨77, _⟩ => ⟨S1x2x224x224, .f32⟩
  | .hbm, ⟨78, _⟩ => ⟨S2x1x224x224, .f32⟩
  | .hbm, ⟨79, _⟩ => ⟨S2x1x224x224, .f32⟩
  | .hbm, ⟨80, _⟩ => ⟨S2x16x224x224, .f32⟩
  | .hbm, ⟨81, _⟩ => ⟨S16x1x1x1, .f32⟩
  | .hbm, ⟨82, _⟩ => ⟨S16x1, .f32⟩
  | .hbm, ⟨83, _⟩ => ⟨S1x2x224x224, .f32⟩
  | .hbm, ⟨84, _⟩ => ⟨S2x1x224x224, .f32⟩
  | .hbm, ⟨85, _⟩ => ⟨S2x1x224x224, .f32⟩
  | .hbm, ⟨86, _⟩ => ⟨S2x16x224x224, .f32⟩
  | .hbm, ⟨87, _⟩ => ⟨S16x1x1x1, .f32⟩
  | .hbm, ⟨88, _⟩ => ⟨S16x1, .f32⟩
  | .hbm, ⟨89, _⟩ => ⟨S1x2x224x224, .f32⟩
  | .hbm, ⟨90, _⟩ => ⟨S2x1x224x224, .f32⟩
  | .hbm, ⟨91, _⟩ => ⟨S2x1x224x224, .f32⟩
  | .hbm, ⟨92, _⟩ => ⟨S2x16x224x224, .f32⟩
  | .hbm, ⟨93, _⟩ => ⟨S16x1x1x1, .f32⟩
  | .hbm, ⟨94, _⟩ => ⟨S16x1, .f32⟩
  | .hbm, ⟨95, _⟩ => ⟨S1x2x224x224, .f32⟩
  | .hbm, ⟨96, _⟩ => ⟨S2x1x224x224, .f32⟩
  | .hbm, ⟨97, _⟩ => ⟨S2x1x224x224, .f32⟩
  | .hbm, ⟨98, _⟩ => ⟨S2x16x224x224, .f32⟩
  | .hbm, ⟨99, _⟩ => ⟨S16x1x1x1, .f32⟩
  | .hbm, ⟨100, _⟩ => ⟨S16x1, .f32⟩
  | .hbm, ⟨101, _⟩ => ⟨S1x2x224x224, .f32⟩
  | .hbm, ⟨102, _⟩ => ⟨S2x1x224x224, .f32⟩
  | .hbm, ⟨103, _⟩ => ⟨S2x1x224x224, .f32⟩
  | .hbm, ⟨104, _⟩ => ⟨S1x1x1x1, .f32⟩
  | .hbm, ⟨105, _⟩ => ⟨S2x1x224x224, .f32⟩
  | .hbm, ⟨106, _⟩ => ⟨S2x1x224x224, .f32⟩
  | .hbm, ⟨107, _⟩ => ⟨S2x1x224x224, .f32⟩
  | .hbm, ⟨108, _⟩ => ⟨S2x1x224x224, .f32⟩
  | .hbm, ⟨109, _⟩ => ⟨S_, .f32⟩
  | .hbm, ⟨110, _⟩ => ⟨S2x1x224x224, .f32⟩
  | .hbm, ⟨111, _⟩ => ⟨S2x1x224x224, .f32⟩
  | .hbm, ⟨112, _⟩ => ⟨S_, .f32⟩
  | .hbm, ⟨113, _⟩ => ⟨S2x1x224x224, .f32⟩
  | .hbm, ⟨114, _⟩ => ⟨S2x1x224x224, .f32⟩
  | _, _ => ⟨S2x112x112x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_cst_1 : Ref sig .tc := ⟨.hbm, 109, rfl⟩
abbrev main_v104 : Ref sig .tc := ⟨.hbm, 110, rfl⟩
abbrev main_v105 : Ref sig .tc := ⟨.hbm, 111, rfl⟩
abbrev main_cst_2 : Ref sig .tc := ⟨.hbm, 112, rfl⟩
abbrev main_v106 : Ref sig .tc := ⟨.hbm, 113, rfl⟩
abbrev main_v107 : Ref sig .tc := ⟨.hbm, 114, rfl⟩

abbrev nD : Nat := 1
abbrev τ : Topo := Topo.v7x

variable {F : FTy → Type} [FloatOps F]
-- ==== Kernel3.lean ====
abbrev S6272x32 : Shape := ⟨2, ![6272, 32]⟩
abbrev S32x16x4x4 : Shape := ⟨4, ![32, 16, 4, 4]⟩
abbrev S16 : Shape := ⟨1, ![16]⟩
abbrev S2x56x56x32 : Shape := ⟨4, ![2, 56, 56, 32]⟩
abbrev S_ : Shape := ⟨0, ![]⟩
abbrev S2x58x58x32 : Shape := ⟨4, ![2, 58, 58, 32]⟩
abbrev S6272x512 : Shape := ⟨2, ![6272, 512]⟩
abbrev S32x16x1x1 : Shape := ⟨4, ![32, 16, 1, 1]⟩
abbrev S32x16 : Shape := ⟨2, ![32, 16]⟩
abbrev S128x16 : Shape := ⟨2, ![128, 16]⟩
abbrev S128x64 : Shape := ⟨2, ![128, 64]⟩
abbrev S512x64 : Shape := ⟨2, ![512, 64]⟩
abbrev S1x16 : Shape := ⟨2, ![1, 16]⟩
abbrev S6272x64 : Shape := ⟨2, ![6272, 64]⟩
abbrev S64 : Shape := ⟨1, ![64]⟩
abbrev S1x64 : Shape := ⟨2, ![1, 64]⟩
abbrev S2x56x56x2x2x16 : Shape := ⟨6, ![2, 56, 56, 2, 2, 16]⟩
abbrev S2x56x2x56x2x16 : Shape := ⟨6, ![2, 56, 2, 56, 2, 16]⟩
abbrev S2x112x112x16 : Shape := ⟨4, ![2, 112, 112, 16]⟩

abbrev nBuf : Space → Nat
  | .hbm => 93
  | .vmem => 5
  | .smem => 0
  | _ => 0

abbrev bufTy : (tb : Table) → Fin (tcTables nBuf tb) → BufTy
  | .hbm, ⟨0, _⟩ => ⟨S6272x32, .f32⟩
  | .hbm, ⟨1, _⟩ => ⟨S32x16x4x4, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S2x56x56x32, .f32⟩
  | .hbm, ⟨6, _⟩ => ⟨S_, .i32⟩
  | .hbm, ⟨7, _⟩ => ⟨S_, .f32⟩
  | .hbm, ⟨8, _⟩ => ⟨S2x58x58x32, .f32⟩
  | .hbm, ⟨9, _⟩ => ⟨S2x56x56x32, .f32⟩
  | .hbm, ⟨10, _⟩ => ⟨S6272x32, .f32⟩
  | .hbm, ⟨11, _⟩ => ⟨S2x56x56x32, .f32⟩
  | .hbm, ⟨12, _⟩ => ⟨S6272x32, .f32⟩
  | .hbm, ⟨13, _⟩ => ⟨S2x56x56x32, .f32⟩
  | .hbm, ⟨14, _⟩ => ⟨S6272x32, .f32⟩
  | .hbm, ⟨15, _⟩ => ⟨S2x56x56x32, .f32⟩
  | .hbm, ⟨16, _⟩ => ⟨S6272x32, .f32⟩
  | .hbm, ⟨17, _⟩ => ⟨S2x56x56x32, .f32⟩
  | .hbm, ⟨18, _⟩ => ⟨S6272x32, .f32⟩
  | .hbm, ⟨19, _⟩ => ⟨S2x56x56x32, .f32⟩
  | .hbm, ⟨20, _⟩ => ⟨S6272x32, .f32⟩
  | .hbm, ⟨21, _⟩ => ⟨S2x56x56x32, .f32⟩
  | .hbm, ⟨22, _⟩ => ⟨S6272x32, .f32⟩
  | .hbm, ⟨23, _⟩ => ⟨S2x56x56x32, .f32⟩
  | .hbm, ⟨24, _⟩ => ⟨S6272x32, .f32⟩
  | .hbm, ⟨25, _⟩ => ⟨S2x56x56x32, .f32⟩
  | .hbm, ⟨26, _⟩ => ⟨S6272x32, .f32⟩
  | .hbm, ⟨27, _⟩ => ⟨S2x56x56x32, .f32⟩
  | .hbm, ⟨28, _⟩ => ⟨S6272x32, .f32⟩
  | .hbm, ⟨29, _⟩ => ⟨S2x56x56x32, .f32⟩
  | .hbm, ⟨30, _⟩ => ⟨S6272x32, .f32⟩
  | .hbm, ⟨31, _⟩ => ⟨S2x56x56x32, .f32⟩
  | .hbm, ⟨32, _⟩ => ⟨S6272x32, .f32⟩
  | .hbm, ⟨33, _⟩ => ⟨S2x56x56x32, .f32⟩
  | .hbm, ⟨34, _⟩ => ⟨S6272x32, .f32⟩
  | .hbm, ⟨35, _⟩ => ⟨S2x56x56x32, .f32⟩
  | .hbm, ⟨36, _⟩ => ⟨S6272x32, .f32⟩
  | .hbm, ⟨37, _⟩ => ⟨S2x56x56x32, .f32⟩
  | .hbm, ⟨38, _⟩ => ⟨S6272x32, .f32⟩
  | .hbm, ⟨39, _⟩ => ⟨S2x56x56x32, .f32⟩
  | .hbm, ⟨40, _⟩ => ⟨S6272x32, .f32⟩
  | .hbm, ⟨41, _⟩ => ⟨S6272x512, .f32⟩
  | .hbm, ⟨42, _⟩ => ⟨S32x16x1x1, .f32⟩
  | .hbm, ⟨43, _⟩ => ⟨S32x16, .f32⟩
  | .hbm, ⟨44, _⟩ => ⟨S32x16x1x1, .f32⟩
  | .hbm, ⟨45, _⟩ => ⟨S32x16, .f32⟩
  | .hbm, ⟨46, _⟩ => ⟨S32x16x1x1, .f32⟩
  | .hbm, ⟨47, _⟩ => ⟨S32x16, .f32⟩
  | .hbm, ⟨48, _⟩ => ⟨S32x16x1x1, .f32⟩
  | .hbm, ⟨49, _⟩ => ⟨S32x16, .f32⟩
  | .hbm, ⟨50, _⟩ => ⟨S128x16, .f32⟩
  | .hbm, ⟨51, _⟩ => ⟨S32x16x1x1, .f32⟩
  | .hbm, ⟨52, _⟩ => ⟨S32x16, .f32⟩
  | .hbm, ⟨53, _⟩ => ⟨S32x16x1x1, .f32⟩
  | .hbm, ⟨54, _⟩ => ⟨S32x16, .f32⟩
  | .hbm, ⟨55, _⟩ => ⟨S32x16x1x1, .f32⟩
  | .hbm, ⟨56, _⟩ => ⟨S32x16, .f32⟩
  | .hbm, ⟨57, _⟩ => ⟨S32x16x1x1, .f32⟩
  | .hbm, ⟨58, _⟩ => ⟨S32x16, .f32⟩
  | .hbm, ⟨59, _⟩ => ⟨S128x16, .f32⟩
  | .hbm, ⟨60, _⟩ => ⟨S32x16x1x1, .f32⟩
  | .hbm, ⟨61, _⟩ => ⟨S32x16, .f32⟩
  | .hbm, ⟨62, _⟩ => ⟨S32x16x1x1, .f32⟩
  | .hbm, ⟨63, _⟩ => ⟨S32x16, .f32⟩
  | .hbm, ⟨64, _⟩ => ⟨S32x16x1x1, .f32⟩
  | .hbm, ⟨65, _⟩ => ⟨S32x16, .f32⟩
  | .hbm, ⟨66, _⟩ => ⟨S32x16x1x1, .f32⟩
  | .hbm, ⟨67, _⟩ => ⟨S32x16, .f32⟩
  | .hbm, ⟨68, _⟩ => ⟨S128x16, .f32⟩
  | .hbm, ⟨69, _⟩ => ⟨S32x16x1x1, .f32⟩
  | .hbm, ⟨70, _⟩ => ⟨S32x16, .f32⟩
  | .hbm, ⟨71, _⟩ => ⟨S32x16x1x1, .f32⟩
  | .hbm, ⟨72, _⟩ => ⟨S32x16, .f32⟩
  | .hbm, ⟨73, _⟩ => ⟨S32x16x1x1, .f32⟩
  | .hbm, ⟨74, _⟩ => ⟨S32x16, .f32⟩
  | .hbm, ⟨75, _⟩ => ⟨S32x16x1x1, .f32⟩
  | .hbm, ⟨76, _⟩ => ⟨S32x16, .f32⟩
  | .hbm, ⟨77, _⟩ => ⟨S128x16, .f32⟩
  | .hbm, ⟨78, _⟩ => ⟨S_, .f32⟩
  | .hbm, ⟨79, _⟩ => ⟨S128x64, .f32⟩
  | .hbm, ⟨80, _⟩ => ⟨S_, .f32⟩
  | .hbm, ⟨81, _⟩ => ⟨S128x64, .f32⟩
  | .hbm, ⟨82, _⟩ => ⟨S_, .f32⟩
  | .hbm, ⟨83, _⟩ => ⟨S128x64, .f32⟩
  | .hbm, ⟨84, _⟩ => ⟨S_, .f32⟩
  | .hbm, ⟨85, _⟩ => ⟨S128x64, .f32⟩
  | .hbm, ⟨86, _⟩ => ⟨S512x64, .f32⟩
  | .hbm, ⟨87, _⟩ => ⟨S1x16, .f32⟩
  | .hbm, ⟨88, _⟩ => ⟨S1x16, .f32⟩
  | .hbm, ⟨89, _⟩ => ⟨S6272x64, .f32⟩
  | .hbm, ⟨90, _⟩ => ⟨S2x56x56x2x2x16, .f32⟩
  | .hbm, ⟨91, _⟩ => ⟨S2x56x2x56x2x16, .f32⟩
  | .hbm, ⟨92, _⟩ => ⟨S2x112x112x16, .f32⟩
  | .local _ .vmem, ⟨0, _⟩ => ⟨S6272x512, .f32⟩
  | .local _ .vmem, ⟨1, _⟩ => ⟨S512x64, .f32⟩
  | .local _ .vmem, ⟨2, _⟩ => ⟨S1x16, .f32⟩
  | .local _ .vmem, ⟨3, _⟩ => ⟨S1x16, .f32⟩
  | .local _ .vmem, ⟨4, _⟩ => ⟨S6272x64, .f32⟩
  | _, _ => ⟨S6272x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_call1_cst : Ref sig .tc := ⟨.hbm, 78, rfl⟩
abbrev main_call1_v4 : Ref sig .tc := ⟨.hbm, 79, rfl⟩
abbrev main_call1_cst_0 : Ref sig .tc := ⟨.hbm, 80, rfl⟩
abbrev main_call1_v5 : Ref sig .tc := ⟨.hbm, 81, rfl⟩
abbrev main_call1_cst_1 : Ref sig .tc := ⟨.hbm, 82, rfl⟩
abbrev main_call1_v6 : Ref sig .tc := ⟨.hbm, 83, rfl⟩
abbrev main_call1_cst_2 : Ref sig .tc := ⟨.hbm, 84, rfl⟩
abbrev main_call1_v7 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6272x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6272x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference3Ideal.lean ====
abbrev S6272x32 : Shape := ⟨2, ![6272, 32]⟩
abbrev S32x16x4x4 : Shape := ⟨4, ![32, 16, 4, 4]⟩
abbrev S16 : Shape := ⟨1, ![16]⟩
abbrev S2x56x56x32 : Shape := ⟨4, ![2, 56, 56, 32]⟩
abbrev S2x32x56x56 : Shape := ⟨4, ![2, 32, 56, 56]⟩
abbrev S_ : Shape := ⟨0, ![]⟩
abbrev S2x32x115x115 : Shape := ⟨4, ![2, 32, 115, 115]⟩
abbrev S2x32x112x112 : Shape := ⟨4, ![2, 32, 112, 112]⟩
abbrev S32x16x1x1 : Shape := ⟨4, ![32, 16, 1, 1]⟩
abbrev S32x16 : Shape := ⟨2, ![32, 16]⟩
abbrev S16x2x112x112 : Shape := ⟨4, ![16, 2, 112, 112]⟩
abbrev S2x16x112x112 : Shape := ⟨4, ![2, 16, 112, 112]⟩
abbrev S1x16x1x1 : Shape := ⟨4, ![1, 16, 1, 1]⟩
abbrev S2x112x112x16 : Shape := ⟨4, ![2, 112, 112, 16]⟩

abbrev nBuf : Space → Nat
  | .hbm => 143
  | .vmem => 0
  | .smem => 0
  | _ => 0

abbrev hbmTy0_0 (i : Nat) : BufTy := match i % 128 with
  | 0 => ⟨S6272x32, .f32⟩
  | 1 => ⟨S32x16x4x4, .f32⟩
  | 2 => ⟨S16, .f32⟩
  | 3 => ⟨S16, .f32⟩
  | 4 => ⟨S16, .f32⟩
  | 5 => ⟨S2x56x56x32, .f32⟩
  | 6 => ⟨S2x32x56x56, .f32⟩
  | 7 => ⟨S_, .f32⟩
  | 8 => ⟨S2x32x115x115, .f32⟩
  | 9 => ⟨S2x32x112x112, .f32⟩
  | 10 => ⟨S32x16x1x1, .f32⟩
  | 11 => ⟨S32x16, .f32⟩
  | 12 => ⟨S16x2x112x112, .f32⟩
  | 13 => ⟨S2x16x112x112, .f32⟩
  | 14 => ⟨S_, .f32⟩
  | 15 => ⟨S2x16x112x112, .f32⟩
  | 16 => ⟨S2x16x112x112, .f32⟩
  | 17 => ⟨S2x32x112x112, .f32⟩
  | 18 => ⟨S32x16x1x1, .f32⟩
  | 19 => ⟨S32x16, .f32⟩
  | 20 => ⟨S16x2x112x112, .f32⟩
  | 21 => ⟨S2x16x112x112, .f32⟩
  | 22 => ⟨S2x16x112x112, .f32⟩
  | 23 => ⟨S2x32x112x112, .f32⟩
  | 24 => ⟨S32x16x1x1, .f32⟩
  | 25 => ⟨S32x16, .f32⟩
  | 26 => ⟨S16x2x112x112, .f32⟩
  | 27 => ⟨S2x16x112x112, .f32⟩
  | 28 => ⟨S2x16x112x112, .f32⟩
  | 29 => ⟨S2x32x112x112, .f32⟩
  | 30 => ⟨S32x16x1x1, .f32⟩
  | 31 => ⟨S32x16, .f32⟩
  | 32 => ⟨S16x2x112x112, .f32⟩
  | 33 => ⟨S2x16x112x112, .f32⟩
  | 34 => ⟨S2x16x112x112, .f32⟩
  | 35 => ⟨S2x32x112x112, .f32⟩
  | 36 => ⟨S32x16x1x1, .f32⟩
  | 37 => ⟨S32x16, .f32⟩
  | 38 => ⟨S16x2x112x112, .f32⟩
  | 39 => ⟨S2x16x112x112, .f32⟩
  | 40 => ⟨S2x16x112x112, .f32⟩
  | 41 => ⟨S2x32x112x112, .f32⟩
  | 42 => ⟨S32x16x1x1, .f32⟩
  | 43 => ⟨S32x16, .f32⟩
  | 44 => ⟨S16x2x112x112, .f32⟩
  | 45 => ⟨S2x16x112x112, .f32⟩
  | 46 => ⟨S2x16x112x112, .f32⟩
  | 47 => ⟨S2x32x112x112, .f32⟩
  | 48 => ⟨S32x16x1x1, .f32⟩
  | 49 => ⟨S32x16, .f32⟩
  | 50 => ⟨S16x2x112x112, .f32⟩
  | 51 => ⟨S2x16x112x112, .f32⟩
  | 52 => ⟨S2x16x112x112, .f32⟩
  | 53 => ⟨S2x32x112x112, .f32⟩
  | 54 => ⟨S32x16x1x1, .f32⟩
  | 55 => ⟨S32x16, .f32⟩
  | 56 => ⟨S16x2x112x112, .f32⟩
  | 57 => ⟨S2x16x112x112, .f32⟩
  | 58 => ⟨S2x16x112x112, .f32⟩
  | 59 => ⟨S2x32x112x112, .f32⟩
  | 60 => ⟨S32x16x1x1, .f32⟩
  | 61 => ⟨S32x16, .f32⟩
  | 62 => ⟨S16x2x112x112, .f32⟩
  | 63 => ⟨S2x16x112x112, .f32⟩
  | 64 => ⟨S2x16x112x112, .f32⟩
  | 65 => ⟨S2x32x112x112, .f32⟩
  | 66 => ⟨S32x16x1x1, .f32⟩
  | 67 => ⟨S32x16, .f32⟩
  | 68 => ⟨S16x2x112x112, .f32⟩
  | 69 => ⟨S2x16x112x112, .f32⟩
  | 70 => ⟨S2x16x112x112, .f32⟩
  | 71 => ⟨S2x32x112x112, .f32⟩
  | 72 => ⟨S32x16x1x1, .f32⟩
  | 73 => ⟨S32x16, .f32⟩
  | 74 => ⟨S16x2x112x112, .f32⟩
  | 75 => ⟨S2x16x112x112, .f32⟩
  | 76 => ⟨S2x16x112x112, .f32⟩
  | 77 => ⟨S2x32x112x112, .f32⟩
  | 78 => ⟨S32x16x1x1, .f32⟩
  | 79 => ⟨S32x16, .f32⟩
  | 80 => ⟨S16x2x112x112, .f32⟩
  | 81 => ⟨S2x16x112x112, .f32⟩
  | 82 => ⟨S2x16x112x112, .f32⟩
  | 83 => ⟨S2x32x112x112, .f32⟩
  | 84 => ⟨S32x16x1x1, .f32⟩
  | 85 => ⟨S32x16, .f32⟩
  | 86 => ⟨S16x2x112x112, .f32⟩
  | 87 => ⟨S2x16x112x112, .f32⟩
  | 88 => ⟨S2x16x112x112, .f32⟩
  | 89 => ⟨S2x32x112x112, .f32⟩
  | 90 => ⟨S32x16x1x1, .f32⟩
  | 91 => ⟨S32x16, .f32⟩
  | 92 => ⟨S16x2x112x112, .f32⟩
  | 93 => ⟨S2x16x112x112, .f32⟩
  | 94 => ⟨S2x16x112x112, .f32⟩
  | 95 => ⟨S2x32x112x112, .f32⟩
  | 96 => ⟨S32x16x1x1, .f32⟩
  | 97 => ⟨S32x16, .f32⟩
  | 98 => ⟨S16x2x112x112, .f32⟩
  | 99 => ⟨S2x16x112x112, .f32⟩
  | 100 => ⟨S2x16x112x112, .f32⟩
  | 101 => ⟨S2x32x112x112, .f32⟩
  | 102 => ⟨S32x16x1x1, .f32⟩
  | 103 => ⟨S32x16, .f32⟩
  | 104 => ⟨S16x2x112x112, .f32⟩
  | 105 => ⟨S2x16x112x112, .f32⟩
  | 106 => ⟨S2x16x112x112, .f32⟩
  | 107 => ⟨S1x16x1x1, .f32⟩
  | 108 => ⟨S2x16x112x112, .f32⟩
  | 109 => ⟨S2x16x112x112, .f32⟩
  | 110 => ⟨S_, .f32⟩
  | 111 => ⟨S16, .f32⟩
  | 112 => ⟨S1x16x1x1, .f32⟩
  | 113 => ⟨S_, .f32⟩
  | 114 => ⟨S1x16x1x1, .f32⟩
  | 115 => ⟨S1x16x1x1, .f32⟩
  | 116 => ⟨S2x16x112x112, .f32⟩
  | 117 => ⟨S2x16x112x112, .f32⟩
  | 118 => ⟨S2x16x112x112, .f32⟩
  | 119 => ⟨S_, .f32⟩
  | 120 => ⟨S16, .f32⟩
  | 121 => ⟨S1x16x1x1, .f32⟩
  | 122 => ⟨S_, .f32⟩
  | 123 => ⟨S1x16x1x1, .f32⟩
  | 124 => ⟨S1x16x1x1, .f32⟩
  | 125 => ⟨S2x16x112x112, .f32⟩
  | 126 => ⟨S2x16x112x112, .f32⟩
  | 127 => ⟨S_, .f32⟩
  | _ => ⟨S6272x32, .f32⟩

abbrev hbmTy0_1 (i : Nat) : BufTy := match i % 128 with
  | 0 => ⟨S1x16x1x1, .f32⟩
  | 1 => ⟨S1x16x1x1, .f32⟩
  | 2 => ⟨S1x16x1x1, .f32⟩
  | 3 => ⟨S2x16x112x112, .f32⟩
  | 4 => ⟨S2x16x112x112, .f32⟩
  | 5 => ⟨S1x16x1x1, .f32⟩
  | 6 => ⟨S2x16x112x112, .f32⟩
  | 7 => ⟨S2x16x112x112, .f32⟩
  | 8 => ⟨S1x16x1x1, .f32⟩
  | 9 => ⟨S2x16x112x112, .f32⟩
  | 10 => ⟨S2x16x112x112, .f32⟩
  | 11 => ⟨S_, .f32⟩
  | 12 => ⟨S2x16x112x112, .f32⟩
  | 13 => ⟨S2x16x112x112, .f32⟩
  | 14 => ⟨S2x112x112x16, .f32⟩
  | _ => ⟨S6272x32, .f32⟩

abbrev hbmTy (i : Nat) : BufTy := match i / 128 with
  | 0 => hbmTy0_0 i
  | 1 => hbmTy0_1 i
  | _ => ⟨S6272x32, .f32⟩

abbrev bufTy : (tb : Table) → Fin (tcTables nBuf tb) → BufTy
  | .hbm, ⟨i, _⟩ => hbmTy i
  | _, _ => ⟨S6272x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_cst_1 : Ref sig .tc := ⟨.hbm, 110, rfl⟩
abbrev main_v103 : Ref sig .tc := ⟨.hbm, 111, rfl⟩
abbrev main_v104 : Ref sig .tc := ⟨.hbm, 112, rfl⟩
abbrev main_cst_2 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_cst_3 : Ref sig .tc := ⟨.hbm, 119, rfl⟩
abbrev main_v110 : Ref sig .tc := ⟨.hbm, 120, rfl⟩
abbrev main_v111 : Ref sig .tc := ⟨.hbm, 121, rfl⟩
abbrev main_cst_4 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_cst_5 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_cst_6 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩

abbrev nD : Nat := 1
abbrev τ : Topo := Topo.v7x

variable {F : FTy → Type} [FloatOps F]
-- ==== Proof.KerRun.lean ====
/- The kernel's run: every buffer ends at the contents its last segment leaves, and each call's results are the call's
   functions of the arrays it is given. -/
module

public import proofs.«01_k».proof.Proof.Gen.KernelIdeal.Frame
public import Idealize.ShloMosaic.Lib.Pipeline.Value

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with each of the program's arrays at what the last host operations leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c => h c)

theorem zero2 : (![0, 0] : Fin 2 → Nat) = fun _ => 0 := funext fun a => by fin_cases a <;> rfl

section Regions

variable (V : (c : Dev nD) → (b : Ref sig .tc) → Buf (Elt F) ((c : Thread nD τ).loc b)) (c : Dev nD)

/-- An index read through an embedding that keeps both coordinates is the index itself. -/
theorem same2 {p q : ℕ} (e : (⟨2, ![p, q]⟩ : Shape).Idx → (⟨2, ![p, q]⟩ : Shape).Idx)
    (h0 : ∀ j, (e j 0).val = 0 * p + 1 * (j 0).val) (h1 : ∀ j, (e j 1).val = 0 * q + 1 * (j 1).val) (j : (⟨2, ![p, q]⟩ : Shape).Idx) :
    e j = j := by
  funext a; apply Fin.ext
  match a with
  | ⟨0, _⟩ => exact (h0 j).trans (by rw [Nat.zero_mul, Nat.zero_add, Nat.one_mul]; rfl)
  | ⟨1, _⟩ => exact (h1 j).trans (by rw [Nat.zero_mul, Nat.zero_add, Nat.one_mul]; rfl)

theorem blk0_0 (t : Fin cfg0.N) : iblk0 V c 0 t = V c main_v35 :=
  funext fun j => congrArg (V c main_v35) (same2 (p := 3136) (q := 128) ((cfg0.win 0).blk t).view.emb (fun _ => rfl) (fun _ => rfl) j)

theorem blk0_1 (t : Fin cfg0.N) : iblk0 V c 1 t = V c main_v38 :=
  funext fun j => congrArg (V c main_v38) (same2 (p := 128) (q := 128) ((cfg0.win 1).blk t).view.emb (fun _ => rfl) (fun _ => rfl) j)

theorem blk0_2 (t : Fin cfg0.N) : iblk0 V c 2 t = V c main_v39 :=
  funext fun j => congrArg (V c main_v39) (same2 (p := 1) (q := 16) ((cfg0.win 2).blk t).view.emb (fun _ => rfl) (fun _ => rfl) j)

theorem blk0_3 (t : Fin cfg0.N) : iblk0 V c 3 t = V c main_v40 :=
  funext fun j => congrArg (V c main_v40) (same2 (p := 1) (q := 16) ((cfg0.win 3).blk t).view.emb (fun _ => rfl) (fun _ => rfl) j)

theorem emb0_4 (t : Fin cfg0.N) (j : S3136x128.Idx) : ((cfg0.win 4).blk t).view.emb j = j :=
  same2 (p := 3136) (q := 128) ((cfg0.win 4).blk t).view.emb (fun _ => rfl) (fun _ => rfl) j

/-- The call leaves its function of the arrays it is given in `main_v41`. -/
theorem arr0_4 : (dat0 V c).arrAt 4 cfg0.N = out0_4 (V c main_v35) (V c main_v38) (V c main_v39) (V c main_v40) :=
  (dat0 V c).arrAt_eq_of_cover 4 (out0_4 (V c main_v35) (V c main_v38) (V c main_v39) (V c main_v40))
    (fun t _ => by
      show (cfg0.win 4).cut (grid0.coords t) ((dat0 V c).after 4 t) = _
      rw [after0_4, blk0_0, blk0_1, blk0_2, blk0_3]
      generalize out0_4 (V c main_v35) (V c main_v38) (V c main_v39) (V c main_v40) = X
      funext j
      show X j = X (((cfg0.win 4).blk t).view.emb j)
      rw [emb0_4])
    fun i => ⟨(⟨0, by decide⟩ : Fin cfg0.N), flush0_4 _, by
      have h := ((cfg0.win 4).blk (⟨0, by decide⟩ : Fin cfg0.N)).view.emb_mem_set i
      rwa [emb0_4] at h⟩

theorem blk1_0 (t : Fin cfg1.N) : iblk1 V c 0 t = V c main_v61 :=
  funext fun j => congrArg (V c main_v61) (same2 (p := 6272) (q := 256) ((cfg1.win 0).blk t).view.emb (fun _ => rfl) (fun _ => rfl) j)

theorem blk1_1 (t : Fin cfg1.N) : iblk1 V c 1 t = V c main_v63 :=
  funext fun j => congrArg (V c main_v63) (same2 (p := 256) (q := 32) ((cfg1.win 1).blk t).view.emb (fun _ => rfl) (fun _ => rfl) j)

theorem blk1_2 (t : Fin cfg1.N) : iblk1 V c 2 t = V c main_v64 :=
  funext fun j => congrArg (V c main_v64) (same2 (p := 1) (q := 32) ((cfg1.win 2).blk t).view.emb (fun _ => rfl) (fun _ => rfl) j)

theorem blk1_3 (t : Fin cfg1.N) : iblk1 V c 3 t = V c main_v65 :=
  funext fun j => congrArg (V c main_v65) (same2 (p := 1) (q := 32) ((cfg1.win 3).blk t).view.emb (fun _ => rfl) (fun _ => rfl) j)

theorem emb1_4 (t : Fin cfg1.N) (j : S6272x32.Idx) : ((cfg1.win 4).blk t).view.emb j = j :=
  same2 (p := 6272) (q := 32) ((cfg1.win 4).blk t).view.emb (fun _ => rfl) (fun _ => rfl) j

/-- The call leaves its function of the arrays it is given in `main_v66`. -/
theorem arr1_4 : (dat1 V c).arrAt 4 cfg1.N = out1_4 (V c main_v61) (V c main_v63) (V c main_v64) (V c main_v65) :=
  (dat1 V c).arrAt_eq_of_cover 4 (out1_4 (V c main_v61) (V c main_v63) (V c main_v64) (V c main_v65))
    (fun t _ => by
      show (cfg1.win 4).cut (grid1.coords t) ((dat1 V c).after 4 t) = _
      rw [after1_4, blk1_0, blk1_1, blk1_2, blk1_3]
      generalize out1_4 (V c main_v61) (V c main_v63) (V c main_v64) (V c main_v65) = X
      funext j
      show X j = X (((cfg1.win 4).blk t).view.emb j)
      rw [emb1_4])
    fun i => ⟨(⟨0, by decide⟩ : Fin cfg1.N), flush1_4 _, by
      have h := ((cfg1.win 4).blk (⟨0, by decide⟩ : Fin cfg1.N)).view.emb_mem_set i
      rwa [emb1_4] at h⟩

theorem blk2_0 (t : Fin cfg2.N) : iblk2 V c 0 t = V c main_v66 :=
  funext fun j => congrArg (V c main_v66) (same2 (p := 6272) (q := 32) ((cfg2.win 0).blk t).view.emb (fun _ => rfl) (fun _ => rfl) j)

theorem blk2_1 (t : Fin cfg2.N) : iblk2 V c 1 t = V c main_v68 :=
  funext fun j => congrArg (V c main_v68) (same2 (p := 32) (q := 64) ((cfg2.win 1).blk t).view.emb (fun _ => rfl) (fun _ => rfl) j)

theorem blk2_2 (t : Fin cfg2.N) : iblk2 V c 2 t = V c main_v71 :=
  funext fun j => congrArg (V c main_v71) (same2 (p := 1) (q := 64) ((cfg2.win 2).blk t).view.emb (fun _ => rfl) (fun _ => rfl) j)

theorem blk2_3 (t : Fin cfg2.N) : iblk2 V c 3 t = V c main_v72 :=
  funext fun j => congrArg (V c main_v72) (same2 (p := 1) (q := 64) ((cfg2.win 3).blk t).view.emb (fun _ => rfl) (fun _ => rfl) j)

theorem blk2_4 (t : Fin cfg2.N) : iblk2 V c 4 t = V c main_arg13 :=
  funext fun j => congrArg (V c main_arg13) (same2 (p := 512) (q := 64) ((cfg2.win 4).blk t).view.emb (fun _ => rfl) (fun _ => rfl) j)

theorem blk2_5 (t : Fin cfg2.N) : iblk2 V c 5 t = V c main_v73 :=
  funext fun j => congrArg (V c main_v73) (same2 (p := 64) (q := 512) ((cfg2.win 5).blk t).view.emb (fun _ => rfl) (fun _ => rfl) j)

theorem blk2_6 (t : Fin cfg2.N) : iblk2 V c 6 t = V c main_v70 :=
  funext fun j => congrArg (V c main_v70) (same2 (p := 64) (q := 32) ((cfg2.win 6).blk t).view.emb (fun _ => rfl) (fun _ => rfl) j)

theorem blk2_7 (t : Fin cfg2.N) : iblk2 V c 7 t = V c main_v74 :=
  funext fun j => congrArg (V c main_v74) (same2 (p := 1) (q := 32) ((cfg2.win 7).blk t).view.emb (fun _ => rfl) (fun _ => rfl) j)

theorem blk2_8 (t : Fin cfg2.N) : iblk2 V c 8 t = V c main_v75 :=
  funext fun j => congrArg (V c main_v75) (same2 (p := 1) (q := 32) ((cfg2.win 8).blk t).view.emb (fun _ => rfl) (fun _ => rfl) j)

theorem emb2_9 (t : Fin cfg2.N) (j : S6272x64.Idx) : ((cfg2.win 9).blk t).view.emb j = j :=
  same2 (p := 6272) (q := 64) ((cfg2.win 9).blk t).view.emb (fun _ => rfl) (fun _ => rfl) j

/-- The call leaves its function of the arrays it is given in `main_v76_0`. -/
theorem arr2_9 : (dat2 V c).arrAt 9 cfg2.N = out2_9 (V c main_v66) (V c main_v68) (V c main_v71) (V c main_v72) (V c main_arg13) (V c main_v73) (V c main_v70) (V c main_v74) (V c main_v75) :=
  (dat2 V c).arrAt_eq_of_cover 9 (out2_9 (V c main_v66) (V c main_v68) (V c main_v71) (V c main_v72) (V c main_arg13) (V c main_v73) (V c main_v70) (V c main_v74) (V c main_v75))
    (fun t _ => by
      show (cfg2.win 9).cut (grid2.coords t) ((dat2 V c).after 9 t) = _
      rw [after2_9, blk2_0, blk2_1, blk2_2, blk2_3, blk2_4, blk2_5, blk2_6, blk2_7, blk2_8]
      generalize out2_9 (V c main_v66) (V c main_v68) (V c main_v71) (V c main_v72) (V c main_arg13) (V c main_v73) (V c main_v70) (V c main_v74) (V c main_v75) = X
      funext j
      show X j = X (((cfg2.win 9).blk t).view.emb j)
      rw [emb2_9])
    fun i => ⟨(⟨0, by decide⟩ : Fin cfg2.N), flush2_9 _, by
      have h := ((cfg2.win 9).blk (⟨0, by decide⟩ : Fin cfg2.N)).view.emb_mem_set i
      rwa [emb2_9] at h⟩

theorem emb2_10 (t : Fin cfg2.N) (j : S6272x64.Idx) : ((cfg2.win 10).blk t).view.emb j = j :=
  same2 (p := 6272) (q := 64) ((cfg2.win 10).blk t).view.emb (fun _ => rfl) (fun _ => rfl) j

/-- The call leaves its function of the arrays it is given in `main_v76_1`. -/
theorem arr2_10 : (dat2 V c).arrAt 10 cfg2.N = out2_10 (V c main_v66) (V c main_v68) (V c main_v71) (V c main_v72) (V c main_arg13) (V c main_v73) (V c main_v70) (V c main_v74) (V c main_v75) :=
  (dat2 V c).arrAt_eq_of_cover 10 (out2_10 (V c main_v66) (V c main_v68) (V c main_v71) (V c main_v72) (V c main_arg13) (V c main_v73) (V c main_v70) (V c main_v74) (V c main_v75))
    (fun t _ => by
      show (cfg2.win 10).cut (grid2.coords t) ((dat2 V c).after 10 t) = _
      rw [after2_10, blk2_0, blk2_1, blk2_2, blk2_3, blk2_4, blk2_5, blk2_6, blk2_7, blk2_8]
      generalize out2_10 (V c main_v66) (V c main_v68) (V c main_v71) (V c main_v72) (V c main_arg13) (V c main_v73) (V c main_v70) (V c main_v74) (V c main_v75) = X
      funext j
      show X j = X (((cfg2.win 10).blk t).view.emb j)
      rw [emb2_10])
    fun i => ⟨(⟨0, by decide⟩ : Fin cfg2.N), flush2_10 _, by
      have h := ((cfg2.win 10).blk (⟨0, by decide⟩ : Fin cfg2.N)).view.emb_mem_set i
      rwa [emb2_10] at h⟩

theorem emb2_11 (t : Fin cfg2.N) (j : S6272x32.Idx) : ((cfg2.win 11).blk t).view.emb j = j :=
  same2 (p := 6272) (q := 32) ((cfg2.win 11).blk t).view.emb (fun _ => rfl) (fun _ => rfl) j

/-- The call leaves its function of the arrays it is given in `main_v76_2`. -/
theorem arr2_11 : (dat2 V c).arrAt 11 cfg2.N = out2_11 (V c main_v66) (V c main_v68) (V c main_v71) (V c main_v72) (V c main_arg13) (V c main_v73) (V c main_v70) (V c main_v74) (V c main_v75) :=
  (dat2 V c).arrAt_eq_of_cover 11 (out2_11 (V c main_v66) (V c main_v68) (V c main_v71) (V c main_v72) (V c main_arg13) (V c main_v73) (V c main_v70) (V c main_v74) (V c main_v75))
    (fun t _ => by
      show (cfg2.win 11).cut (grid2.coords t) ((dat2 V c).after 11 t) = _
      rw [after2_11, blk2_0, blk2_1, blk2_2, blk2_3, blk2_4, blk2_5, blk2_6, blk2_7, blk2_8]
      generalize out2_11 (V c main_v66) (V c main_v68) (V c main_v71) (V c main_v72) (V c main_arg13) (V c main_v73) (V c main_v70) (V c main_v74) (V c main_v75) = X
      funext j
      show X j = X (((cfg2.win 11).blk t).view.emb j)
      rw [emb2_11])
    fun i => ⟨(⟨0, by decide⟩ : Fin cfg2.N), flush2_11 _, by
      have h := ((cfg2.win 11).blk (⟨0, by decide⟩ : Fin cfg2.N)).view.emb_mem_set i
      rwa [emb2_11] at h⟩

end Regions

section Boundaries

variable (c : Dev nD)

theorem v41_eq : W6 m ρ c (Proc.devRef .tc main_v41) = out0_4 (W5 m ρ c (Proc.devRef .tc main_v35)) (W5 m ρ c (Proc.devRef .tc main_v38)) (W5 m ρ c (Proc.devRef .tc main_v39)) (W5 m ρ c (Proc.devRef .tc main_v40)) :=
  (W6_arr m ρ c 4).trans (arr0_4 (V5 m ρ) c)

theorem v66_eq : W10 m ρ c (Proc.devRef .tc main_v66) = out1_4 (W9 m ρ c (Proc.devRef .tc main_v61)) (W9 m ρ c (Proc.devRef .tc main_v63)) (W9 m ρ c (Proc.devRef .tc main_v64)) (W9 m ρ c (Proc.devRef .tc main_v65)) :=
  (W10_arr m ρ c 4).trans (arr1_4 (V9 m ρ) c)

theorem v76_0_eq : W12 m ρ c (Proc.devRef .tc main_v76_0) = out2_9 (W11 m ρ c (Proc.devRef .tc main_v66)) (W11 m ρ c (Proc.devRef .tc main_v68)) (W11 m ρ c (Proc.devRef .tc main_v71)) (W11 m ρ c (Proc.devRef .tc main_v72)) (W11 m ρ c (Proc.devRef .tc main_arg13)) (W11 m ρ c (Proc.devRef .tc main_v73)) (W11 m ρ c (Proc.devRef .tc main_v70)) (W11 m ρ c (Proc.devRef .tc main_v74)) (W11 m ρ c (Proc.devRef .tc main_v75)) :=
  (W12_arr m ρ c 9).trans (arr2_9 (V11 m ρ) c)

theorem v76_1_eq : W12 m ρ c (Proc.devRef .tc main_v76_1) = out2_10 (W11 m ρ c (Proc.devRef .tc main_v66)) (W11 m ρ c (Proc.devRef .tc main_v68)) (W11 m ρ c (Proc.devRef .tc main_v71)) (W11 m ρ c (Proc.devRef .tc main_v72)) (W11 m ρ c (Proc.devRef .tc main_arg13)) (W11 m ρ c (Proc.devRef .tc main_v73)) (W11 m ρ c (Proc.devRef .tc main_v70)) (W11 m ρ c (Proc.devRef .tc main_v74)) (W11 m ρ c (Proc.devRef .tc main_v75)) :=
  (W12_arr m ρ c 10).trans (arr2_10 (V11 m ρ) c)

theorem v76_2_eq : W12 m ρ c (Proc.devRef .tc main_v76_2) = out2_11 (W11 m ρ c (Proc.devRef .tc main_v66)) (W11 m ρ c (Proc.devRef .tc main_v68)) (W11 m ρ c (Proc.devRef .tc main_v71)) (W11 m ρ c (Proc.devRef .tc main_v72)) (W11 m ρ c (Proc.devRef .tc main_arg13)) (W11 m ρ c (Proc.devRef .tc main_v73)) (W11 m ρ c (Proc.devRef .tc main_v70)) (W11 m ρ c (Proc.devRef .tc main_v74)) (W11 m ρ c (Proc.devRef .tc main_v75)) :=
  (W12_arr m ρ c 11).trans (arr2_11 (V11 m ρ) c)

end Boundaries

end Cert.Proof.Ker

end
-- ==== Proof.Spec.lean ====
/- The network over the real numbers: the convolutions, the batch normalization, the nearest codebook row, and the facts of
   the extended reals that read the programs' operations as real ones. -/
module

public import Idealize.ShloMosaic.PureOps.Ideal
public import Idealize.ShloMosaic.Lib.Pointwise

@[expose] public section

noncomputable section

namespace Cert.Proof.Spec

open Idealize.ShloMosaic

/-! ## Real operations among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

theorem coe_max_zero (x : ℝ) : max (x : EReal) 0 = ((max x 0 : ℝ) : EReal) := by
  rw [← EReal.coe_zero, coe_max]

theorem div_coe (x y : ℝ) (h : y ≠ 0) : Ideal.div (x : EReal) (y : EReal) = ((x / y : ℝ) : EReal) := by
  rw [Ideal.div_coe h, ← EReal.coe_mul, mul_one_div]

theorem sqrt_coe (x : ℝ) (h : 0 ≤ x) : Ideal.sqrt (x : EReal) = ((√x : ℝ) : EReal) := by
  show (if x < 0 then _ else _) = _
  rw [if_neg (not_lt.mpr h)]

theorem rsqrt_coe (x : ℝ) (h : 0 < x) : Ideal.rsqrt (x : EReal) = (((√x)⁻¹ : ℝ) : EReal) := by
  show (if x < 0 then _ else if x = 0 then _ else _) = _
  rw [if_neg (not_lt.mpr h.le), if_neg h.ne']

theorem coe_dite {p : Prop} [Decidable p] (f : p → ℝ) :
    (if h : p then ((f h : ℝ) : EReal) else 0) = ((if h : p then f h else 0 : ℝ) : EReal) := by
  split <;> simp

/-- The small number under the square root, as a real. -/
def eps : ℝ := 10995116 / 2 ^ 40

theorem eps_pos : 0 < eps := by unfold eps; positivity

theorem ofBits_eps : Ideal.ofBits .f32 925353388#32 = ((eps : ℝ) : EReal) := by
  simp [Ideal.ofBits, Ideal.ieee, eps]
  rw [← EReal.coe_mul]
  norm_num

/-- A sum over the images and both axes of a channel. -/
theorem hostReduceAdd_channel {n c p q : ℕ} (h : (⟨4, ![n, c, p, q]⟩ : Shape).ReducesTo [0, 2, 3] ⟨1, ![c]⟩)
    (x : (⟨4, ![n, c, p, q]⟩ : Shape).Idx → EReal) (init : EReal) (o : Fin c) :
    Ideal.hostReduceAdd h x init (ix1 o) = init + ∑ b : Fin n, ∑ i : Fin p, ∑ j : Fin q, x (ix4 b o i j) := by
  unfold Ideal.hostReduceAdd
  congr 1
  have hd : ∀ i : (⟨4, ![n, c, p, q]⟩ : Shape).Idx, h.drop i = ix1 o ↔ i 1 = o := by
    intro i
    constructor
    · intro e
      have := congrFun e 0
      exact Fin.ext (congrArg Fin.val this)
    · rintro rfl
      funext k
      fin_cases k
      rfl
  have e : ∑ b : Fin n, ∑ i : Fin p, ∑ j : Fin q, x (ix4 b o i j)
      = ∑ t : Fin n × Fin p × Fin q, x (ix4 t.1 o t.2.1 t.2.2) := by
    simp only [Fintype.sum_prod_type]
  rw [e]
  refine Finset.sum_nbij' (fun i => ((i 0 : Fin n), (i 2 : Fin p), (i 3 : Fin q))) (fun t => ix4 t.1 o t.2.1 t.2.2) ?_ ?_ ?_ ?_ ?_
  · intro i _; exact Finset.mem_univ _
  · intro t _
    rw [Finset.mem_filter]
    exact ⟨Finset.mem_univ _, (hd _).mpr rfl⟩
  · intro i hi
    have := (hd i).mp (Finset.mem_filter.mp hi).2
    subst this
    funext k
    fin_cases k <;> rfl
  · intro t _; rfl
  · intro i hi
    have := (hd i).mp (Finset.mem_filter.mp hi).2
    subst this
    congr 1
    funext k
    fin_cases k <;> rfl

/-! ## Batch normalization -/

section
variable {ι : Type} [Fintype ι]

/-- The mean of a channel. -/
def mean (y : ι → ℝ) : ℝ := (∑ i, y i) / Fintype.card ι

/-- The mean squared deviation of a channel. -/
def var (y : ι → ℝ) : ℝ := (∑ i, (y i - mean y) * (y i - mean y)) / Fintype.card ι

/-- A channel normalized, scaled and shifted. -/
def bn (y : ι → ℝ) (g be : ℝ) (i : ι) : ℝ := (y i - mean y) / √(var y + eps) * g + be

theorem var_nonneg (y : ι → ℝ) : 0 ≤ var y :=
  div_nonneg (Finset.sum_nonneg fun i _ => mul_self_nonneg _) (Nat.cast_nonneg _)

theorem mean_add [Nonempty ι] (y : ι → ℝ) (c : ℝ) : mean (fun i => y i + c) = mean y + c := by
  unfold mean
  have : (Fintype.card ι : ℝ) ≠ 0 := by exact_mod_cast Fintype.card_ne_zero
  rw [Finset.sum_add_distrib, Finset.sum_const, Finset.card_univ, nsmul_eq_mul]
  field_simp

/-- A constant added to a channel does not change its normalization. -/
theorem bn_add [Nonempty ι] (y : ι → ℝ) (c g be : ℝ) : bn (fun i => y i + c) g be = bn y g be := by
  funext i
  unfold bn var
  simp only [mean_add, add_sub_add_right_eq_sub]

/-- The mean squared deviation is the mean square less the square of the mean. -/
theorem var_eq [Nonempty ι] (y : ι → ℝ) : var y = (∑ i, y i * y i) / Fintype.card ι - mean y * mean y := by
  have hN : (Fintype.card ι : ℝ) ≠ 0 := by exact_mod_cast Fintype.card_ne_zero
  have hs : ∑ i, y i = mean y * Fintype.card ι := by unfold mean; field_simp
  unfold var
  have : ∀ i, (y i - mean y) * (y i - mean y) = y i * y i - 2 * mean y * y i + mean y * mean y := fun i => by ring
  simp only [this, Finset.sum_add_distrib, Finset.sum_sub_distrib, ← Finset.mul_sum, Finset.sum_const, Finset.card_univ,
    nsmul_eq_mul, hs]
  field_simp
  ring

/-- The normalization as one scale and one shift of the channel. -/
theorem bn_scale (y : ι → ℝ) (g be : ℝ) (i : ι) :
    y i * ((√(var y + eps))⁻¹ * g) + (be - mean y * ((√(var y + eps))⁻¹ * g)) = bn y g be i := by
  unfold bn
  rw [div_eq_mul_inv]
  ring

/-- A channel's normalization does not depend on how its positions are named. -/
theorem bn_equiv {κ : Type} [Fintype κ] (e : κ ≃ ι) (y : ι → ℝ) (g be : ℝ) (k : κ) :
    bn (fun k => y (e k)) g be k = bn y g be (e k) := by
  have hm : mean (fun k => y (e k)) = mean y := by
    unfold mean
    rw [Equiv.sum_comp e y, Fintype.card_congr e]
  have hv : var (fun k => y (e k)) = var y := by
    unfold var
    rw [hm, Equiv.sum_comp e fun i => (y i - mean y) * (y i - mean y), Fintype.card_congr e]
  unfold bn
  rw [hm, hv]

end

/-! ## The layers -/

/-- An image batch of `c` channels of `n × n`. -/
abbrev Img (c n : ℕ) : Type := Fin 2 → Fin c → Fin n → Fin n → ℝ

/-- An image with a border of zeros. -/
def pad {n : ℕ} (x : Fin n → Fin n → ℝ) (i j : ℕ) : ℝ :=
  if h : (1 ≤ i ∧ i - 1 < n) ∧ 1 ≤ j ∧ j - 1 < n then x ⟨i - 1, h.1.2⟩ ⟨j - 1, h.2.2⟩ else 0

/-- A convolution by 4 × 4 windows at stride two, over images padded by one. -/
def conv {c o n m : ℕ} (x : Img c n) (w : Fin o → Fin c → Fin 4 → Fin 4 → ℝ) : Img o m := fun b k h u =>
  ∑ i : Fin 4, ∑ j : Fin 4, ∑ a, w k a i j * pad (x b a) (i + 2 * h) (j + 2 * u)

/-- A product over the channels at each position. -/
def mix {c o n : ℕ} (x : Img c n) (w : Fin o → Fin c → ℝ) : Img o n := fun b k h u => ∑ a, w k a * x b a h u

/-- The positions of a channel. -/
abbrev Pix (n : ℕ) : Type := Fin 2 × Fin n × Fin n

/-- The positions of a `56 × 56` channel as the rows of a matrix. -/
def pix56 : Fin 6272 ≃ Pix 56 where
  toFun r := (⟨r / 3136, by omega⟩, ⟨r / 56 % 56, by omega⟩, ⟨r % 56, by omega⟩)
  invFun p := ⟨p.1 * 3136 + p.2.1 * 56 + p.2.2, by omega⟩
  left_inv r := Fin.ext (by simp only []; omega)
  right_inv p := by
    obtain ⟨b, h, u⟩ := p
    refine Prod.ext (Fin.ext ?_) (Prod.ext (Fin.ext ?_) (Fin.ext ?_)) <;> simp only [] <;> omega

/-- The positions of a `112 × 112` channel in rows of eight. -/
def pix112 : Fin 3136 × Fin 8 ≃ Pix 112 where
  toFun r := (⟨(r.1 * 8 + r.2) / 12544, by omega⟩, ⟨(r.1 * 8 + r.2) / 112 % 112, by omega⟩, ⟨(r.1 * 8 + r.2) % 112, by omega⟩)
  invFun p := (⟨(p.1 * 12544 + p.2.1 * 112 + p.2.2) / 8, by omega⟩, ⟨(p.1 * 12544 + p.2.1 * 112 + p.2.2) % 8, by omega⟩)
  left_inv r := by
    obtain ⟨a, s⟩ := r
    refine Prod.ext (Fin.ext ?_) (Fin.ext ?_) <;> simp only [] <;> omega
  right_inv p := by
    obtain ⟨b, h, u⟩ := p
    refine Prod.ext (Fin.ext ?_) (Prod.ext (Fin.ext ?_) (Fin.ext ?_)) <;> simp only [] <;> omega

/-- Images of `56 × 56` as rows, one for each position. -/
def rows {c : ℕ} (y : Img c 56) (r : Fin 6272) (k : Fin c) : ℝ := y (pix56 r).1 k (pix56 r).2.1 (pix56 r).2.2

/-- Batch normalization, channel by channel. -/
def norm {c n : ℕ} (y : Img c n) (g be : Fin c → ℝ) : Img c n := fun b k h u =>
  bn (fun p : Pix n => y p.1 k p.2.1 p.2.2) (g k) (be k) (b, h, u)

/-- The positive part. -/
def relu {c n : ℕ} (y : Img c n) : Img c n := fun b k h u => max (y b k h u) 0

/-- A constant added to every channel. -/
def bias {c n : ℕ} (y : Img c n) (s : Fin c → ℝ) : Img c n := fun b k h u => y b k h u + s k

theorem norm_bias {c n : ℕ} [NeZero n] (y : Img c n) (s g be : Fin c → ℝ) : norm (bias y s) g be = norm y g be := by
  funext b k h u
  exact congrFun (bn_add (fun p : Pix n => y p.1 k p.2.1 p.2.2) (s k) (g k) (be k)) (b, h, u)

/-- What the reference's normalization computes of a channel of reals is the normalization. -/
theorem norm_read {c n : ℕ} [NeZero n] (y : Img c n) (g be : Fin c → ℝ) (N : EReal) (hN : N = ((2 * n * n : ℝ) : EReal))
    (b : Fin 2) (k : Fin c) (h u : Fin n) :
    Ideal.div ((y b k h u : EReal) - Ideal.div (∑ b : Fin 2, ∑ h : Fin n, ∑ u : Fin n, (y b k h u : EReal)) N)
      (Ideal.sqrt (Ideal.div (∑ b : Fin 2, ∑ h : Fin n, ∑ u : Fin n,
        ((y b k h u : EReal) - Ideal.div (∑ b : Fin 2, ∑ h : Fin n, ∑ u : Fin n, (y b k h u : EReal)) N)
        * ((y b k h u : EReal) - Ideal.div (∑ b : Fin 2, ∑ h : Fin n, ∑ u : Fin n, (y b k h u : EReal)) N)) N
        + ((eps : ℝ) : EReal))) * (g k : EReal) + (be k : EReal) = ((norm y g be b k h u : ℝ) : EReal) := by
  subst hN
  have hn : (2 * n * n : ℝ) ≠ 0 := by
    have : (n : ℝ) ≠ 0 := by exact_mod_cast NeZero.ne n
    positivity
  have hm : (∑ b : Fin 2, ∑ h : Fin n, ∑ u : Fin n, y b k h u) / (2 * n * n : ℝ)
      = mean (fun p : Pix n => y p.1 k p.2.1 p.2.2) := by
    unfold mean
    simp [Fintype.sum_prod_type, mul_assoc]
  have hv : (∑ b : Fin 2, ∑ h : Fin n, ∑ u : Fin n, (y b k h u - mean (fun p : Pix n => y p.1 k p.2.1 p.2.2))
      * (y b k h u - mean (fun p : Pix n => y p.1 k p.2.1 p.2.2))) / (2 * n * n : ℝ)
      = var (fun p : Pix n => y p.1 k p.2.1 p.2.2) := by
    unfold var
    simp [Fintype.sum_prod_type, mul_assoc]
  have hp := var_nonneg (fun p : Pix n => y p.1 k p.2.1 p.2.2)
  have he := eps_pos
  simp only [coe_sum, div_coe _ _ hn, hm, ← EReal.coe_sub, ← EReal.coe_mul, hv, ← EReal.coe_add]
  rw [sqrt_coe _ (by linarith), div_coe _ _ (Real.sqrt_ne_zero'.mpr (by linarith)), ← EReal.coe_mul, ← EReal.coe_add]
  rfl

/-! ## The nearest codebook row -/

/-- The first of the places where `d` is least. -/
def IsFirst {n : ℕ} (d : Fin n → ℝ) (k : Fin n) : Prop := (∀ j, d k ≤ d j) ∧ ∀ j, j < k → d k < d j

theorem IsFirst.unique {n : ℕ} {d : Fin n → ℝ} {k l : Fin n} (hk : IsFirst d k) (hl : IsFirst d l) : k = l := by
  rcases lt_trichotomy k l with h | h | h
  · exact absurd (hl.2 k h) (not_lt.mpr (hk.1 l))
  · exact h
  · exact absurd (hk.2 l h) (not_lt.mpr (hl.1 k))

/-- Adding a constant does not move the first least place. -/
theorem IsFirst.of_add {n : ℕ} {d e : Fin n → ℝ} {k : Fin n} (c : ℝ) (h : ∀ j, e j = d j + c) (hk : IsFirst e k) : IsFirst d k := by
  constructor
  · intro j; have := hk.1 j; rw [h, h] at this; linarith
  · intro j hj; have := hk.2 j hj; rw [h, h] at this; linarith

/-- The squared distance of a position's vector to a codebook row. -/
def dist {c k n : ℕ} (z : Img c n) (e : Fin k → Fin c → ℝ) (b : Fin 2) (h u : Fin n) (r : Fin k) : ℝ :=
  ∑ a, (z b a h u - e r a) * (z b a h u - e r a)

theorem dist_eq {c k n : ℕ} (z : Img c n) (e : Fin k → Fin c → ℝ) (b : Fin 2) (h u : Fin n) (r : Fin k) :
    dist z e b h u r = ((∑ a, e r a * e r a) - 2 * ∑ a, z b a h u * e r a) + ∑ a, z b a h u * z b a h u := by
  unfold dist
  rw [Finset.mul_sum, ← Finset.sum_sub_distrib, ← Finset.sum_add_distrib]
  exact Finset.sum_congr rfl fun a _ => by ring

theorem exists_first {n : ℕ} [NeZero n] (d : Fin n → ℝ) : ∃ k, IsFirst d k := by
  obtain ⟨k, -, hk⟩ := Finset.exists_min_image (Finset.univ : Finset (Fin n)) (fun k => toLex (d k, k)) ⟨0, Finset.mem_univ 0⟩
  refine ⟨k, fun j => ?_, fun j hj => ?_⟩
  · have h := (Prod.Lex.le_iff).mp (hk j (Finset.mem_univ j))
    rcases h with h | h
    · exact le_of_lt h
    · exact le_of_eq h.1
  · have h := (Prod.Lex.le_iff).mp (hk j (Finset.mem_univ j))
    rcases h with h | h
    · exact h
    · exact absurd hj (not_lt.mpr h.2)

/-- The first nearest codebook row of a position. -/
def near {c k n : ℕ} [NeZero k] (z : Img c n) (e : Fin k → Fin c → ℝ) (b : Fin 2) (h u : Fin n) : Fin k :=
  (exists_first (dist z e b h u)).choose

theorem near_first {c k n : ℕ} [NeZero k] (z : Img c n) (e : Fin k → Fin c → ℝ) (b : Fin 2) (h u : Fin n) :
    IsFirst (dist z e b h u) (near z e b h u) := (exists_first (dist z e b h u)).choose_spec

/-- Each position's nearest codebook row. -/
def quant {c k n : ℕ} [NeZero k] (z : Img c n) (e : Fin k → Fin c → ℝ) : Img c n := fun b a h u => e (near z e b h u) a

/-! ## The network -/

/-- The arguments of the network, as real numbers. -/
structure Net where
  x : Img 1 224
  w1 : Fin 16 → Fin 1 → Fin 4 → Fin 4 → ℝ
  b1 : Fin 16 → ℝ
  g1 : Fin 16 → ℝ
  be1 : Fin 16 → ℝ
  w2 : Fin 32 → Fin 16 → Fin 4 → Fin 4 → ℝ
  b2 : Fin 32 → ℝ
  g2 : Fin 32 → ℝ
  be2 : Fin 32 → ℝ
  w3 : Fin 64 → Fin 32 → ℝ
  b3 : Fin 64 → ℝ
  g3 : Fin 64 → ℝ
  be3 : Fin 64 → ℝ
  emb : Fin 512 → Fin 64 → ℝ
  w4 : Fin 32 → Fin 64 → ℝ
  b4 : Fin 32 → ℝ
  g4 : Fin 32 → ℝ
  be4 : Fin 32 → ℝ

namespace Net
variable (N : Net)

/-- The first hidden layer. -/
def h1 : Img 16 112 := relu (norm (conv N.x N.w1) N.g1 N.be1)
/-- The second hidden layer. -/
def h2 : Img 32 56 := relu (norm (conv N.h1 N.w2) N.g2 N.be2)
/-- The encoding, `z_e_x`. -/
def ze : Img 64 56 := norm (mix N.h2 N.w3) N.g3 N.be3
/-- The quantized encoding, `z_q_x`. -/
def zq : Img 64 56 := quant N.ze N.emb
/-- The first layer of the decoder. -/
def d1 : Img 32 56 := relu (norm (mix N.zq N.w4) N.g4 N.be4)

end Net

end Cert.Proof.Spec
end
-- ==== Proof.KerConv.lean ====
/- The kernel's convolution calls over the real numbers: a product of matrices, normalized over its rows and rectified. -/
module

public import proofs.«01_k».proof.Proof.KerRun
public import proofs.«01_k».proof.Proof.Spec
public import Idealize.ShloMosaic.Lib.Pointwise
public import Idealize.ShloMosaic.Lib.MatmulPlain

@[expose] public section

set_option maxRecDepth 16384

noncomputable section

namespace Cert.Proof.Ker

open Idealize.ShloMosaic Idealize.SL.Sem Cert.KernelIdeal Cert.KernelIdeal.Gen Cert.Proof.Spec

/-- The contents of a rank-two buffer are the real matrix `x`. -/
def Is2 {a b : ℕ} (X : (⟨2, ![a, b]⟩ : Shape).Idx → EReal) (x : Fin a → Fin b → ℝ) : Prop :=
  ∀ i j, X (ix2 i j) = ((x i j : ℝ) : EReal)

/-- The matrix product. -/
def prod {n a c : ℕ} (p : Fin n → Fin a → ℝ) (w : Fin a → Fin c → ℝ) (r : Fin n) (k : Fin c) : ℝ := ∑ i, p r i * w i k

theorem ofBits_rows : Ideal.ofBits .f32 1170472960#32 = ((Fintype.card (Fin 6272) : ℝ) : EReal) := by
  rw [Fintype.card_fin]
  simp [Ideal.ofBits, Ideal.ieee]
  rw [← EReal.coe_mul]
  norm_num

/-- The normalization as the kernel computes it, from the mean of the squares, is the normalization. -/
theorem bn_read {ι : Type} [Fintype ι] [Nonempty ι] (y : ι → ℝ) (g be : ℝ) (i : ι) (M Q : EReal)
    (hM : M = ((mean y : ℝ) : EReal)) (hQ : Q = (((∑ j, y j * y j) / Fintype.card ι : ℝ) : EReal)) :
    (y i : EReal) * (Ideal.rsqrt (Q - M * M + ((eps : ℝ) : EReal)) * (g : EReal))
        + ((be : EReal) - M * (Ideal.rsqrt (Q - M * M + ((eps : ℝ) : EReal)) * (g : EReal)))
      = ((bn y g be i : ℝ) : EReal) := by
  have hv : Q - M * M + ((eps : ℝ) : EReal) = ((var y + eps : ℝ) : EReal) := by
    rw [hM, hQ, var_eq, ← EReal.coe_mul, ← EReal.coe_sub, ← EReal.coe_add]
  rw [hv, rsqrt_coe _ (add_pos_of_nonneg_of_pos (var_nonneg y) eps_pos), hM, ← EReal.coe_mul, ← EReal.coe_mul, ← EReal.coe_mul,
    ← EReal.coe_sub, ← EReal.coe_add, bn_scale]

theorem mean_read {ι : Type} [Fintype ι] [Nonempty ι] (y : ι → ℝ) (N : EReal) (hN : N = ((Fintype.card ι : ℝ) : EReal)) :
    Ideal.div ((∑ i, y i : ℝ) : EReal) N = (((∑ i, y i) / Fintype.card ι : ℝ) : EReal) := by
  rw [hN, div_coe _ _ (Nat.cast_ne_zero.mpr Fintype.card_ne_zero)]

theorem pay1_1 (x0 : Vec Ideal S6272x256 .f32) (x1 : Vec Ideal S256x32 .f32) (x2 x3 : Vec Ideal S1x32 .f32)
    (p : Fin 6272 → Fin 256 → ℝ) (w : Fin 256 → Fin 32 → ℝ) (g be : Fin 1 → Fin 32 → ℝ)
    (h0 : Is2 x0 p) (h1 : Is2 x1 w) (h2 : Is2 x2 g) (h3 : Is2 x3 be) :
    Is2 (k1_pay1 x0 x1 x2 x3) (fun r k => max (bn (fun r => prod p w r k) (g 0 k) (be 0 k) r) 0) := by
  intro r k
  unfold k1_pay1
  pointwise
  simp only [h0 _ _, h1 _ _, h2 _ _, h3 _ _, ← EReal.coe_mul, coe_sum, ofBits_eps]
  rw [← coe_max_zero]
  congr 1
  exact bn_read (fun r => prod p w r k) (g 0 k) (be 0 k) r _ _
    (mean_read _ _ ofBits_rows) (mean_read _ _ ofBits_rows)

theorem pay2_2 (x0 : Vec Ideal S6272x32 .f32) (x1 : Vec Ideal S32x64 .f32) (x2 x3 : Vec Ideal S1x64 .f32)
    (p : Fin 6272 → Fin 32 → ℝ) (w : Fin 32 → Fin 64 → ℝ) (g be : Fin 1 → Fin 64 → ℝ)
    (h0 : Is2 x0 p) (h1 : Is2 x1 w) (h2 : Is2 x2 g) (h3 : Is2 x3 be) :
    Is2 (k2_pay2 x0 x1 x2 x3) (fun r k => bn (fun r => prod p w r k) (g 0 k) (be 0 k) r) := by
  intro r k
  unfold k2_pay2
  pointwise
  simp only [h0 _ _, h1 _ _, h2 _ _, h3 _ _, ← EReal.coe_mul, coe_sum, ofBits_eps]
  exact bn_read (fun r => prod p w r k) (g 0 k) (be 0 k) r _ _ (mean_read _ _ ofBits_rows) (mean_read _ _ ofBits_rows)

/-- The lane of channel `k` of the pixel `s` of a row. -/
def lane (s : Fin 8) (k : Fin 16) : Fin 128 := ⟨16 * s.val + k.val, by omega⟩

theorem pay0_2 (x0 : Vec Ideal S3136x128 .f32) (x1 : Vec Ideal S128x128 .f32) (p : Fin 3136 → Fin 128 → ℝ) (w : Fin 128 → Fin 128 → ℝ)
    (h0 : Is2 x0 p) (h1 : Is2 x1 w) : Is2 (k0_pay2 x0 x1) (prod p w) := by
  intro r k
  unfold k0_pay2
  pointwise
  simp only [h0 _ _, h1 _ _, ← EReal.coe_mul, coe_sum]
  rfl

theorem ofBits_3136 : Ideal.ofBits .f32 1162084352#32 = ((3136 : ℝ) : EReal) := by
  simp [Ideal.ofBits, Ideal.ieee]
  rw [← EReal.coe_mul]
  norm_num

theorem ofBits_eighth : Ideal.ofBits .f32 1040187392#32 = ((8⁻¹ : ℝ) : EReal) := by
  simp [Ideal.ofBits, Ideal.ieee]
  rw [← EReal.coe_mul]
  norm_num

/-- Eight copies of a row of sixteen, read at a lane. -/
theorem tiled (A : Fin 16 → EReal) (s : Fin 8) (k : Fin 16) :
    (if h : (lane s k).val < 16 then A ⟨(lane s k).val, h⟩
      else if h : (lane s k).val - 16 < 16 then A ⟨(lane s k).val - 16, h⟩
      else if h : (lane s k).val - 16 - 16 < 16 then A ⟨(lane s k).val - 16 - 16, h⟩
      else if h : (lane s k).val - 16 - 16 - 16 < 16 then A ⟨(lane s k).val - 16 - 16 - 16, h⟩
      else if h : (lane s k).val - 16 - 16 - 16 - 16 < 16 then A ⟨(lane s k).val - 16 - 16 - 16 - 16, h⟩
      else if h : (lane s k).val - 16 - 16 - 16 - 16 - 16 < 16 then A ⟨(lane s k).val - 16 - 16 - 16 - 16 - 16, h⟩
      else if h : (lane s k).val - 16 - 16 - 16 - 16 - 16 - 16 < 16 then A ⟨(lane s k).val - 16 - 16 - 16 - 16 - 16 - 16, h⟩
      else A ⟨(lane s k).val - 16 - 16 - 16 - 16 - 16 - 16 - 16, by have := (lane s k).isLt; omega⟩) = A k := by
  have hl : (lane s k).val = 16 * s.val + k.val := rfl
  split_ifs <;> exact congrArg A (Fin.ext (by simp only []; omega))

theorem sum_lanes (y : Fin 3136 → Fin 128 → ℝ) (k : Fin 16) :
    ((∑ r, y r (lane 0 k)) / 3136 + (∑ r, y r (lane 1 k)) / 3136 + (∑ r, y r (lane 2 k)) / 3136 + (∑ r, y r (lane 3 k)) / 3136
      + (∑ r, y r (lane 4 k)) / 3136 + (∑ r, y r (lane 5 k)) / 3136 + (∑ r, y r (lane 6 k)) / 3136 + (∑ r, y r (lane 7 k)) / 3136) * 8⁻¹
      = (∑ q : Fin 3136 × Fin 8, y q.1 (lane q.2 k)) / Fintype.card (Fin 3136 × Fin 8) := by
  rw [Fintype.sum_prod_type_right, Fin.sum_univ_eight, Fintype.card_prod, Fintype.card_fin, Fintype.card_fin]
  push_cast
  ring

theorem pay0_6 (x0 : Vec Ideal S3136x128 .f32) (x1 : Vec Ideal S128x128 .f32) (y : Fin 3136 → Fin 128 → ℝ)
    (hy : Is2 (k0_pay2 x0 x1) y) : Is2 (k0_pay6 x0 x1) (fun _ k => mean (fun q : Fin 3136 × Fin 8 => y q.1 (lane q.2 k))) := by
  intro r k
  unfold k0_pay6
  generalize k0_pay2 x0 x1 = Y at hy
  pointwise
  simp only [hy _ _, coe_sum, ofBits_3136, ofBits_eighth]
  simp only [div_coe _ _ (by norm_num : (3136:ℝ) ≠ 0), ← EReal.coe_mul, ← EReal.coe_add]
  refine congrArg _ (Eq.trans ?_ (sum_lanes y k))
  rw [show (⟨k.val, by omega⟩ : Fin 128) = lane 0 k from Fin.ext (by show k.val = 16 * 0 + k.val; omega)]
  rfl

theorem pay0_5 (x0 : Vec Ideal S3136x128 .f32) (x1 : Vec Ideal S128x128 .f32) (y : Fin 3136 → Fin 128 → ℝ)
    (hy : Is2 (k0_pay2 x0 x1) y) : Is2 (k0_pay5 x0 x1) (fun _ l => (∑ r, y r l * y r l) / 3136) := by
  intro r l
  unfold k0_pay5
  generalize k0_pay2 x0 x1 = Y at hy
  pointwise
  simp only [hy _ _, ← EReal.coe_mul, coe_sum, ofBits_3136, div_coe _ _ (by norm_num : (3136:ℝ) ≠ 0)]

theorem pay0_7 (x0 : Vec Ideal S3136x128 .f32) (x1 : Vec Ideal S128x128 .f32) (q : Fin 1 → Fin 128 → ℝ)
    (hq : Is2 (k0_pay5 x0 x1) q) : Is2 (k0_pay7 x0 x1) (fun _ k => q 0 (lane 0 k) + q 0 (lane 1 k) + q 0 (lane 2 k)) := by
  intro r k
  unfold k0_pay7
  generalize k0_pay5 x0 x1 = Y at hq
  pointwise
  simp only [hq _ _, ← EReal.coe_add]
  rw [show (⟨k.val, by omega⟩ : Fin 128) = lane 0 k from Fin.ext (by show k.val = 16 * 0 + k.val; omega)]
  rfl

/-- Rows of eight pixels scaled and shifted channel by channel, and rectified. -/
def spread (v4 : FVec Ideal S3136x128 .f32) (A B : FVec Ideal S1x16 .f32) : FVec Ideal S3136x128 .f32 :=
  maximumf (addf (mulf v4 (broadcastTo S3136x128 (concatenate S1x128 1 [⟨S1x16, A⟩, ⟨S1x16, A⟩, ⟨S1x16, A⟩, ⟨S1x16, A⟩, ⟨S1x16, A⟩, ⟨S1x16, A⟩, ⟨S1x16, A⟩, ⟨S1x16, A⟩]
      concatenates_S1x16_S1x16_S1x16_S1x16_S1x16_S1x16_S1x16_S1x16_S1x128_d1) broadcasts_S1x128_S3136x128))
    (broadcastTo S3136x128 (concatenate S1x128 1 [⟨S1x16, B⟩, ⟨S1x16, B⟩, ⟨S1x16, B⟩, ⟨S1x16, B⟩, ⟨S1x16, B⟩, ⟨S1x16, B⟩, ⟨S1x16, B⟩, ⟨S1x16, B⟩]
      concatenates_S1x16_S1x16_S1x16_S1x16_S1x16_S1x16_S1x16_S1x16_S1x128_d1) broadcasts_S1x128_S3136x128))
    (broadcast S3136x128 (Scalar.ofBits (F := Ideal) .f32 0x00000000#32))

/-- The scale of each channel, from its mean and the mean of its squares. -/
def scale (v6 : FVec Ideal S1x16 .f32) (v17 : FVec Ideal S1x128 .f32) (v36 v43 : FVec Ideal S1x16 .f32) : FVec Ideal S1x16 .f32 :=
  mulf (rsqrt (addf (subf (mulf (addf (addf (addf (addf (addf v43
      (extractStridedSlice S1x16 ![0, 48] v17 slices_S1x128_o0_48_S1x16)) (extractStridedSlice S1x16 ![0, 64] v17 slices_S1x128_o0_64_S1x16))
      (extractStridedSlice S1x16 ![0, 80] v17 slices_S1x128_o0_80_S1x16)) (extractStridedSlice S1x16 ![0, 96] v17 slices_S1x128_o0_96_S1x16))
      (extractStridedSlice S1x16 ![0, 112] v17 slices_S1x128_o0_112_S1x16)) (broadcast S1x16 (Scalar.ofBits (F := Ideal) .f32 0x3E000000#32))) (mulf v36 v36))
    (broadcast S1x16 (Scalar.ofBits (F := Ideal) .f32 0x3727C5AC#32)))) v6

theorem spread_apply (v4 : FVec Ideal S3136x128 .f32) (A B : FVec Ideal S1x16 .f32) (r : Fin 3136) (s : Fin 8) (k : Fin 16) :
    spread v4 A B (ix2 r (lane s k)) = max (v4 (ix2 r (lane s k)) * A (ix2 0 k) + B (ix2 0 k)) 0 := by
  unfold spread
  pointwise
  rw [tiled (fun k => A (ix2 0 k)), tiled (fun k => B (ix2 0 k))]

theorem pay0_1 (v4 : FVec Ideal S3136x128 .f32) (v6 v8 : FVec Ideal S1x16 .f32) (v17 : FVec Ideal S1x128 .f32) (v36 v43 : FVec Ideal S1x16 .f32)
    (y : Fin 3136 → Fin 128 → ℝ) (g be : Fin 1 → Fin 16 → ℝ) (h4 : Is2 v4 y) (h6 : Is2 v6 g) (h8 : Is2 v8 be)
    (h17 : Is2 v17 (fun _ l => (∑ r, y r l * y r l) / 3136))
    (h36 : Is2 v36 (fun _ k => mean (fun q : Fin 3136 × Fin 8 => y q.1 (lane q.2 k))))
    (h43 : Is2 v43 (fun _ k => (∑ r, y r (lane 0 k) * y r (lane 0 k)) / 3136 + (∑ r, y r (lane 1 k) * y r (lane 1 k)) / 3136
      + (∑ r, y r (lane 2 k) * y r (lane 2 k)) / 3136))
    (r : Fin 3136) (s : Fin 8) (k : Fin 16) :
    k0_pay1 v4 v6 v8 v17 v36 v43 (ix2 r (lane s k))
      = ((max (bn (fun q : Fin 3136 × Fin 8 => y q.1 (lane q.2 k)) (g 0 k) (be 0 k) (r, s)) 0 : ℝ) : EReal) := by
  have hs : scale v6 v17 v36 v43 (ix2 0 k) = Ideal.rsqrt ((((∑ q : Fin 3136 × Fin 8, y q.1 (lane q.2 k) * y q.1 (lane q.2 k)) /
        Fintype.card (Fin 3136 × Fin 8) : ℝ) : EReal)
      - ((mean (fun q : Fin 3136 × Fin 8 => y q.1 (lane q.2 k)) : ℝ) : EReal) * ((mean (fun q : Fin 3136 × Fin 8 => y q.1 (lane q.2 k)) : ℝ) : EReal)
      + ((eps : ℝ) : EReal)) * (g 0 k : EReal) := by
    unfold scale
    pointwise
    simp only [h6 _ _, h17 _ _, h36 _ _, h43 _ _, ofBits_eighth, ofBits_eps]
    rw [← sum_lanes (fun r l => y r l * y r l) k]
    simp only [EReal.coe_mul, EReal.coe_add]
    rfl
  have hb : subf v8 (mulf v36 (scale v6 v17 v36 v43)) (ix2 0 k) = v8 (ix2 0 k) - v36 (ix2 0 k) * scale v6 v17 v36 v43 (ix2 0 k) := rfl
  have hk : k0_pay1 v4 v6 v8 v17 v36 v43 = spread v4 (scale v6 v17 v36 v43) (subf v8 (mulf v36 (scale v6 v17 v36 v43))) := rfl
  rw [hk, spread_apply, hb, hs, h4, h8, h36, ← coe_max_zero]
  exact congrArg (max · 0) (bn_read (fun q : Fin 3136 × Fin 8 => y q.1 (lane q.2 k)) (g 0 k) (be 0 k) (r, s) _ _ rfl rfl)

theorem pay0 (x0 : Vec Ideal S3136x128 .f32) (x1 : Vec Ideal S128x128 .f32) (x2 x3 : Vec Ideal S1x16 .f32)
    (p : Fin 3136 → Fin 128 → ℝ) (w : Fin 128 → Fin 128 → ℝ) (g be : Fin 1 → Fin 16 → ℝ)
    (h0 : Is2 x0 p) (h1 : Is2 x1 w) (h2 : Is2 x2 g) (h3 : Is2 x3 be) (r : Fin 3136) (s : Fin 8) (k : Fin 16) :
    k0_pay1 (k0_pay2 x0 x1) (k0_pay3 x2) (k0_pay4 x3) (k0_pay5 x0 x1) (k0_pay6 x0 x1) (k0_pay7 x0 x1) (ix2 r (lane s k))
      = ((max (bn (fun q : Fin 3136 × Fin 8 => prod p w q.1 (lane q.2 k)) (g 0 k) (be 0 k) (r, s)) 0 : ℝ) : EReal) := by
  have hy := pay0_2 x0 x1 p w h0 h1
  have h5 := pay0_5 x0 x1 _ hy
  refine pay0_1 _ _ _ _ _ _ _ g be hy ?_ ?_ h5 (pay0_6 x0 x1 _ hy) (pay0_7 x0 x1 _ h5) r s k
  · intro i j; unfold k0_pay3; pointwise; exact h2 i j
  · intro i j; unfold k0_pay4; pointwise; exact h3 i j

/-- The last layer's normalization, of the rows `y`. -/
theorem pay2_1 (v234 : FVec Ideal S6272x32 .f32) (v236 v238 v251 v259 : FVec Ideal S1x32 .f32)
    (y : Fin 6272 → Fin 32 → ℝ) (g be : Fin 1 → Fin 32 → ℝ) (h0 : Is2 v234 y) (h1 : Is2 v236 g) (h2 : Is2 v238 be)
    (h3 : ∀ i k, v251 (ix2 i k) = ((mean (fun r => y r k) : ℝ) : EReal))
    (h4 : ∀ i k, v259 (ix2 i k) = (((∑ r, y r k * y r k) / Fintype.card (Fin 6272) : ℝ) : EReal) - v251 (ix2 i k) * v251 (ix2 i k) + ((eps : ℝ) : EReal)) :
    Is2 (k2_pay1 v234 v236 v238 v251 v259) (fun r k => max (bn (fun r => y r k) (g 0 k) (be 0 k) r) 0) := by
  intro r k
  unfold k2_pay1
  pointwise
  simp only [h0 _ _, h1 _ _, h2 _ _, h4 _ _, h3 _ _]
  rw [← coe_max_zero]
  exact congrArg (max · 0) (bn_read (fun r => y r k) (g 0 k) (be 0 k) r _ _ rfl rfl)

end Cert.Proof.Ker
end
-- ==== Proof.RefRun.lean ====
/- The run of the reference: its lines of host operations, read off the printed windows of `main`, cut into the stages
   of the network, and the contents of the buffers after each stage. -/
module

public import proofs.«01_k».proof.Proof.Gen.ReferenceIdeal
public import Idealize.ShloMosaic.Lib.Claim
public import Idealize.ShloMosaic.PureOps.Ideal
public import Idealize.ShloMosaic.Lib.Quiescent
public import Idealize.ShloMosaic.Lib.StableHlo.ReadAt

@[expose] public section

set_option maxRecDepth 16384

noncomputable section

namespace Cert.Proof.Ref

open Idealize.ShloMosaic Idealize.SL.Sem Cert.ReferenceIdeal
open Idealize.ShloMosaic.StableHlo (IsSeq seq after after_cons after_nil)

/-- The reference's lines of operations. -/
abbrev Line := List (HloOp τ sig (Elt Ideal))

/-- A window of the printed `main` with the list of its operations. -/
abbrev Part (p : Dev nD → Prog (TpuEff nD τ sig (Elt Ideal) (Pipeline.Sig Λ₀ (Fin 0) fun p => (pcfgs (F := Ideal) p).Adm) .tc) PUnit) :=
  {ops : Line // ∀ d, IsSeq (p d) ops}

theorem isSeq_bind {p q : Prog (TpuEff nD τ sig (Elt Ideal) (Pipeline.Sig Λ₀ (Fin 0) fun p => (pcfgs (F := Ideal) p).Adm) .tc) PUnit}
    {a b : Line} (hp : IsSeq p a) (hq : IsSeq q b) : IsSeq (p >>= fun _ => q) (a ++ b) := by
  unfold IsSeq at *
  rw [hp, hq, StableHlo.seq_append]

section
set_option maxHeartbeats 4000000
def p0 : Part (main_part0 (F := Ideal)) := by apply Subtype.mk; hlo_seq
def p1 : Part (main_part1 (F := Ideal)) := by apply Subtype.mk; hlo_seq
def p2 : Part (main_part2 (F := Ideal)) := by apply Subtype.mk; hlo_seq
def p3 : Part (main_part3 (F := Ideal)) := by apply Subtype.mk; hlo_seq
def p4 : Part (main_part4 (F := Ideal)) := by apply Subtype.mk; hlo_seq
def p5 : Part (main_part5 (F := Ideal)) := by
  apply Subtype.mk
  intro d
  repeat (first
    | exact IsSeq.nil
    | apply IsSeq.cons
    | (refine isSeq_bind (p := fn_argmin.body _ _) (by hlo_seq) ?_)
    | (refine isSeq_bind (p := fn_take.body _ _) (by hlo_seq) ?_))
def p6 : Part (main_part6 (F := Ideal)) := by apply Subtype.mk; hlo_seq
end

/-- All operations of the reference, in order. -/
def ops : Line := p0.1 ++ (p1.1 ++ (p2.1 ++ (p3.1 ++ (p4.1 ++ (p5.1 ++ p6.1)))))

theorem main_eq (d : Dev nD) : IsSeq (main (F := Ideal) d) ops :=
  isSeq_bind (p0.2 d) <| isSeq_bind (p1.2 d) <| isSeq_bind (p2.2 d) <| isSeq_bind (p3.2 d) <| isSeq_bind (p4.2 d) <|
    isSeq_bind (p5.2 d) (p6.2 d)

/-! ## The stages

The operations of the first convolution, the first batch normalization, and so on to the last
rectification and its layout in rows. -/

def s0 : Line := p0.1 ++ p1.1.take 43
def s1 : Line := p1.1.drop 43 ++ p2.1.take 15
def s2 : Line := p2.1.drop 15 ++ p3.1.take 58
def s3 : Line := p3.1.drop 58 ++ p4.1.take 30
def s4 : Line := (p4.1.drop 30).take 11
def s5 : Line := p4.1.drop 41 ++ p5.1.take 10
def s6 : Line := (p5.1.drop 10).take 16
def s7 : Line := (p5.1.drop 26).take 11
def s8 : Line := p5.1.drop 37 ++ p6.1.take 4
def s9 : Line := p6.1.drop 4

theorem ops_eq : ops = s0 ++ (s1 ++ (s2 ++ (s3 ++ (s4 ++ (s5 ++ (s6 ++ (s7 ++ (s8 ++ s9)))))))) := rfl

/-- The contents of the buffers before any operation, after the first stage, and so on. -/
abbrev Val0 : Type := Valuation τ sig (Elt Ideal)
def R1 (V : Val0) : Val0 := after s0 V
def R2 (V : Val0) : Val0 := after s1 (R1 V)
def R3 (V : Val0) : Val0 := after s2 (R2 V)
def R4 (V : Val0) : Val0 := after s3 (R3 V)
def R5 (V : Val0) : Val0 := after s4 (R4 V)
def R6 (V : Val0) : Val0 := after s5 (R5 V)
def R7 (V : Val0) : Val0 := after s6 (R6 V)
def R8 (V : Val0) : Val0 := after s7 (R7 V)
def R9 (V : Val0) : Val0 := after s8 (R8 V)
def R10 (V : Val0) : Val0 := after s9 (R9 V)

theorem after_ops (V : Val0) : after ops V = R10 V := by
  rw [ops_eq]
  simp only [StableHlo.after_append]
  rfl

/-- The argument buffers. -/
def args : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17]

section
set_option maxHeartbeats 4000000

/-- No operation of a line writes an argument. -/
def Keeps (l : Line) : Prop := ∀ (V : Val0), ∀ b ∈ args, after l V (Proc.devRef .tc b) = V (Proc.devRef .tc b)

theorem keeps0 : Keeps s0 := by
  intro V
  simp only [args, List.forall_mem_cons, List.not_mem_nil, false_imp_iff, implies_true, and_true]
  and_intros <;> after_reads_simp

theorem keeps1 : Keeps s1 := by
  intro V
  simp only [args, List.forall_mem_cons, List.not_mem_nil, false_imp_iff, implies_true, and_true]
  and_intros <;> after_reads_simp

theorem keeps2 : Keeps s2 := by
  intro V
  simp only [args, List.forall_mem_cons, List.not_mem_nil, false_imp_iff, implies_true, and_true]
  and_intros <;> after_reads_simp

theorem keeps3 : Keeps s3 := by
  intro V
  simp only [args, List.forall_mem_cons, List.not_mem_nil, false_imp_iff, implies_true, and_true]
  and_intros <;> after_reads_simp

theorem keeps4 : Keeps s4 := by
  intro V
  simp only [args, List.forall_mem_cons, List.not_mem_nil, false_imp_iff, implies_true, and_true]
  and_intros <;> after_reads_simp

theorem keeps5 : Keeps s5 := by
  intro V
  simp only [args, List.forall_mem_cons, List.not_mem_nil, false_imp_iff, implies_true, and_true]
  and_intros <;> after_reads_simp

theorem keeps6 : Keeps s6 := by
  intro V
  simp only [args, List.forall_mem_cons, List.not_mem_nil, false_imp_iff, implies_true, and_true]
  and_intros <;> after_reads_simp

theorem keeps7 : Keeps s7 := by
  intro V
  simp only [args, List.forall_mem_cons, List.not_mem_nil, false_imp_iff, implies_true, and_true]
  and_intros <;> after_reads_simp

theorem keeps8 : Keeps s8 := by
  intro V
  simp only [args, List.forall_mem_cons, List.not_mem_nil, false_imp_iff, implies_true, and_true]
  and_intros <;> after_reads_simp

theorem keeps9 : Keeps s9 := by
  intro V
  simp only [args, List.forall_mem_cons, List.not_mem_nil, false_imp_iff, implies_true, and_true]
  and_intros <;> after_reads_simp

theorem keeps6_ze (V : Val0) : after s6 V (Proc.devRef .tc main_v286) = V (Proc.devRef .tc main_v286) := by after_reads_simp
theorem keeps7_ze (V : Val0) : after s7 V (Proc.devRef .tc main_v286) = V (Proc.devRef .tc main_v286) := by after_reads_simp
theorem keeps8_ze (V : Val0) : after s8 V (Proc.devRef .tc main_v286) = V (Proc.devRef .tc main_v286) := by after_reads_simp
theorem keeps9_ze (V : Val0) : after s9 V (Proc.devRef .tc main_v286) = V (Proc.devRef .tc main_v286) := by after_reads_simp
theorem keeps7_zq (V : Val0) : after s7 V (Proc.devRef .tc main_v296) = V (Proc.devRef .tc main_v296) := by after_reads_simp
theorem keeps8_zq (V : Val0) : after s8 V (Proc.devRef .tc main_v296) = V (Proc.devRef .tc main_v296) := by after_reads_simp
theorem keeps9_zq (V : Val0) : after s9 V (Proc.devRef .tc main_v296) = V (Proc.devRef .tc main_v296) := by after_reads_simp

/-- What a straight line needs to run: its operations touch buffers of the core and determine their results. -/
def Runs (l : Line) : Prop := (l.Forall fun op => op.bufs ⊆ StableHlo.tcRefs τ sig) ∧ ∀ op ∈ l, op.fresh = ∅

theorem Runs.append {a b : Line} (ha : Runs a) (hb : Runs b) : Runs (a ++ b) :=
  ⟨List.forall_append.mpr ⟨ha.1, hb.1⟩, fun op h => (List.mem_append.mp h).elim (ha.2 op) (hb.2 op)⟩

theorem Runs.nil : Runs [] := ⟨trivial, fun _ h => nomatch h⟩

theorem Runs.cons {op : HloOp τ sig (Elt Ideal)} {l : Line} (h : op.bufs ⊆ StableHlo.tcRefs τ sig) (hf : op.fresh = ∅) (hl : Runs l) :
    Runs (op :: l) :=
  ⟨(List.forall_cons _ _ _).mpr ⟨h, hl.1⟩, fun o ho => by
    rcases List.mem_cons.mp ho with rfl | h'
    · exact hf
    · exact hl.2 o h'⟩

theorem runs_p5 : Runs p5.1 := by
  unfold p5
  simp only [List.cons_append, List.nil_append]
  all_goals
    repeat refine Runs.cons (by
      first
        | with_reducible exact StableHlo.nullary_bufs_sub ..
        | with_reducible exact StableHlo.unary_bufs_sub ..
        | with_reducible exact StableHlo.binary_bufs_sub ..
        | with_reducible exact StableHlo.reshape_bufs_sub ..
        | simp) rfl ?_
  all_goals exact Runs.nil

theorem runs_parts : Runs p0.1 ∧ Runs p1.1 ∧ Runs p2.1 ∧ Runs p3.1 ∧ Runs p4.1 ∧ Runs p5.1 ∧ Runs p6.1 := by
  refine ⟨?_, ?_, ?_, ?_, ?_, runs_p5, ?_⟩ <;>
    first | unfold p0 | unfold p1 | unfold p2 | unfold p3 | unfold p4 | unfold p6
  all_goals
    repeat refine Runs.cons (by
      first
        | with_reducible exact StableHlo.nullary_bufs_sub ..
        | with_reducible exact StableHlo.unary_bufs_sub ..
        | with_reducible exact StableHlo.binary_bufs_sub ..
        | with_reducible exact StableHlo.reshape_bufs_sub ..
        | simp) rfl ?_
  all_goals exact Runs.nil

theorem runs_ops : Runs ops :=
  let ⟨h0, h1, h2, h3, h4, h5, h6⟩ := runs_parts
  h0.append <| h1.append <| h2.append <| h3.append <| h4.append <| h5.append h6

/-- The arguments end as they began. -/
theorem R10_args (V : Val0) (b : Ref sig .tc) (hb : b ∈ args) : R10 V (Proc.devRef .tc b) = V (Proc.devRef .tc b) := by
  unfold R10 R9 R8 R7 R6 R5 R4 R3 R2 R1
  rw [keeps9 _ _ hb, keeps8 _ _ hb, keeps7 _ _ hb, keeps6 _ _ hb, keeps5 _ _ hb, keeps4 _ _ hb,
    keeps3 _ _ hb, keeps2 _ _ hb, keeps1 _ _ hb, keeps0 _ _ hb]

end

/-- The run: every buffer ends at the contents after the last stage. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = R10 (StableHlo.launchContents m d) (Proc.devRef .tc b) := by
  have h := StableHlo.run_hlo (defs (F := Ideal)) (main (F := Ideal)) main_eq (by decide) (by decide) runs_ops.1 runs_ops.2 m ρ
  refine θ_run_mono h fun r hr d b => ?_
  rw [hr d b, after_ops]

/-- The frame of the reference: the arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD), ∀ b ∈ args, r.2.mem ((d.tc : Thread nD τ).loc b) = m ((d.tc : Thread nD τ).loc b)) ∧
        r.2.sem = fun _ => 0 :=
  θ_run_mono (run m ρ) fun r hr => ⟨fun d b hb => by rw [hr d b, R10_args _ _ hb], sem_eq_zero_of_no_sems (by decide) _⟩

end Cert.Proof.Ref

end
-- ==== Proof.RefVal.lean ====
/- The reference's stages over the real numbers: from contents that are real, each stage ends at the layer of the network. -/
module

public import proofs.«01_k».proof.Proof.RefRun
public import proofs.«01_k».proof.Proof.Spec

@[expose] public section

set_option maxRecDepth 16384

noncomputable section

namespace Cert.Proof.Ref

open Idealize.ShloMosaic Idealize.SL.Sem Cert.ReferenceIdeal Cert.Proof.Spec
open Idealize.ShloMosaic.StableHlo (IsSeq seq after after_cons after_nil)

/-- The contents of a rank-four buffer are the real images `x`. -/
def Is4 {a b c d : ℕ} (X : (⟨4, ![a, b, c, d]⟩ : Shape).Idx → EReal) (x : Fin a → Fin b → Fin c → Fin d → ℝ) : Prop :=
  ∀ i j k l, X (ix4 i j k l) = ((x i j k l : ℝ) : EReal)

/-- The contents of a rank-one buffer are the real vector `x`. -/
def Is1 {a : ℕ} (X : (⟨1, ![a]⟩ : Shape).Idx → EReal) (x : Fin a → ℝ) : Prop := ∀ i, X (ix1 i) = ((x i : ℝ) : EReal)

theorem after_split (l : Line) (k : ℕ) (V : Val0) : after l V = after (l.drop k) (after (l.take k) V) := by
  rw [← StableHlo.after_append, List.take_append_drop]

theorem ofBits_25088 : Ideal.ofBits .f32 1187250176#32 = ((2 * (112 : ℕ) * (112 : ℕ) : ℝ) : EReal) := by
  have h : (2 * (112 : ℕ) * (112 : ℕ) : ℝ) = 25088 := by norm_num
  rw [h]
  simp [Ideal.ofBits, Ideal.ieee]
  rw [← EReal.coe_mul]
  norm_num

theorem ofBits_6272 : Ideal.ofBits .f32 1170472960#32 = ((2 * (56 : ℕ) * (56 : ℕ) : ℝ) : EReal) := by
  have h : (2 * (56 : ℕ) * (56 : ℕ) : ℝ) = 6272 := by norm_num
  rw [h]
  simp [Ideal.ofBits, Ideal.ieee]
  rw [← EReal.coe_mul]
  norm_num

section
set_option maxHeartbeats 4000000

theorem pad0 (V : Val0) (x : Img 1 224) (hx : Is4 (V (Proc.devRef .tc main_arg0)) x) (b : Fin 2) (a : Fin 1)
    (h u : Fin 226) :
    after (s0.take 2) V (Proc.devRef .tc main_v0) (ix4 b a h u) = ((pad (x b a) h u : ℝ) : EReal) := by
  obtain rfl : a = 0 := Subsingleton.elim _ _
  after_reads_at
  simp only [hx _ _ _ _, coe_dite]
  rfl

theorem conv0 (V : Val0) (x : Img 1 224) (w : Fin 16 → Fin 1 → Fin 4 → Fin 4 → ℝ) (s : Fin 16 → ℝ)
    (hw : Is4 (V (Proc.devRef .tc main_arg1)) w) (hs : Is1 (V (Proc.devRef .tc main_arg2)) s)
    (hx : ∀ b a (h u : Fin 226), V (Proc.devRef .tc main_v0) (ix4 b a h u) = ((pad (x b a) h u : ℝ) : EReal)) :
    Is4 (after (s0.drop 2) V (Proc.devRef .tc main_v100)) (bias (conv x w : Img 16 112) s) := by
  intro b o h u
  after_reads_at
  simp only [hx, hw _ _ _ _, hs _, ← EReal.coe_mul, ← EReal.coe_add, coe_sum]
  congr 1
  simp [bias, conv, Fin.sum_univ_four]
  try ring

theorem bn1 (V : Val0) (y : Img 16 112) (g be : Fin 16 → ℝ) (hy : Is4 (V (Proc.devRef .tc main_v100)) y)
    (hg : Is1 (V (Proc.devRef .tc main_arg3)) g) (hb : Is1 (V (Proc.devRef .tc main_arg4)) be) :
    Is4 (after s1 V (Proc.devRef .tc main_v126)) (relu (norm y g be)) := by
  intro b o h u
  after_reads_at
  simp only [hostReduceAdd_channel]
  pointwise
  simp only [hostReduceAdd_channel, hy _ _ _ _, hg _, hb _, ofBits_eps, zero_add]
  rw [norm_read y g be _ ofBits_25088, coe_max_zero]
  rfl

theorem pad2 (V : Val0) (x : Img 16 112) (hx : Is4 (V (Proc.devRef .tc main_v126)) x) (b : Fin 2) (a : Fin 16)
    (h u : Fin 114) :
    after (s2.take 2) V (Proc.devRef .tc main_v127) (ix4 b a h u) = ((pad (x b a) h u : ℝ) : EReal) := by
  after_reads_at
  simp only [hx _ _ _ _, coe_dite]
  rfl

theorem conv2 (V : Val0) (x : Img 16 112) (w : Fin 32 → Fin 16 → Fin 4 → Fin 4 → ℝ) (s : Fin 32 → ℝ)
    (hw : Is4 (V (Proc.devRef .tc main_arg5)) w) (hs : Is1 (V (Proc.devRef .tc main_arg6)) s)
    (hx : ∀ b a (h u : Fin 114), V (Proc.devRef .tc main_v127) (ix4 b a h u) = ((pad (x b a) h u : ℝ) : EReal)) :
    Is4 (after (s2.drop 2) V (Proc.devRef .tc main_v227)) (bias (conv x w : Img 32 56) s) := by
  intro b o h u
  after_reads_at
  simp only [hx, hw _ _ _ _, hs _, ← EReal.coe_mul, ← EReal.coe_add, coe_sum]
  congr 1
  simp [bias, conv, Fin.sum_univ_four]
  try ring

theorem bn3 (V : Val0) (y : Img 32 56) (g be : Fin 32 → ℝ) (hy : Is4 (V (Proc.devRef .tc main_v227)) y)
    (hg : Is1 (V (Proc.devRef .tc main_arg7)) g) (hb : Is1 (V (Proc.devRef .tc main_arg8)) be) :
    Is4 (after s3 V (Proc.devRef .tc main_v253)) (relu (norm y g be)) := by
  intro b o h u
  after_reads_at
  simp only [hostReduceAdd_channel]
  pointwise
  simp only [hostReduceAdd_channel, hy _ _ _ _, hg _, hb _, ofBits_eps, zero_add]
  rw [norm_read y g be _ ofBits_6272, coe_max_zero]
  rfl

theorem mix4 (V : Val0) (x : Img 32 56) (w : Fin 64 → Fin 32 → ℝ) (s : Fin 64 → ℝ)
    (hw : ∀ i j, V (Proc.devRef .tc main_arg9) (ix4 i j 0 0) = ((w i j : ℝ) : EReal)) (hs : Is1 (V (Proc.devRef .tc main_arg10)) s)
    (hx : Is4 (V (Proc.devRef .tc main_v253)) x) :
    Is4 (after s4 V (Proc.devRef .tc main_v262)) (bias (mix x w : Img 64 56) s) := by
  intro b o h u
  after_reads_at
  simp only [hx _ _ _ _, hw _ _, hs _, ← EReal.coe_mul, ← EReal.coe_add, coe_sum]
  rfl

theorem bn5 (V : Val0) (y : Img 64 56) (g be : Fin 64 → ℝ) (hy : Is4 (V (Proc.devRef .tc main_v262)) y)
    (hg : Is1 (V (Proc.devRef .tc main_arg11)) g) (hb : Is1 (V (Proc.devRef .tc main_arg12)) be) :
    Is4 (after s5 V (Proc.devRef .tc main_v286)) (norm y g be) := by
  intro b o h u
  after_reads_at
  simp only [hostReduceAdd_channel]
  pointwise
  simp only [hostReduceAdd_channel, hy _ _ _ _, hg _, hb _, ofBits_eps, zero_add]
  rw [norm_read y g be _ ofBits_6272]

theorem mix7 (V : Val0) (x : Img 64 56) (w : Fin 32 → Fin 64 → ℝ) (s : Fin 32 → ℝ)
    (hw : ∀ i j, V (Proc.devRef .tc main_arg14) (ix4 i j 0 0) = ((w i j : ℝ) : EReal)) (hs : Is1 (V (Proc.devRef .tc main_arg15)) s)
    (hx : Is4 (V (Proc.devRef .tc main_v296)) x) :
    Is4 (after s7 V (Proc.devRef .tc main_v305)) (bias (mix x w : Img 32 56) s) := by
  intro b o h u
  after_reads_at
  simp only [hx _ _ _ _, hw _ _, hs _, ← EReal.coe_mul, ← EReal.coe_add, coe_sum]
  rfl

theorem bn8 (V : Val0) (y : Img 32 56) (g be : Fin 32 → ℝ) (hy : Is4 (V (Proc.devRef .tc main_v305)) y)
    (hg : Is1 (V (Proc.devRef .tc main_arg16)) g) (hb : Is1 (V (Proc.devRef .tc main_arg17)) be) :
    Is4 (after s8 V (Proc.devRef .tc main_v331)) (relu (norm y g be)) := by
  intro b o h u
  after_reads_at
  simp only [hostReduceAdd_channel]
  pointwise
  simp only [hostReduceAdd_channel, hy _ _ _ _, hg _, hb _, ofBits_eps, zero_add]
  rw [norm_read y g be _ ofBits_6272, coe_max_zero]
  rfl

theorem rows9 (V : Val0) (y : Img 32 56) (hy : Is4 (V (Proc.devRef .tc main_v331)) y) (r : Fin 6272) (k : Fin 32) :
    after s9 V (Proc.devRef .tc main_v333) (ix2 r k) = ((rows y r k : ℝ) : EReal) := by
  after_reads_at
  exact hy _ _ _ _

end

end Cert.Proof.Ref
end
-- ==== Proof.KerHost.lean ====
/- What the kernel's host operations make of real arguments: the windows and weights given to each call. -/
module

public import proofs.«01_k».proof.Proof.KerConv
public import proofs.«01_k».proof.Proof.RefVal

@[expose] public section

set_option maxRecDepth 16384

noncomputable section

namespace Cert.Proof.Ker

open Idealize.ShloMosaic Idealize.SL.Sem Cert.KernelIdeal Cert.KernelIdeal.Gen Cert.Proof.Spec
open Cert.Proof.Ref (Is4 Is1)
open Idealize.ShloMosaic.StableHlo (after)

/-- The contents of the buffers. -/
abbrev Val1 : Type := Valuation τ sig (Elt Ideal)

section
set_option maxHeartbeats 4000000

theorem v0_read (V : Val1) (x : Img 1 224) (hx : Is4 (V (Proc.devRef .tc main_arg0)) x) (b : Fin 2) (h u : Fin 224) :
    after hostOps0 V (Proc.devRef .tc main_v0) (ix3 b h u) = ((x b 0 h u : ℝ) : EReal) := by
  after_reads_at
  rw [← hx]

theorem v1_read (V : Val1) (x : Img 1 224) (hx : ∀ b h u, V (Proc.devRef .tc main_v0) (ix3 b h u) = ((x b 0 h u : ℝ) : EReal))
    (hc : V (Proc.devRef .tc main_c) = fun _ => 0#32)
    (b : Fin 2) (h u : Fin 226) :
    after hostOps0_1 V (Proc.devRef .tc main_v1) (ix3 b h u) = ((pad (x b 0) h u : ℝ) : EReal) := by
  after_reads_at
  simp only [hx, hc]
  unfold Spec.pad
  split_ifs
  · rfl
  · simp [FloatOps.sitofp]

/-- Sixteen planes stacked as channels. -/
def planes (P : Fin 16 → S2x112x112x1.Idx → EReal) : S2x112x112x16.Idx → EReal :=
  concatenate S2x112x112x16 3 [⟨S2x112x112x1, P 0⟩, ⟨S2x112x112x1, P 1⟩, ⟨S2x112x112x1, P 2⟩, ⟨S2x112x112x1, P 3⟩, ⟨S2x112x112x1, P 4⟩, ⟨S2x112x112x1, P 5⟩, ⟨S2x112x112x1, P 6⟩, ⟨S2x112x112x1, P 7⟩, ⟨S2x112x112x1, P 8⟩, ⟨S2x112x112x1, P 9⟩, ⟨S2x112x112x1, P 10⟩, ⟨S2x112x112x1, P 11⟩, ⟨S2x112x112x1, P 12⟩, ⟨S2x112x112x1, P 13⟩, ⟨S2x112x112x1, P 14⟩, ⟨S2x112x112x1, P 15⟩] concatenates_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x16_d3

/-- Sixteen blocks of channels side by side. -/
def blocks (P : Fin 16 → S2x56x56x16.Idx → EReal) : S2x56x56x256.Idx → EReal :=
  concatenate S2x56x56x256 3 [⟨S2x56x56x16, P 0⟩, ⟨S2x56x56x16, P 1⟩, ⟨S2x56x56x16, P 2⟩, ⟨S2x56x56x16, P 3⟩, ⟨S2x56x56x16, P 4⟩, ⟨S2x56x56x16, P 5⟩, ⟨S2x56x56x16, P 6⟩, ⟨S2x56x56x16, P 7⟩, ⟨S2x56x56x16, P 8⟩, ⟨S2x56x56x16, P 9⟩, ⟨S2x56x56x16, P 10⟩, ⟨S2x56x56x16, P 11⟩, ⟨S2x56x56x16, P 12⟩, ⟨S2x56x56x16, P 13⟩, ⟨S2x56x56x16, P 14⟩, ⟨S2x56x56x16, P 15⟩] concatenates_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x256_d3

/-- Eight bands of rows one above the other. -/
def bands (P : Fin 8 → S16x128.Idx → EReal) : S128x128.Idx → EReal :=
  concatenate S128x128 0 [⟨S16x128, P 0⟩, ⟨S16x128, P 1⟩, ⟨S16x128, P 2⟩, ⟨S16x128, P 3⟩, ⟨S16x128, P 4⟩, ⟨S16x128, P 5⟩, ⟨S16x128, P 6⟩, ⟨S16x128, P 7⟩] concatenates_S16x128_S16x128_S16x128_S16x128_S16x128_S16x128_S16x128_S16x128_S128x128_d0

theorem planes_read (P : Fin 16 → S2x112x112x1.Idx → EReal) (b : Fin 2) (h u : Fin 112) (t : Fin 16) :
    planes P (ix4 b h u t) = P t (ix4 b h u 0) :=
  concatenate_ofFn_unit_apply 3 P concatenates_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x1_S2x112x112x16_d3 rfl rfl (ix4 b h u t) t rfl (ix4 b h u 0)
    (by intro a ha; match a with | 0 => rfl | 1 => rfl | 2 => rfl | 3 => exact absurd rfl ha)

theorem blocks_read (P : Fin 16 → S2x56x56x16.Idx → EReal) (b : Fin 2) (h u : Fin 56) (t k : Fin 16) (l : Fin 256)
    (hl : l.val = 16 * t.val + k.val) : blocks P (ix4 b h u l) = P t (ix4 b h u k) :=
  concatenate_ofFn_apply 3 P concatenates_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x16_S2x56x56x256_d3 rfl 16 rfl (ix4 b h u l) t
    (show l.val / 16 = t.val by omega) (ix4 b h u k) (show k.val = l.val % 16 by omega)
    (by intro a ha; match a with | 0 => rfl | 1 => rfl | 2 => rfl | 3 => exact absurd rfl ha)

theorem bands_read (P : Fin 8 → S16x128.Idx → EReal) (t : Fin 8) (k : Fin 16) (l m : Fin 128)
    (hl : l.val = 16 * t.val + k.val) : bands P (ix2 l m) = P t (ix2 k m) := by
  unfold bands
  pointwise
  split_ifs <;> exact congrArg₂ (fun s e => P s (ix2 e m)) (Fin.ext (by simp <;> omega)) (Fin.ext (by simp <;> omega))

/-- The planes of the first layer's windows. -/
def planeOf (V : Val1) : Fin 16 → S2x112x112x1.Idx → EReal :=
  ![V (Proc.devRef .tc main_v18), V (Proc.devRef .tc main_v19), V (Proc.devRef .tc main_v20), V (Proc.devRef .tc main_v21), V (Proc.devRef .tc main_v22), V (Proc.devRef .tc main_v23), V (Proc.devRef .tc main_v24), V (Proc.devRef .tc main_v25), V (Proc.devRef .tc main_v26), V (Proc.devRef .tc main_v27), V (Proc.devRef .tc main_v28), V (Proc.devRef .tc main_v29), V (Proc.devRef .tc main_v30), V (Proc.devRef .tc main_v31), V (Proc.devRef .tc main_v32), V (Proc.devRef .tc main_v33)]

/-- The blocks of the second layer's windows. -/
def blockOf (V : Val1) : Fin 16 → S2x56x56x16.Idx → EReal :=
  ![V (Proc.devRef .tc main_v44), V (Proc.devRef .tc main_v45), V (Proc.devRef .tc main_v46), V (Proc.devRef .tc main_v47), V (Proc.devRef .tc main_v48), V (Proc.devRef .tc main_v49), V (Proc.devRef .tc main_v50), V (Proc.devRef .tc main_v51), V (Proc.devRef .tc main_v52), V (Proc.devRef .tc main_v53), V (Proc.devRef .tc main_v54), V (Proc.devRef .tc main_v55), V (Proc.devRef .tc main_v56), V (Proc.devRef .tc main_v57), V (Proc.devRef .tc main_v58), V (Proc.devRef .tc main_v59)]

/-- The bands of the first layer's weights. -/
def bandOf (V : Val1) : Fin 8 → S16x128.Idx → EReal :=
  ![V (Proc.devRef .tc main_call1_v8), V (Proc.devRef .tc main_call1_v9), V (Proc.devRef .tc main_call1_v10), V (Proc.devRef .tc main_call1_v11), V (Proc.devRef .tc main_call1_v12), V (Proc.devRef .tc main_call1_v13), V (Proc.devRef .tc main_call1_v14), V (Proc.devRef .tc main_call1_v15)]

theorem v34_eq (V : Val1) : after ((hostOps0_2.drop 32).take 1) V (Proc.devRef .tc main_v34) = planes (planeOf V) := by
  after_reads_simp
  rfl

theorem v60_eq (V : Val1) : after ((hostOps1_2.drop 16).take 1) V (Proc.devRef .tc main_v60) = blocks (blockOf V) := by
  after_reads_simp
  rfl

theorem v38_eq (V : Val1) : after (hostOps0_3.drop 16) V (Proc.devRef .tc main_v38) = bands (bandOf V) := by
  after_reads_simp
  rfl

theorem v37_read (V : Val1) (w : Fin 16 → Fin 1 → Fin 4 → Fin 4 → ℝ) (hw : Is4 (V (Proc.devRef .tc main_arg1)) w) (c o : Fin 16) :
    after hostOps0_2 V (Proc.devRef .tc main_v37) (ix2 c o) = ((w o 0 ⟨c / 4, by omega⟩ ⟨c % 4, by omega⟩ : ℝ) : EReal) := by
  after_reads_at
  rw [← hw]

theorem after_cut (l : List (HloOp τ sig (Elt Ideal))) (k : ℕ) (V : Val1) : after l V = after (l.drop k) (after (l.take k) V) := by
  rw [← StableHlo.after_append, List.take_append_drop]

theorem planeOf_read (V : Val1) (x : Fin 2 → ℕ → ℕ → ℝ)
    (hx : ∀ (b : Fin 2) (h u : Fin 226), V (Proc.devRef .tc main_v1) (ix3 b h u) = ((x b h u : ℝ) : EReal))
    (b : Fin 2) (h u : Fin 112) (t : Fin 16) :
    planeOf (after (hostOps0_2.take 32) V) t (ix4 b h u 0) = ((x b (t.val / 4 + 2 * h) (t.val % 4 + 2 * u) : ℝ) : EReal) := by
  unfold planeOf
  fin_cases t <;>
    simp only [Fin.mk_zero, Fin.mk_one, Fin.reduceFinMk, Matrix.cons_val] <;>
    after_reads_at <;> rw [hx] <;> simp

end

end Cert.Proof.Ker
end
-- ==== Proof.KerWin.lean ====
/- What the kernel's host operations make of real arguments: the windows and weights as matrices. -/
module

public import proofs.«01_k».proof.Proof.KerHost

@[expose] public section

set_option maxRecDepth 16384

noncomputable section

namespace Cert.Proof.Ker

open Idealize.ShloMosaic Idealize.SL.Sem Cert.KernelIdeal Cert.KernelIdeal.Gen Cert.Proof.Spec
open Cert.Proof.Ref (Is4 Is1)
open Idealize.ShloMosaic.StableHlo (after)

section
set_option maxHeartbeats 4000000

/-- Indices with equal coordinates are equal. -/
theorem ix4_ext {n₀ n₁ n₂ n₃ : ℕ} {a a' : Fin n₀} {b b' : Fin n₁} {c c' : Fin n₂} {d d' : Fin n₃} (ha : a.val = a'.val)
    (hb : b.val = b'.val) (hc : c.val = c'.val) (hd : d.val = d'.val) : ix4 a b c d = ix4 a' b' c' d' := by
  obtain rfl := Fin.ext ha
  obtain rfl := Fin.ext hb
  obtain rfl := Fin.ext hc
  obtain rfl := Fin.ext hd
  rfl

theorem v35_tail (V : Val1) (r : Fin 3136) (s : Fin 8) (t : Fin 16) :
    after ((hostOps0_2.drop 32).drop 1) V (Proc.devRef .tc main_v35) (ix2 r (lane s t))
      = V (Proc.devRef .tc main_v34) (ix4 (pix112 (r, s)).1 (pix112 (r, s)).2.1 (pix112 (r, s)).2.2 t) := by
  after_reads_at
  refine congrArg _ (ix4_ext ?_ ?_ ?_ ?_)
  · show r.val / 1568 = (r.val * 8 + s.val) / 12544
    omega
  · show r.val / 14 % 112 = (r.val * 8 + s.val) / 112 % 112
    omega
  · show r.val % 14 * 8 + (16 * s.val + t.val) / 16 = (r.val * 8 + s.val) % 112
    omega
  · show (16 * s.val + t.val) % 16 = t.val
    omega

/-- The matrix of the first layer's windows: row `r` holds eight positions, each with its sixteen entries. -/
theorem v35_read (V : Val1) (x : Fin 2 → ℕ → ℕ → ℝ)
    (hx : ∀ (b : Fin 2) (h u : Fin 226), V (Proc.devRef .tc main_v1) (ix3 b h u) = ((x b h u : ℝ) : EReal))
    (r : Fin 3136) (s : Fin 8) (t : Fin 16) :
    after hostOps0_2 V (Proc.devRef .tc main_v35) (ix2 r (lane s t))
      = ((x (pix112 (r, s)).1 (t.val / 4 + 2 * (pix112 (r, s)).2.1) (t.val % 4 + 2 * (pix112 (r, s)).2.2) : ℝ) : EReal) := by
  rw [after_cut hostOps0_2 32, after_cut (hostOps0_2.drop 32) 1, v35_tail, v34_eq, planes_read]
  exact planeOf_read V x hx _ _ _ t

/-- A row shifted by sixteen entries a step, read at an entry of step `s`. -/
theorem band (A : Fin 16 → EReal) (w : Fin 16 → ℝ) (hA : ∀ o, A o = ((w o : ℝ) : EReal)) (n : ℕ) (t s : Fin 8) (k : Fin 16) (hn : n = 16 * t.val) :
    (if h : n ≤ (lane s k).val ∧ (lane s k).val - n < 16 then A ⟨(lane s k).val - n, h.2⟩ else 0)
      = (((if s = t then w k else 0 : ℝ)) : EReal) := by
  have hl : (lane s k).val = 16 * s.val + k.val := rfl
  by_cases hs : s = t
  · subst hs
    rw [dif_pos (by omega), if_pos rfl, hA]
    exact congrArg (fun o => ((w o : ℝ) : EReal)) (Fin.ext (show (lane s k).val - n = k.val by omega))
  · have hne : s.val ≠ t.val := fun h => hs (Fin.ext h)
    rw [dif_neg (by omega), if_neg hs]
    rfl

theorem bandOf_read (V : Val1) (w : Fin 16 → Fin 16 → ℝ)
    (hw : ∀ c o, V (Proc.devRef .tc main_v37) (ix2 c o) = ((w c o : ℝ) : EReal)) (t : Fin 8) (c : Fin 16) (s : Fin 8) (k : Fin 16) :
    bandOf (after (hostOps0_3.take 16) V) t (ix2 c (lane s k)) = (((if s = t then w c k else 0 : ℝ)) : EReal) := by
  unfold bandOf
  fin_cases t <;>
    simp only [Fin.mk_zero, Fin.mk_one, Fin.reduceFinMk, Matrix.cons_val] <;>
    after_reads_at
  · have := band (fun o => V (Proc.devRef .tc main_v37) (ix2 c o)) (w c) (hw c) 0 0 s k rfl
    simpa using this
  all_goals exact band (fun o => V (Proc.devRef .tc main_v37) (ix2 c o)) (w c) (hw c) _ _ s k rfl

/-- The block-diagonal matrix of the first layer's weights. -/
theorem v38_read (V : Val1) (w : Fin 16 → Fin 16 → ℝ)
    (hw : ∀ c o, V (Proc.devRef .tc main_v37) (ix2 c o) = ((w c o : ℝ) : EReal)) (t : Fin 8) (c : Fin 16) (s : Fin 8) (k : Fin 16) :
    after hostOps0_3 V (Proc.devRef .tc main_v38) (ix2 (lane t c) (lane s k)) = (((if s = t then w c k else 0 : ℝ)) : EReal) := by
  rw [after_cut hostOps0_3 16, v38_eq, bands_read _ t c _ _ rfl]
  exact bandOf_read V w hw t c s k

theorem v39_read (V : Val1) (g : Fin 16 → ℝ) (hg : Is1 (V (Proc.devRef .tc main_arg3)) g) :
    Is2 (after hostOps0_4 V (Proc.devRef .tc main_v39)) (fun _ k => g k) := by
  intro a k
  after_reads_at
  exact hg k

theorem v40_read (V : Val1) (g : Fin 16 → ℝ) (hg : Is1 (V (Proc.devRef .tc main_arg4)) g) :
    Is2 (after hostOps0_4 V (Proc.devRef .tc main_v40)) (fun _ k => g k) := by
  intro a k
  after_reads_at
  exact hg k

/-- The first layer's result as images. -/
theorem v42_read (V : Val1) (y : Fin 3136 × Fin 8 → Fin 16 → ℝ)
    (hy : ∀ r s k, V (Proc.devRef .tc main_v41) (ix2 r (lane s k)) = ((y (r, s) k : ℝ) : EReal)) (b : Fin 2) (h u : Fin 112) (k : Fin 16) :
    after hostOps1 V (Proc.devRef .tc main_v42) (ix4 b h u k) = ((y (pix112.symm (b, h, u)) k : ℝ) : EReal) := by
  after_reads_at
  rw [← hy]
  refine congrArg _ (congrArg₂ ix2 (Fin.ext ?_) (Fin.ext ?_))
  · show b.val * 1568 + h.val * 14 + u.val / 8 = (b.val * 12544 + h.val * 112 + u.val) / 8
    omega
  · show u.val % 8 * 16 + k.val = 16 * ((b.val * 12544 + h.val * 112 + u.val) % 8) + k.val
    omega

theorem v43_read (V : Val1) (x : Img 16 112)
    (hx : ∀ b h u k, V (Proc.devRef .tc main_v42) (ix4 b h u k) = ((x b k h u : ℝ) : EReal))
    (hc : V (Proc.devRef .tc main_c_0) = fun _ => 0#32)
    (b : Fin 2) (h u : Fin 114) (k : Fin 16) :
    after hostOps1_1 V (Proc.devRef .tc main_v43) (ix4 b h u k) = ((Spec.pad (x b k) h u : ℝ) : EReal) := by
  after_reads_at
  simp only [hx, hc]
  unfold Spec.pad
  split_ifs
  · rfl
  · simp [FloatOps.sitofp]

theorem blockOf_read (V : Val1) (x : Fin 2 → Fin 16 → ℕ → ℕ → ℝ)
    (hx : ∀ (b : Fin 2) (h u : Fin 114) k, V (Proc.devRef .tc main_v43) (ix4 b h u k) = ((x b k h u : ℝ) : EReal))
    (b : Fin 2) (h u : Fin 56) (t k : Fin 16) :
    blockOf (after (hostOps1_2.take 16) V) t (ix4 b h u k) = ((x b k (t.val / 4 + 2 * h) (t.val % 4 + 2 * u) : ℝ) : EReal) := by
  unfold blockOf
  fin_cases t <;>
    simp only [Fin.mk_zero, Fin.mk_one, Fin.reduceFinMk, Matrix.cons_val] <;>
    after_reads_at <;> rw [hx] <;> simp

/-- Entry `k` of the `t`-th point of a window of the second layer. -/
def slot (t k : Fin 16) : Fin 256 := ⟨16 * t.val + k.val, by omega⟩

theorem v61_tail (V : Val1) (r : Fin 6272) (l : Fin 256) :
    after ((hostOps1_2.drop 16).drop 1) V (Proc.devRef .tc main_v61) (ix2 r l)
      = V (Proc.devRef .tc main_v60) (ix4 (pix56 r).1 (pix56 r).2.1 (pix56 r).2.2 l) := by
  after_reads_at
  rfl

/-- The matrix of the second layer's windows. -/
theorem v61_read (V : Val1) (x : Fin 2 → Fin 16 → ℕ → ℕ → ℝ)
    (hx : ∀ (b : Fin 2) (h u : Fin 114) k, V (Proc.devRef .tc main_v43) (ix4 b h u k) = ((x b k h u : ℝ) : EReal))
    (r : Fin 6272) (t k : Fin 16) :
    after hostOps1_2 V (Proc.devRef .tc main_v61) (ix2 r (slot t k))
      = ((x (pix56 r).1 k (t.val / 4 + 2 * (pix56 r).2.1) (t.val % 4 + 2 * (pix56 r).2.2) : ℝ) : EReal) := by
  rw [after_cut hostOps1_2 16, after_cut (hostOps1_2.drop 16) 1, v61_tail, v60_eq, blocks_read _ _ _ _ t k _ rfl]
  exact blockOf_read V x hx _ _ _ t k

theorem v63_tail (V : Val1) (w : Fin 32 → Fin 16 → Fin 4 → Fin 4 → ℝ) (hw : Is4 (V (Proc.devRef .tc main_arg5)) w) (t k : Fin 16) (o : Fin 32) :
    after (hostOps1_2.drop 17) V (Proc.devRef .tc main_v63) (ix2 (slot t k) o)
      = ((w o k ⟨t.val / 4, by omega⟩ ⟨t.val % 4, by omega⟩ : ℝ) : EReal) := by
  after_reads_at
  rw [← hw]
  refine congrArg _ (ix4_ext ?_ ?_ ?_ ?_)
  · rfl
  · show (16 * t.val + k.val) % 16 = k.val
    omega
  · show (16 * t.val + k.val) / 64 = t.val / 4
    omega
  · show (16 * t.val + k.val) / 16 % 4 = t.val % 4
    omega

theorem rows2_tail (V : Val1) (g be : Fin 32 → ℝ) (hg : Is1 (V (Proc.devRef .tc main_arg7)) g) (hb : Is1 (V (Proc.devRef .tc main_arg8)) be) :
    Is2 (after (hostOps1_2.drop 17) V (Proc.devRef .tc main_v64)) (fun _ k => g k)
      ∧ Is2 (after (hostOps1_2.drop 17) V (Proc.devRef .tc main_v65)) (fun _ k => be k) := by
  constructor
  · intro a k
    after_reads_at
    exact hg k
  · intro a k
    after_reads_at
    exact hb k

theorem args2 (V : Val1) :
    after (hostOps1_2.take 17) V (Proc.devRef .tc main_arg5) = V (Proc.devRef .tc main_arg5)
      ∧ after (hostOps1_2.take 17) V (Proc.devRef .tc main_arg7) = V (Proc.devRef .tc main_arg7)
      ∧ after (hostOps1_2.take 17) V (Proc.devRef .tc main_arg8) = V (Proc.devRef .tc main_arg8) := by
  refine ⟨?_, ?_, ?_⟩ <;> after_reads_simp

theorem v68_read (V : Val1) (w : Fin 64 → Fin 32 → ℝ) (hw : Is4 (V (Proc.devRef .tc main_arg9)) (fun i j (_ : Fin 1) (_ : Fin 1) => w i j)) :
    Is2 (after hostOps2 V (Proc.devRef .tc main_v68)) (fun a k => w k a) := by
  intro a k
  after_reads_at
  rw [← hw _ _ 0 0]

theorem v70_read (V : Val1) (w : Fin 32 → Fin 64 → ℝ) (hw : Is4 (V (Proc.devRef .tc main_arg14)) (fun i j (_ : Fin 1) (_ : Fin 1) => w i j)) :
    Is2 (after hostOps2 V (Proc.devRef .tc main_v70)) (fun a k => w k a) := by
  intro a k
  after_reads_at
  rw [← hw _ _ 0 0]

theorem v73_read (V : Val1) (e : Fin 512 → Fin 64 → ℝ) (he : Is2 (V (Proc.devRef .tc main_arg13)) e) :
    Is2 (after hostOps2 V (Proc.devRef .tc main_v73)) (fun a k => e k a) := by
  intro a k
  after_reads_at
  exact he _ _

theorem rows3 (V : Val1) (g3 be3 : Fin 64 → ℝ) (g4 be4 : Fin 32 → ℝ) (hg3 : Is1 (V (Proc.devRef .tc main_arg11)) g3)
    (hb3 : Is1 (V (Proc.devRef .tc main_arg12)) be3) (hg4 : Is1 (V (Proc.devRef .tc main_arg16)) g4) (hb4 : Is1 (V (Proc.devRef .tc main_arg17)) be4) :
    Is2 (after hostOps2 V (Proc.devRef .tc main_v71)) (fun _ k => g3 k) ∧ Is2 (after hostOps2 V (Proc.devRef .tc main_v72)) (fun _ k => be3 k)
      ∧ Is2 (after hostOps2 V (Proc.devRef .tc main_v74)) (fun _ k => g4 k) ∧ Is2 (after hostOps2 V (Proc.devRef .tc main_v75)) (fun _ k => be4 k) := by
  refine ⟨?_, ?_, ?_, ?_⟩ <;> intro a k <;> after_reads_at
  · exact hg3 k
  · exact hb3 k
  · exact hg4 k
  · exact hb4 k

theorem out_read (V : Val1) (z q : Img 64 56) (hz : Is2 (V (Proc.devRef .tc main_v76_0)) (rows z)) (hq : Is2 (V (Proc.devRef .tc main_v76_1)) (rows q)) :
    Is4 (after hostOps3 V (Proc.devRef .tc main_v78)) z ∧ Is4 (after hostOps3 V (Proc.devRef .tc main_v80)) q := by
  constructor
  · intro b k h u
    after_reads_at
    refine (hz _ _).trans ?_
    show (((z (pix56 (pix56.symm (b, h, u))).1 k (pix56 (pix56.symm (b, h, u))).2.1 (pix56 (pix56.symm (b, h, u))).2.2 : ℝ)) : EReal) = _
    rw [Equiv.apply_symm_apply]
  · intro b k h u
    after_reads_at
    refine (hq _ _).trans ?_
    show (((q (pix56 (pix56.symm (b, h, u))).1 k (pix56 (pix56.symm (b, h, u))).2.1 (pix56 (pix56.symm (b, h, u))).2.2 : ℝ)) : EReal) = _
    rw [Equiv.apply_symm_apply]

end

end Cert.Proof.Ker
end
-- ==== Proof.KerCall.lean ====
/- What each of the first two calls leaves of real windows and weights. -/
module

public import proofs.«01_k».proof.Proof.KerWin
public import proofs.«01_k».proof.Proof.KerRun

@[expose] public section

set_option maxRecDepth 16384

noncomputable section

namespace Cert.Proof.Ker

open Idealize.ShloMosaic Idealize.SL.Sem Cert.KernelIdeal Cert.KernelIdeal.Gen Cert.Proof.Spec

/-- The first call's result is one function of its four arrays. -/
theorem out0_eq (x0 : Vec Ideal S3136x128 .f32) (x1 : Vec Ideal S128x128 .f32) (x2 x3 : Vec Ideal S1x16 .f32) :
    out0_4 x0 x1 x2 x3 = k0_pay1 (k0_pay2 x0 x1) (k0_pay3 x2) (k0_pay4 x3) (k0_pay5 x0 x1) (k0_pay6 x0 x1) (k0_pay7 x0 x1) := by
  unfold out0_4
  rw [View.canon_unit_zero zero2]
  simp only [View.ld_unit_zero (S := S3136x128) zero2, View.ld_unit_zero (S := S128x128) zero2, View.ld_unit_zero (S := S1x16) zero2]

/-- The second call's result is one function of its four arrays. -/
theorem out1_eq (x0 : Vec Ideal S6272x256 .f32) (x1 : Vec Ideal S256x32 .f32) (x2 x3 : Vec Ideal S1x32 .f32) :
    out1_4 x0 x1 x2 x3 = k1_pay1 x0 x1 x2 x3 := by
  unfold out1_4
  rw [View.canon_unit_zero zero2]
  simp only [View.ld_unit_zero (S := S6272x256) zero2, View.ld_unit_zero (S := S256x32) zero2, View.ld_unit_zero (S := S1x32) zero2]

/-- A sum over 128 lanes, by steps. -/
theorem sum_lane (f : Fin 128 → ℝ) : ∑ l, f l = ∑ t : Fin 8, ∑ c : Fin 16, f (lane t c) := by
  rw [← Fintype.sum_prod_type' (f := fun t c => f (lane t c))]
  refine (Equiv.sum_comp (finProdFinEquiv (m := 8) (n := 16)) f).symm.trans (Fintype.sum_congr _ _ fun p => congrArg f (Fin.ext ?_))
  show p.2.val + 16 * p.1.val = 16 * p.1.val + p.2.val
  omega

/-- A sum over 256 slots, by points. -/
theorem sum_slot (f : Fin 256 → ℝ) : ∑ l, f l = ∑ t : Fin 16, ∑ c : Fin 16, f (slot t c) := by
  rw [← Fintype.sum_prod_type' (f := fun t c => f (slot t c))]
  refine (Equiv.sum_comp (finProdFinEquiv (m := 16) (n := 16)) f).symm.trans (Fintype.sum_congr _ _ fun p => congrArg f (Fin.ext ?_))
  show p.2.val + 16 * p.1.val = 16 * p.1.val + p.2.val
  omega

/-- A sum over the sixteen points of a window, by rows. -/
theorem sum_window (f : Fin 4 → Fin 4 → ℝ) :
    ∑ t : Fin 16, f ⟨t.val / 4, by omega⟩ ⟨t.val % 4, by omega⟩ = ∑ i, ∑ j, f i j := by
  rw [← Fintype.sum_prod_type' (f := f)]
  refine (Equiv.sum_comp (finProdFinEquiv (m := 4) (n := 4)) _).symm.trans (Fintype.sum_congr _ _ fun p => ?_)
  refine congrArg₂ f (Fin.ext ?_) (Fin.ext ?_)
  · show (p.2.val + 4 * p.1.val) / 4 = p.1.val
    omega
  · show (p.2.val + 4 * p.1.val) % 4 = p.2.val
    omega

/-- The first call on the windows and weights of the first layer. -/
theorem call0 (x : Img 1 224) (w : Fin 16 → Fin 1 → Fin 4 → Fin 4 → ℝ) (g be : Fin 16 → ℝ)
    (x0 : Vec Ideal S3136x128 .f32) (x1 : Vec Ideal S128x128 .f32) (x2 x3 : Vec Ideal S1x16 .f32)
    (h0 : ∀ (r : Fin 3136) (s : Fin 8) (t : Fin 16), x0 (ix2 r (lane s t))
      = ((pad (x (pix112 (r, s)).1 0) (t.val / 4 + 2 * (pix112 (r, s)).2.1) (t.val % 4 + 2 * (pix112 (r, s)).2.2) : ℝ) : EReal))
    (h1 : ∀ t c s k, x1 (ix2 (lane t c) (lane s k)) = (((if s = t then w k 0 ⟨c / 4, by omega⟩ ⟨c % 4, by omega⟩ else 0 : ℝ)) : EReal))
    (h2 : Is2 x2 fun _ k => g k) (h3 : Is2 x3 fun _ k => be k) (r : Fin 3136) (s : Fin 8) (k : Fin 16) :
    out0_4 x0 x1 x2 x3 (ix2 r (lane s k))
      = ((relu (norm (conv x w : Img 16 112) g be) (pix112 (r, s)).1 k (pix112 (r, s)).2.1 (pix112 (r, s)).2.2 : ℝ) : EReal) := by
  let p : Fin 3136 → Fin 128 → ℝ := fun r l => (x0 (ix2 r l)).toReal
  let v : Fin 128 → Fin 128 → ℝ := fun l m => (x1 (ix2 l m)).toReal
  have lane_div : ∀ l : Fin 128, ∃ (t : Fin 8) (c : Fin 16), l = lane t c := fun l =>
    ⟨⟨l / 16, by omega⟩, ⟨l % 16, by omega⟩, Fin.ext (show l.val = 16 * (l.val / 16) + l.val % 16 by omega)⟩
  have hp : Is2 x0 p := fun r l => by
    obtain ⟨t, c, rfl⟩ := lane_div l
    show _ = (((x0 (ix2 r (lane t c))).toReal : ℝ) : EReal)
    rw [h0, EReal.toReal_coe]
  have hv : Is2 x1 v := fun l m => by
    obtain ⟨t, c, rfl⟩ := lane_div l
    obtain ⟨s, k, rfl⟩ := lane_div m
    show _ = (((x1 (ix2 (lane t c) (lane s k))).toReal : ℝ) : EReal)
    rw [h1, EReal.toReal_coe]
  have hprod : ∀ q : Fin 3136 × Fin 8, prod p v q.1 (lane q.2 k) = (conv x w : Img 16 112) (pix112 q).1 k (pix112 q).2.1 (pix112 q).2.2 := fun q => by
    unfold prod conv
    have hs : ∀ t c, p q.1 (lane t c) * v (lane t c) (lane q.2 k)
        = if q.2 = t then w k 0 ⟨c / 4, by omega⟩ ⟨c % 4, by omega⟩
          * pad (x (pix112 (q.1, t)).1 0) (c.val / 4 + 2 * (pix112 (q.1, t)).2.1) (c.val % 4 + 2 * (pix112 (q.1, t)).2.2) else 0 := fun t c => by
      show (x0 (ix2 q.1 (lane t c))).toReal * (x1 (ix2 (lane t c) (lane q.2 k))).toReal = _
      rw [h0, h1, EReal.toReal_coe, EReal.toReal_coe]
      split_ifs
      · ring
      · ring
    rw [sum_lane]
    simp only [hs]
    rw [Finset.sum_comm]
    simp only [Finset.sum_ite_eq, Finset.mem_univ, if_true, Fin.sum_univ_one, Fin.sum_univ_succ (n := 0), Fin.sum_univ_zero, add_zero]
    exact sum_window fun i j => w k 0 i j * pad (x (pix112 q).1 0) (i + 2 * (pix112 q).2.1) (j + 2 * (pix112 q).2.2)
  rw [out0_eq, pay0 x0 x1 x2 x3 p v (fun _ k => g k) (fun _ k => be k) hp hv h2 h3 r s k]
  simp only [hprod]
  rw [bn_equiv pix112 (fun c : Pix 112 => (conv x w : Img 16 112) c.1 k c.2.1 c.2.2)]
  rfl

/-- The second call on the windows and weights of the second layer. -/
theorem call1 (x : Img 16 112) (w : Fin 32 → Fin 16 → Fin 4 → Fin 4 → ℝ) (g be : Fin 32 → ℝ)
    (x0 : Vec Ideal S6272x256 .f32) (x1 : Vec Ideal S256x32 .f32) (x2 x3 : Vec Ideal S1x32 .f32)
    (h0 : ∀ (r : Fin 6272) (t c : Fin 16), x0 (ix2 r (slot t c))
      = ((pad (x (pix56 r).1 c) (t.val / 4 + 2 * (pix56 r).2.1) (t.val % 4 + 2 * (pix56 r).2.2) : ℝ) : EReal))
    (h1 : ∀ (t c : Fin 16) k, x1 (ix2 (slot t c) k) = ((w k c ⟨t / 4, by omega⟩ ⟨t % 4, by omega⟩ : ℝ) : EReal))
    (h2 : Is2 x2 fun _ k => g k) (h3 : Is2 x3 fun _ k => be k) :
    Is2 (out1_4 x0 x1 x2 x3) (rows (relu (norm (conv x w : Img 32 56) g be))) := by
  intro r k
  let p : Fin 6272 → Fin 256 → ℝ := fun r l => (x0 (ix2 r l)).toReal
  let v : Fin 256 → Fin 32 → ℝ := fun l m => (x1 (ix2 l m)).toReal
  have slot_div : ∀ l : Fin 256, ∃ t c : Fin 16, l = slot t c := fun l =>
    ⟨⟨l / 16, by omega⟩, ⟨l % 16, by omega⟩, Fin.ext (show l.val = 16 * (l.val / 16) + l.val % 16 by omega)⟩
  have hp : Is2 x0 p := fun r l => by
    obtain ⟨t, c, rfl⟩ := slot_div l
    show _ = (((x0 (ix2 r (slot t c))).toReal : ℝ) : EReal)
    rw [h0, EReal.toReal_coe]
  have hv : Is2 x1 v := fun l m => by
    obtain ⟨t, c, rfl⟩ := slot_div l
    show _ = (((x1 (ix2 (slot t c) m)).toReal : ℝ) : EReal)
    rw [h1, EReal.toReal_coe]
  have hprod : ∀ q : Fin 6272, prod p v q k = (conv x w : Img 32 56) (pix56 q).1 k (pix56 q).2.1 (pix56 q).2.2 := fun q => by
    unfold prod conv
    rw [sum_slot]
    refine (Fintype.sum_congr _ _ fun t => Fintype.sum_congr _ _ fun c => ?_).trans
      (sum_window fun i j => ∑ a, w k a i j * pad (x (pix56 q).1 a) (i + 2 * (pix56 q).2.1) (j + 2 * (pix56 q).2.2))
    show (x0 (ix2 q (slot t c))).toReal * (x1 (ix2 (slot t c) k)).toReal = _
    rw [h0, h1, EReal.toReal_coe, EReal.toReal_coe]
    ring
  rw [out1_eq, pay1_1 x0 x1 x2 x3 p v (fun _ k => g k) (fun _ k => be k) hp hv h2 h3 r k]
  simp only [hprod]
  rw [bn_equiv pix56 (fun c : Pix 56 => (conv x w : Img 32 56) c.1 k c.2.1 c.2.2)]
  rfl

end Cert.Proof.Ker
end
-- ==== Proof.KerVq.lean ====
/- The kernel's codebook search over the real numbers: in each group of rows, the row of the codebook at the first least distance. -/
module

public import proofs.«01_k».proof.Proof.KerConv

@[expose] public section

set_option maxRecDepth 16384

noncomputable section

namespace Cert.Proof.Ker

open Idealize.ShloMosaic Idealize.SL.Sem Cert.KernelIdeal Cert.KernelIdeal.Gen Cert.Proof.Spec

/-- The distances of a group of rows to the codebook, less each row's own square. -/
def dists (z : FVec Ideal S784x64 .f32) (v40 : FVec Ideal S64x512 .f32) (v46 : FVec Ideal S1x512 .f32) : FVec Ideal S784x512 .f32 :=
  subf (broadcastTo S784x512 v46 broadcasts_S1x512_S784x512)
    (mulf (broadcast S784x512 (Scalar.ofBits (F := Ideal) .f32 0x40000000#32))
      (matmul dot_S784x64_S64x512_S784x512_1_0_0_1_n_n (some .fp32) z v40 (constant S784x512 .f32 0x00000000#32)))

/-- Where a row's distance is its least. -/
def mask (d : FVec Ideal S784x512 .f32) : IVec S784x512 1 :=
  cmpf .oeq d (broadcastTo S784x512 (shapeCast S784x1 (multiReduction .minimumf [1] S784 d 0x7F800000#32 reduces_S784x512_S784 (.inl rfl) rfl)
    shapeCasts_S784_S784x1) broadcasts_S784x1_S784x512)

/-- Each row's first marked place. -/
def first (v47 : IVec S1x512 32) (m : IVec S784x512 1) : IVec S784 32 :=
  multiReductionI .minsi [1] S784 (select m (broadcastTo S784x512 (shapeCast S1x512 v47 shapeCasts_S1x512_S1x512) broadcasts_S1x512_S784x512)
    (broadcast S784x512 512#32)) 2147483647#32 reduces_S784x512_S784 rfl

/-- The codebook rows at the places `i`. -/
def pick (v41 : FVec Ideal S512x64 .f32) (v47 : IVec S1x512 32) (i : IVec S784 32) : FVec Ideal S784x64 .f32 :=
  matmul dot_S784x512_S512x64_S784x64_1_0_0_1_n_n (some .fp32)
    (sitofp .f32 (extui 32 (cmpi .eq (broadcastTo S784x512 v47 broadcasts_S1x512_S784x512)
      (broadcastTo S784x512 (shapeCast S784x1 i shapeCasts_S784_S784x1) broadcasts_S784x1_S784x512)) natLt_1_32)) v41
    (constant S784x64 .f32 0x00000000#32)

/-- The distance of a row to each codebook row, less the row's own square. -/
def gap {n : ℕ} (z : Fin n → Fin 64 → ℝ) (e : Fin 512 → Fin 64 → ℝ) (r : Fin n) (k : Fin 512) : ℝ :=
  (∑ c, e k c * e k c) - 2 * ∑ c, z r c * e k c

theorem ofBits_two : Ideal.ofBits .f32 1073741824#32 = ((2 : ℝ) : EReal) := by
  simp [Ideal.ofBits, Ideal.ieee]
  rw [← EReal.coe_mul]
  norm_num

theorem ofBits_top : Ideal.ofBits .f32 2139095040#32 = ⊤ := by
  simp [Ideal.ofBits, Ideal.ieee]

theorem dists_read (z : FVec Ideal S784x64 .f32) (v40 : FVec Ideal S64x512 .f32) (v46 : FVec Ideal S1x512 .f32) (zr : Fin 784 → Fin 64 → ℝ)
    (e : Fin 512 → Fin 64 → ℝ) (hz : Is2 z zr) (h40 : Is2 v40 fun c k => e k c) (h46 : Is2 v46 fun _ k => ∑ c, e k c * e k c) :
    Is2 (dists z v40 v46) (gap zr e) := by
  intro r k
  unfold dists
  pointwise
  simp only [hz _ _, h40 _ _, h46 _ _, ofBits_two, ← EReal.coe_mul, coe_sum, ← EReal.coe_sub]
  rfl

theorem fold_min {n : ℕ} (d : Fin n → ℝ) (k : Fin n) (hk : IsFirst d k) :
    Finset.fold min (⊤ : EReal) (fun x => (d x : EReal)) Finset.univ = (d k : EReal) := by
  refine le_antisymm ((Finset.fold_min_le _).mpr (Or.inr ⟨k, Finset.mem_univ k, le_rfl⟩)) ((Finset.le_fold_min _).mpr ⟨le_top, fun x _ => ?_⟩)
  exact EReal.coe_le_coe_iff.mpr (hk.1 x)

theorem mask_read (D : FVec Ideal S784x512 .f32) (d : Fin 784 → Fin 512 → ℝ) (hd : Is2 D d) (f : Fin 784 → Fin 512)
    (hf : ∀ r, IsFirst (d r) (f r)) (r : Fin 784) (k : Fin 512) :
    mask D (ix2 r k) = BitVec.ofBool (decide (d r k = d r (f r))) := by
  unfold mask
  pointwise
  simp only [hd _ _, ofBits_top]
  rw [fold_min (d r) (f r) (hf r)]
  simp only [EReal.coe_eq_coe_iff]

theorem toInt_minsi (x y : BitVec 32) : (IntOp.minsi x y).toInt = min x.toInt y.toInt := by
  unfold IntOp.minsi
  rw [BitVec.slt_eq_decide]
  by_cases h : x.toInt < y.toInt
  · simp [h, le_of_lt h]
  · simp [h, not_lt.mp h]

theorem fold_minsi {n : ℕ} (g : Fin n → BitVec 32) (k : Fin n) (b : BitVec 32) (hb : (g k).toInt ≤ b.toInt)
    (hk : ∀ j, (g k).toInt ≤ (g j).toInt) : Finset.fold IntOp.minsi b g Finset.univ = g k := by
  refine BitVec.eq_of_toInt_eq ?_
  rw [← Finset.fold_hom (op' := min) (m := BitVec.toInt) (hm := toInt_minsi)]
  exact le_antisymm ((Finset.fold_min_le _).mpr (Or.inr ⟨k, Finset.mem_univ k, le_rfl⟩)) ((Finset.le_fold_min _).mpr ⟨hb, fun x _ => hk x⟩)

theorem toInt_small (k : ℕ) (hk : k ≤ 512) : (BitVec.ofNat 32 k).toInt = k := by
  rw [BitVec.toInt_ofNat']
  rw [Int.bmod_eq_of_le] <;> norm_num <;> omega

theorem iota_read (i : Fin 1) (k : Fin 512) : iota .tc S1x512 32 [1] iota_S1x512_d1_w32 (ix2 i k) = BitVec.ofNat 32 k.val := by
  pointwise

theorem first_read (v47 : IVec S1x512 32) (h47 : ∀ i k, v47 (ix2 i k) = BitVec.ofNat 32 k.val) (m : IVec S784x512 1) (d : Fin 784 → Fin 512 → ℝ)
    (f : Fin 784 → Fin 512) (hf : ∀ r, IsFirst (d r) (f r)) (hm : ∀ r k, m (ix2 r k) = BitVec.ofBool (decide (d r k = d r (f r)))) (r : Fin 784) :
    first v47 m (ix1 r) = BitVec.ofNat 32 (f r).val := by
  unfold first
  pointwise
  simp only [h47, hm]
  have hg : ∀ x : Fin 512, Scalar.select (BitVec.ofBool (decide (d r x = d r (f r)))) (BitVec.ofNat 32 x.val) 512#32
      = if d r x = d r (f r) then BitVec.ofNat 32 x.val else BitVec.ofNat 32 512 := by
    intro x
    by_cases h : d r x = d r (f r) <;> simp [Scalar.select, h]
  simp only [hg]
  rw [fold_minsi _ (f r)]
  · rw [if_pos rfl]
  · rw [if_pos rfl, toInt_small _ (by omega)]
    have := (f r).isLt
    have h2 : (2147483647#32).toInt = 2147483647 := by decide
    rw [h2]; omega
  · intro j
    rw [if_pos rfl, toInt_small _ (by omega)]
    split
    · rename_i h
      rw [toInt_small _ (by omega)]
      have : ¬ j < f r := fun hj => (ne_of_gt ((hf r).2 j hj)) h
      omega
    · rw [toInt_small _ (by omega)]; omega

theorem pick_read (v41 : FVec Ideal S512x64 .f32) (v47 : IVec S1x512 32) (h47 : ∀ i k, v47 (ix2 i k) = BitVec.ofNat 32 k.val) (I : IVec S784 32)
    (e : Fin 512 → Fin 64 → ℝ) (he : Is2 v41 e) (f : Fin 784 → Fin 512) (hI : ∀ r, I (ix1 r) = BitVec.ofNat 32 (f r).val) :
    Is2 (pick v41 v47 I) (fun r c => e (f r) c) := by
  intro r c
  unfold pick
  pointwise
  have hg : ∀ x : Fin 512, FloatOps.sitofp (F := Ideal) FTy.f32 (BitVec.setWidth 32 (IntOp.cmpi CmpIPredicate.eq (v47 (ix2 0 x)) (I (ix1 r))))
      = (((if x = f r then 1 else 0 : ℝ)) : EReal) := by
    intro x
    rw [h47, hI]
    by_cases h : x = f r
    · subst h
      simp [IntOp.cmpi, FloatOps.sitofp]
    · have hn : BitVec.ofNat 32 x.val ≠ BitVec.ofNat 32 (f r).val := by
        intro hh
        have := congrArg BitVec.toInt hh
        rw [toInt_small _ (by omega), toInt_small _ (by omega)] at this
        exact h (Fin.ext (by exact_mod_cast this))
      have hb : (BitVec.ofNat 32 x.val == BitVec.ofNat 32 (f r).val) = false := beq_eq_false_iff_ne.mpr hn
      simp [IntOp.cmpi, FloatOps.sitofp, h, hb]
  simp only [hg, he _ _, ← EReal.coe_mul, coe_sum]
  simp

/-- A group of rows through the search: each row's codebook row at the first least distance. -/
theorem search (z : FVec Ideal S784x64 .f32) (v40 : FVec Ideal S64x512 .f32) (v46 : FVec Ideal S1x512 .f32) (v41 : FVec Ideal S512x64 .f32)
    (v47 : IVec S1x512 32) (h47 : ∀ i k, v47 (ix2 i k) = BitVec.ofNat 32 k.val) (zr : Fin 784 → Fin 64 → ℝ) (e : Fin 512 → Fin 64 → ℝ)
    (hz : Is2 z zr) (h40 : Is2 v40 fun c k => e k c) (h46 : Is2 v46 fun _ k => ∑ c, e k c * e k c) (h41 : Is2 v41 e)
    (f : Fin 784 → Fin 512) (hf : ∀ r, IsFirst (gap zr e r) (f r)) :
    Is2 (pick v41 v47 (first v47 (mask (dists z v40 v46)))) (fun r c => e (f r) c) :=
  pick_read v41 v47 h47 _ e h41 f (first_read v47 h47 _ (gap zr e) f hf (mask_read _ _ (dists_read z v40 v46 zr e hz h40 h46) f hf))

/-- The row `r` of the group `s`. -/
def chunk (s : Fin 8) (r : Fin 784) : Fin 6272 := ⟨784 * s.val + r.val, by omega⟩

/-- The codebook rows of the group of rows that starts at the row `o`. -/
def grp (o : ℕ) (h : S6272x64.Slices ![o, 0] S784x64) (Z : FVec Ideal S6272x64 .f32) (v40 : FVec Ideal S64x512 .f32) (v46 : FVec Ideal S1x512 .f32)
    (v41 : FVec Ideal S512x64 .f32) : FVec Ideal S784x64 .f32 :=
  pick v41 (iota .tc S1x512 32 [1] iota_S1x512_d1_w32) (first (iota .tc S1x512 32 [1] iota_S1x512_d1_w32)
    (mask (dists (extractStridedSlice S784x64 ![o, 0] Z h) v40 v46)))

theorem grp_read (o : ℕ) (h : S6272x64.Slices ![o, 0] S784x64) (s : Fin 8) (ho : o = 784 * s.val) (Z : FVec Ideal S6272x64 .f32)
    (v40 : FVec Ideal S64x512 .f32) (v46 : FVec Ideal S1x512 .f32) (v41 : FVec Ideal S512x64 .f32) (z : Fin 6272 → Fin 64 → ℝ)
    (e : Fin 512 → Fin 64 → ℝ) (hz : Is2 Z z) (h40 : Is2 v40 fun c k => e k c) (h46 : Is2 v46 fun _ k => ∑ c, e k c * e k c) (h41 : Is2 v41 e)
    (f : Fin 6272 → Fin 512) (hf : ∀ r, IsFirst (gap z e r) (f r)) :
    Is2 (grp o h Z v40 v46 v41) (fun r c => e (f (chunk s r)) c) := by
  subst ho
  refine search _ v40 v46 v41 _ iota_read (fun r c => z (chunk s r) c) e ?_ h40 h46 h41 (fun r => f (chunk s r)) (fun r => hf (chunk s r))
  intro r c
  rw [← hz]
  refine congrArg Z (funext fun d => ?_)
  fin_cases d
  · rfl
  · exact Fin.ext (Nat.zero_add _)

theorem dot32_read (z : FVec Ideal S784x64 .f32) (v43 : FVec Ideal S64x32 .f32) (zr : Fin 784 → Fin 64 → ℝ) (w : Fin 64 → Fin 32 → ℝ)
    (hz : Is2 z zr) (hw : Is2 v43 w) :
    Is2 (matmul dot_S784x64_S64x32_S784x32_1_0_0_1_n_n (some .fp32) z v43 (constant S784x32 .f32 0x00000000#32)) (prod zr w) := by
  intro r k
  pointwise
  simp only [hz _ _, hw _ _, ← EReal.coe_mul, coe_sum]
  rfl

/-- Eight groups of rows one above the other. -/
def stack64 (P : Fin 8 → FVec Ideal S784x64 .f32) : FVec Ideal S6272x64 .f32 :=
  concatenate S6272x64 0 [⟨S784x64, P 0⟩, ⟨S784x64, P 1⟩, ⟨S784x64, P 2⟩, ⟨S784x64, P 3⟩, ⟨S784x64, P 4⟩, ⟨S784x64, P 5⟩, ⟨S784x64, P 6⟩, ⟨S784x64, P 7⟩]
    concatenates_S784x64_S784x64_S784x64_S784x64_S784x64_S784x64_S784x64_S784x64_S6272x64_d0

/-- The same, at thirty-two columns. -/
def stack32 (P : Fin 8 → FVec Ideal S784x32 .f32) : FVec Ideal S6272x32 .f32 :=
  concatenate S6272x32 0 [⟨S784x32, P 0⟩, ⟨S784x32, P 1⟩, ⟨S784x32, P 2⟩, ⟨S784x32, P 3⟩, ⟨S784x32, P 4⟩, ⟨S784x32, P 5⟩, ⟨S784x32, P 6⟩, ⟨S784x32, P 7⟩]
    concatenates_S784x32_S784x32_S784x32_S784x32_S784x32_S784x32_S784x32_S784x32_S6272x32_d0

theorem stack64_read (P : Fin 8 → FVec Ideal S784x64 .f32) (y : Fin 6272 → Fin 64 → ℝ) (h : ∀ s, Is2 (P s) fun r c => y (chunk s r) c) :
    Is2 (stack64 P) y := by
  intro r c
  unfold stack64
  pointwise
  simp only [h _ _ _]
  split_ifs <;> exact congrArg (fun r => ((y r c : ℝ) : EReal)) (Fin.ext (by simp [chunk] <;> omega))

theorem stack32_read (P : Fin 8 → FVec Ideal S784x32 .f32) (y : Fin 6272 → Fin 32 → ℝ) (h : ∀ s, Is2 (P s) fun r c => y (chunk s r) c) :
    Is2 (stack32 P) y := by
  intro r c
  unfold stack32
  pointwise
  simp only [h _ _ _]
  split_ifs <;> exact congrArg (fun r => ((y r c : ℝ) : EReal)) (Fin.ext (by simp [chunk] <;> omega))

/-- The codebook rows of each of the eight groups. -/
def picks (Z : FVec Ideal S6272x64 .f32) (v40 : FVec Ideal S64x512 .f32) (v46 : FVec Ideal S1x512 .f32) (v41 : FVec Ideal S512x64 .f32) :
    Fin 8 → FVec Ideal S784x64 .f32 :=
  ![grp 0 slices_S6272x64_o0_0_S784x64 Z v40 v46 v41, grp 784 slices_S6272x64_o784_0_S784x64 Z v40 v46 v41,
    grp 1568 slices_S6272x64_o1568_0_S784x64 Z v40 v46 v41, grp 2352 slices_S6272x64_o2352_0_S784x64 Z v40 v46 v41,
    grp 3136 slices_S6272x64_o3136_0_S784x64 Z v40 v46 v41, grp 3920 slices_S6272x64_o3920_0_S784x64 Z v40 v46 v41,
    grp 4704 slices_S6272x64_o4704_0_S784x64 Z v40 v46 v41, grp 5488 slices_S6272x64_o5488_0_S784x64 Z v40 v46 v41]

theorem picks_read (Z : FVec Ideal S6272x64 .f32) (v40 : FVec Ideal S64x512 .f32) (v46 : FVec Ideal S1x512 .f32) (v41 : FVec Ideal S512x64 .f32)
    (z : Fin 6272 → Fin 64 → ℝ) (e : Fin 512 → Fin 64 → ℝ) (hz : Is2 Z z) (h40 : Is2 v40 fun c k => e k c)
    (h46 : Is2 v46 fun _ k => ∑ c, e k c * e k c) (h41 : Is2 v41 e) (f : Fin 6272 → Fin 512) (hf : ∀ r, IsFirst (gap z e r) (f r)) (s : Fin 8) :
    Is2 (picks Z v40 v46 v41 s) (fun r c => e (f (chunk s r)) c) := by
  have key : ∀ (o : ℕ) (h : S6272x64.Slices ![o, 0] S784x64) (s : Fin 8), o = 784 * s.val →
      Is2 (grp o h Z v40 v46 v41) (fun r c => e (f (chunk s r)) c) :=
    fun o h s ho => grp_read o h s ho Z v40 v46 v41 z e hz h40 h46 h41 f hf
  match s with
  | 0 => exact key 0 _ 0 rfl
  | 1 => exact key 784 _ 1 rfl
  | 2 => exact key 1568 _ 2 rfl
  | 3 => exact key 2352 _ 3 rfl
  | 4 => exact key 3136 _ 4 rfl
  | 5 => exact key 3920 _ 5 rfl
  | 6 => exact key 4704 _ 6 rfl
  | 7 => exact key 5488 _ 7 rfl

section
variable (x0 : Vec Ideal S6272x32 .f32) (x1 : Vec Ideal S32x64 .f32) (x2 x3 : Vec Ideal S1x64 .f32) (x4 : Vec Ideal S512x64 .f32)
  (x5 : Vec Ideal S64x512 .f32) (x6 : Vec Ideal S64x32 .f32) (x7 x8 : Vec Ideal S1x32 .f32)

theorem out9_eq : out2_9 x0 x1 x2 x3 x4 x5 x6 x7 x8 = k2_pay2 x0 x1 x2 x3 := by
  unfold out2_9
  rw [View.canon_unit_zero zero2]
  simp only [View.ld_unit_zero (S := S6272x32) zero2, View.ld_unit_zero (S := S32x64) zero2, View.ld_unit_zero (S := S1x64) zero2,
    View.ld_unit_zero (S := S512x64) zero2, View.ld_unit_zero (S := S64x512) zero2, View.ld_unit_zero (S := S64x32) zero2,
    View.ld_unit_zero (S := S1x32) zero2]

theorem out10_eq : out2_10 x0 x1 x2 x3 x4 x5 x6 x7 x8
    = stack64 (picks (k2_pay2 x0 x1 x2 x3) (k2_pay3 x5) (k2_pay5 x5) x4) := by
  unfold out2_10 k2_pay46 k2_pay43 k2_pay40 k2_pay37 k2_pay35 k2_pay33 k2_pay32 k2_pay31
  rw [View.canon_unit_zero zero2]
  simp only [View.ld_unit_zero (S := S6272x32) zero2, View.ld_unit_zero (S := S32x64) zero2, View.ld_unit_zero (S := S1x64) zero2,
    View.ld_unit_zero (S := S512x64) zero2, View.ld_unit_zero (S := S64x512) zero2, View.ld_unit_zero (S := S64x32) zero2,
    View.ld_unit_zero (S := S1x32) zero2]
  rfl

/-- The products of the chosen codebook rows with the decoder's first weights. -/
def low : FVec Ideal S6272x32 .f32 :=
  stack32 fun s => matmul dot_S784x64_S64x32_S784x32_1_0_0_1_n_n (some .fp32) (picks (k2_pay2 x0 x1 x2 x3) (k2_pay3 x5) (k2_pay5 x5) x4 s)
    (k2_pay4 x6) (constant S784x32 .f32 0x00000000#32)

/-- The mean of each column. -/
def colMean (L : FVec Ideal S6272x32 .f32) : FVec Ideal S1x32 .f32 :=
  mulf (addf (broadcast S1x32 (Scalar.ofBits (F := Ideal) .f32 0x00000000#32))
    (divf (shapeCast S1x32 (multiReduction .add [0] S32 L 0x00000000#32 reduces_S6272x32_S32 (.inl rfl) rfl) shapeCasts_S32_S1x32)
      (broadcast S1x32 (Scalar.ofBits (F := Ideal) .f32 0x45C40000#32)))) (broadcast S1x32 (Scalar.ofBits (F := Ideal) .f32 0x3F800000#32))

/-- The mean square of each column less the square of its mean, and the small constant. -/
def colVar (L : FVec Ideal S6272x32 .f32) : FVec Ideal S1x32 .f32 :=
  addf (subf (colMean (mulf L L)) (mulf (colMean L) (colMean L))) (broadcast S1x32 (Scalar.ofBits (F := Ideal) .f32 0x3727C5AC#32))

theorem colMean_read (L : FVec Ideal S6272x32 .f32) (y : Fin 6272 → Fin 32 → ℝ) (h : Is2 L y) :
    Is2 (colMean L) (fun _ k => (∑ r, y r k) / Fintype.card (Fin 6272)) := by
  intro i k
  unfold colMean
  pointwise
  simp only [h _ _, coe_sum]
  exact mean_read _ _ ofBits_rows

theorem out11_eq : out2_11 x0 x1 x2 x3 x4 x5 x6 x7 x8
    = k2_pay1 (low x0 x1 x2 x3 x4 x5 x6) (k2_pay27 x7) (k2_pay28 x8) (colMean (low x0 x1 x2 x3 x4 x5 x6)) (colVar (low x0 x1 x2 x3 x4 x5 x6)) := by
  unfold out2_11 k2_pay46 k2_pay45 k2_pay44 k2_pay43 k2_pay42 k2_pay41 k2_pay40 k2_pay39 k2_pay38 k2_pay37 k2_pay36 k2_pay35 k2_pay34 k2_pay33 k2_pay32 k2_pay31
  rw [View.canon_unit_zero zero2]
  simp only [View.ld_unit_zero (S := S6272x32) zero2, View.ld_unit_zero (S := S32x64) zero2, View.ld_unit_zero (S := S1x64) zero2,
    View.ld_unit_zero (S := S512x64) zero2, View.ld_unit_zero (S := S64x512) zero2, View.ld_unit_zero (S := S64x32) zero2,
    View.ld_unit_zero (S := S1x32) zero2]
  rfl

end

/-- The three results of the call, from what is given to it. -/
theorem vq_read (x0 : Vec Ideal S6272x32 .f32) (x1 : Vec Ideal S32x64 .f32) (x2 x3 : Vec Ideal S1x64 .f32) (x4 : Vec Ideal S512x64 .f32)
    (x5 : Vec Ideal S64x512 .f32) (x6 : Vec Ideal S64x32 .f32) (x7 x8 : Vec Ideal S1x32 .f32)
    (p : Fin 6272 → Fin 32 → ℝ) (w : Fin 32 → Fin 64 → ℝ) (g be : Fin 1 → Fin 64 → ℝ) (e : Fin 512 → Fin 64 → ℝ) (w4 : Fin 64 → Fin 32 → ℝ)
    (g4 be4 : Fin 1 → Fin 32 → ℝ) (h0 : Is2 x0 p) (h1 : Is2 x1 w) (h2 : Is2 x2 g) (h3 : Is2 x3 be) (h4 : Is2 x4 e) (h5 : Is2 x5 fun c k => e k c)
    (h6 : Is2 x6 w4) (h7 : Is2 x7 g4) (h8 : Is2 x8 be4) (z : Fin 6272 → Fin 64 → ℝ)
    (hz : z = fun r k => bn (fun r => prod p w r k) (g 0 k) (be 0 k) r) (f : Fin 6272 → Fin 512) (hf : ∀ r, IsFirst (gap z e r) (f r)) :
    Is2 (out2_9 x0 x1 x2 x3 x4 x5 x6 x7 x8) z ∧ Is2 (out2_10 x0 x1 x2 x3 x4 x5 x6 x7 x8) (fun r c => e (f r) c)
      ∧ Is2 (out2_11 x0 x1 x2 x3 x4 x5 x6 x7 x8)
        (fun r k => max (bn (fun r => prod (fun r c => e (f r) c) w4 r k) (g4 0 k) (be4 0 k) r) 0) := by
  subst hz
  have h9 := pay2_2 x0 x1 x2 x3 p w g be h0 h1 h2 h3
  have hc : Is2 (k2_pay3 x5) fun c k => e k c := by
    intro i j; unfold k2_pay3; pointwise; exact h5 i j
  have hs : Is2 (k2_pay5 x5) fun _ k => ∑ c, e k c * e k c := by
    intro i k; unfold k2_pay5; pointwise
    simp only [hc _ _, ← EReal.coe_mul, coe_sum]
  have hw : Is2 (k2_pay4 x6) w4 := by
    intro i j; unfold k2_pay4; pointwise; exact h6 i j
  have hp := picks_read _ _ _ _ _ e h9 hc hs h4 f hf
  have hl : Is2 (low x0 x1 x2 x3 x4 x5 x6) (prod (fun r c => e (f r) c) w4) :=
    stack32_read _ _ fun s => dot32_read _ _ _ w4 (hp s) hw
  refine ⟨?_, ?_, ?_⟩
  · rw [out9_eq]; exact h9
  · rw [out10_eq]; exact stack64_read _ _ hp
  · rw [out11_eq]
    refine pay2_1 _ _ _ _ _ _ g4 be4 hl ?_ ?_ (colMean_read _ _ hl) ?_
    · intro i j; unfold k2_pay27; pointwise; exact h7 i j
    · intro i j; unfold k2_pay28; pointwise; exact h8 i j
    · intro i k
      have hq := colMean_read (mulf (low x0 x1 x2 x3 x4 x5 x6) (low x0 x1 x2 x3 x4 x5 x6))
        (fun r k => prod (fun r c => e (f r) c) w4 r k * prod (fun r c => e (f r) c) w4 r k)
        (fun r k => by pointwise; rw [hl r k, ← EReal.coe_mul]) i k
      rw [← hq, ← ofBits_eps]
      rfl

end Cert.Proof.Ker
end
-- ==== Proof.KerAll.lean ====
/- The kernel's results, of real arguments: the encoding, the quantized encoding and the first layer of the decoder. -/
module

public import proofs.«01_k».proof.Proof.KerCall
public import proofs.«01_k».proof.Proof.KerVq

@[expose] public section

set_option maxRecDepth 16384

noncomputable section

namespace Cert.Proof.Ker

open Idealize.ShloMosaic Idealize.ShloMosaic.TcCoe Idealize.SL.Sem Cert.KernelIdeal Cert.KernelIdeal.Gen Cert.Proof.Spec
open Cert.Proof.Ref (Is4 Is1)
open Idealize.ShloMosaic.StableHlo (after)

section
set_option maxHeartbeats 4000000

/-- The arguments are those of the network. -/
structure Given (V : Val1) (N : Net) : Prop where
  x : Is4 (V (Proc.devRef .tc main_arg0)) N.x
  w1 : Is4 (V (Proc.devRef .tc main_arg1)) N.w1
  g1 : Is1 (V (Proc.devRef .tc main_arg3)) N.g1
  be1 : Is1 (V (Proc.devRef .tc main_arg4)) N.be1
  w2 : Is4 (V (Proc.devRef .tc main_arg5)) N.w2
  g2 : Is1 (V (Proc.devRef .tc main_arg7)) N.g2
  be2 : Is1 (V (Proc.devRef .tc main_arg8)) N.be2
  w3 : ∀ i j, V (Proc.devRef .tc main_arg9) (ix4 i j 0 0) = ((N.w3 i j : ℝ) : EReal)
  g3 : Is1 (V (Proc.devRef .tc main_arg11)) N.g3
  be3 : Is1 (V (Proc.devRef .tc main_arg12)) N.be3
  emb : Is2 (V (Proc.devRef .tc main_arg13)) N.emb
  w4 : ∀ i j, V (Proc.devRef .tc main_arg14) (ix4 i j 0 0) = ((N.w4 i j : ℝ) : EReal)
  g4 : Is1 (V (Proc.devRef .tc main_arg16)) N.g4
  be4 : Is1 (V (Proc.devRef .tc main_arg17)) N.be4

/-- Contents with the same arguments hold the same network. -/
theorem Given.congr {V W : Val1} {N : Net} (h : Given V N) (e : ∀ a ∈ argRefs, W (Proc.devRef .tc a) = V (Proc.devRef .tc a)) : Given W N where
  x := by rw [e main_arg0 (by decide)]; exact h.x
  w1 := by rw [e main_arg1 (by decide)]; exact h.w1
  g1 := by rw [e main_arg3 (by decide)]; exact h.g1
  be1 := by rw [e main_arg4 (by decide)]; exact h.be1
  w2 := by rw [e main_arg5 (by decide)]; exact h.w2
  g2 := by rw [e main_arg7 (by decide)]; exact h.g2
  be2 := by rw [e main_arg8 (by decide)]; exact h.be2
  w3 := by rw [e main_arg9 (by decide)]; exact h.w3
  g3 := by rw [e main_arg11 (by decide)]; exact h.g3
  be3 := by rw [e main_arg12 (by decide)]; exact h.be3
  emb := by rw [e main_arg13 (by decide)]; exact h.emb
  w4 := by rw [e main_arg14 (by decide)]; exact h.w4
  g4 := by rw [e main_arg16 (by decide)]; exact h.g4
  be4 := by rw [e main_arg17 (by decide)]; exact h.be4

variable (m : (ℓ : Loc nD τ sig) → Buf (Elt Ideal) ℓ) (ρ : Dev nD → PrngReg) (c : Dev nD) {N : Net}

/-- The padded image. -/
theorem w2_v1 (H : Given (W0 m ρ c) N) (b : Fin 2) (h u : Fin 226) :
    W2 m ρ c (Proc.devRef .tc main_v1) (ix3 b h u) = ((Spec.pad (N.x b 0) h u : ℝ) : EReal) := by
  refine v1_read (W1 m ρ c) N.x (v0_read (W0 m ρ c) N.x H.x) ?_ b h u
  show after hostOps0 (W0 m ρ c) (Proc.devRef .tc main_c) = _
  after_reads_simp
  rfl

/-- The first call's result is the first hidden layer. -/
theorem w6_v41 (H : Given (W0 m ρ c) N) (r : Fin 3136) (s : Fin 8) (k : Fin 16) :
    W6 m ρ c (Proc.devRef .tc main_v41) (ix2 r (lane s k))
      = ((N.h1 (pix112 (r, s)).1 k (pix112 (r, s)).2.1 (pix112 (r, s)).2.2 : ℝ) : EReal) := by
  have H2 : Given (W2 m ρ c) N := H.congr fun a ha => W2_args m ρ c a ha
  have H4 : Given (W4 m ρ c) N := H.congr fun a ha => W4_args m ρ c a ha
  rw [v41_eq]
  refine call0 N.x N.w1 N.g1 N.be1 _ _ _ _ (fun r s t => ?_) (fun t c' s k => ?_) (v39_read (W4 m ρ c) _ H4.g1) (v40_read (W4 m ρ c) _ H4.be1) r s k
  · rw [W5_of m ρ c main_v35 (by decide), W4_of m ρ c main_v35 (by decide)]
    exact v35_read (W2 m ρ c) (fun b i j => Spec.pad (N.x b 0) i j) (w2_v1 m ρ c H) r s t
  · rw [W5_of m ρ c main_v38 (by decide)]
    exact v38_read (W3 m ρ c) _ (v37_read (W2 m ρ c) N.w1 H2.w1) t c' s k

/-- The padded first hidden layer. -/
theorem w8_v43 (H : Given (W0 m ρ c) N) (b : Fin 2) (h u : Fin 114) (k : Fin 16) :
    W8 m ρ c (Proc.devRef .tc main_v43) (ix4 b h u k) = ((Spec.pad (N.h1 b k) h u : ℝ) : EReal) := by
  refine v43_read (W7 m ρ c) N.h1 (fun b h u k => ?_) ?_ b h u k
  · refine (v42_read (W6 m ρ c) (fun q k => N.h1 (pix112 q).1 k (pix112 q).2.1 (pix112 q).2.2) (w6_v41 m ρ c H) b h u k).trans ?_
    simp only [Equiv.apply_symm_apply]
  · show after hostOps1 (W6 m ρ c) (Proc.devRef .tc main_c_0) = _
    after_reads_simp
    rfl

/-- The second call's result is the second hidden layer. -/
theorem w10_v66 (H : Given (W0 m ρ c) N) : Is2 (W10 m ρ c (Proc.devRef .tc main_v66)) (rows N.h2) := by
  have H8 : Given (W8 m ρ c) N := H.congr fun a ha => W8_args m ρ c a ha
  obtain ⟨e5, e7, e8⟩ := args2 (W8 m ρ c)
  have hr := rows2_tail (after (hostOps1_2.take 17) (W8 m ρ c)) N.g2 N.be2 (by rw [e7]; exact H8.g2) (by rw [e8]; exact H8.be2)
  rw [← after_cut] at hr
  rw [v66_eq]
  refine call1 N.h1 N.w2 N.g2 N.be2 _ _ _ _ (v61_read (W8 m ρ c) (fun b k i j => Spec.pad (N.h1 b k) i j) (w8_v43 m ρ c H))
    (fun t k o => ?_) hr.1 hr.2
  show after hostOps1_2 (W8 m ρ c) (Proc.devRef .tc main_v63) _ = _
  rw [after_cut hostOps1_2 17]
  exact v63_tail _ N.w2 (by rw [e5]; exact H8.w2) t k o

/-- The third call's results. -/
theorem w12 (H : Given (W0 m ρ c) N) : Is2 (W12 m ρ c (Proc.devRef .tc main_v76_0)) (rows N.ze)
    ∧ Is2 (W12 m ρ c (Proc.devRef .tc main_v76_1)) (rows N.zq) ∧ Is2 (W12 m ρ c (Proc.devRef .tc main_v76_2)) (rows N.d1) := by
  have H10 : Given (W10 m ρ c) N := H.congr fun a ha => W10_args m ρ c a ha
  have H11 : Given (W11 m ρ c) N := H.congr fun a ha => W11_args m ρ c a ha
  obtain ⟨r3, b3, r4, b4⟩ := rows3 (W10 m ρ c) N.g3 N.be3 N.g4 N.be4 H10.g3 H10.be3 H10.g4 H10.be4
  have h66 : Is2 (W11 m ρ c (Proc.devRef .tc main_v66)) (rows N.h2) := by
    rw [W11_of m ρ c main_v66 (by decide)]
    exact w10_v66 m ρ c H
  have h68 := v68_read (W10 m ρ c) N.w3 fun i j a b => by
    obtain rfl := Subsingleton.elim a 0
    obtain rfl := Subsingleton.elim b 0
    exact H10.w3 i j
  have h70 := v70_read (W10 m ρ c) N.w4 fun i j a b => by
    obtain rfl := Subsingleton.elim a 0
    obtain rfl := Subsingleton.elim b 0
    exact H10.w4 i j
  have h73 := v73_read (W10 m ρ c) N.emb H10.emb
  have hz : rows N.ze = fun r k => bn (fun r => prod (rows N.h2) (fun a k => N.w3 k a) r k) (N.g3 k) (N.be3 k) r := by
    funext r k
    have e : (fun r => prod (rows N.h2) (fun a k => N.w3 k a) r k)
        = fun r => (mix N.h2 N.w3 : Img 64 56) (pix56 r).1 k (pix56 r).2.1 (pix56 r).2.2 := funext fun r => by
      unfold prod mix rows
      exact Finset.sum_congr rfl fun a _ => mul_comm _ _
    rw [e, bn_equiv pix56 (fun p : Pix 56 => (mix N.h2 N.w3 : Img 64 56) p.1 k p.2.1 p.2.2)]
    rfl
  have hd : (rows N.d1) = fun r k => max (bn (fun r => prod (rows N.zq) (fun a k => N.w4 k a) r k) (N.g4 k) (N.be4 k) r) 0 := by
    funext r k
    have e : (fun r => prod (rows N.zq) (fun a k => N.w4 k a) r k)
        = fun r => (mix N.zq N.w4 : Img 32 56) (pix56 r).1 k (pix56 r).2.1 (pix56 r).2.2 := funext fun r => by
      unfold prod mix rows
      exact Finset.sum_congr rfl fun a _ => mul_comm _ _
    rw [e, bn_equiv pix56 (fun p : Pix 56 => (mix N.zq N.w4 : Img 32 56) p.1 k p.2.1 p.2.2)]
    rfl
  have hf : ∀ r, IsFirst (gap (rows N.ze) N.emb r) (near N.ze N.emb (pix56 r).1 (pix56 r).2.1 (pix56 r).2.2) := fun r =>
    IsFirst.of_add _ (fun j => dist_eq N.ze N.emb _ _ _ j) (near_first N.ze N.emb _ _ _)
  have h := vq_read _ _ _ _ _ _ _ _ _ (rows N.h2) (fun a k => N.w3 k a) (fun _ k => N.g3 k) (fun _ k => N.be3 k) N.emb
    (fun a k => N.w4 k a) (fun _ k => N.g4 k) (fun _ k => N.be4 k) h66 h68 r3 b3 H11.emb h73 h70 r4 b4 (rows N.ze) hz
    (fun r => near N.ze N.emb (pix56 r).1 (pix56 r).2.1 (pix56 r).2.2) hf
  rw [v76_0_eq, v76_1_eq, v76_2_eq, hd]
  exact h

/-- The kernel's first result is the encoding and its second the quantized encoding. -/
theorem ker_z (H : Given (W0 m ρ c) N) :
    Is4 (W13 m ρ c (Proc.devRef .tc main_v78)) N.ze ∧ Is4 (W13 m ρ c (Proc.devRef .tc main_v80)) N.zq :=
  out_read (W12 m ρ c) N.ze N.zq (w12 m ρ c H).1 (w12 m ρ c H).2.1

/-- The kernel's third result is the first layer of the decoder, in rows. -/
theorem ker_d1 (H : Given (W0 m ρ c) N) : Is2 (W13 m ρ c (Proc.devRef .tc main_v76_2)) (rows N.d1) := by
  rw [W13_of m ρ c main_v76_2 (by decide)]
  exact (w12 m ρ c H).2.2

end

end Cert.Proof.Ker
end
-- ==== Proof.RefVq.lean ====
/- The reference's quantization over the real numbers: its distances, the first least of them, the looked-up row; the looked-up row. -/
module

public import proofs.«01_k».proof.Proof.RefVal

@[expose] public section

set_option maxRecDepth 16384

noncomputable section

namespace Cert.Proof.Ref

open Idealize.ShloMosaic Idealize.SL.Sem Cert.ReferenceIdeal Cert.Proof.Spec
open Idealize.ShloMosaic.StableHlo (IsSeq seq after after_cons after_nil)

/-- The pair of a distance and its place. -/
def pairAt (d : Fin 512 → ℝ) (k : Fin 512) : Ideal .f32 × BitVec 32 := ((d k : EReal), BitVec.ofNat 32 k.val)

theorem slt_ofNat (k j : Fin 512) : (BitVec.ofNat 32 k.val).slt (BitVec.ofNat 32 j.val) = decide (k < j) := by
  have hk : ∀ k : Fin 512, (BitVec.ofNat 32 k.val).toInt = k.val := fun k => by
    rw [BitVec.toInt_eq_toNat_of_lt] <;> simp <;> omega
  rw [BitVec.slt, hk, hk]
  simp

theorem argmin_step (d : Fin 512 → ℝ) (k j : Fin 512) :
    reducer_argmin_f32_i32 (F := Ideal) (pairAt d k) (pairAt d j)
      = if d k < d j ∨ (d k = d j ∧ k < j) then pairAt d k else pairAt d j := by
  have one : ∀ x : BitVec 1, 1#1 ||| x = 1#1 := by decide
  by_cases h1 : d k < d j
  · simp [reducer_argmin_f32_i32, pairAt, Ideal.cmpf_def, Ideal.cmp, h1, one, IntOp.ori, IntOp.andi, Scalar.select]
  · by_cases h2 : d k = d j
    · by_cases h3 : k < j <;>
        simp [reducer_argmin_f32_i32, pairAt, Ideal.cmpf_def, Ideal.cmp, h2, h3, IntOp.ori, IntOp.andi, IntOp.cmpi, slt_ofNat, Scalar.select]
    · simp [reducer_argmin_f32_i32, pairAt, Ideal.cmpf_def, Ideal.cmp, h1, h2, IntOp.ori, IntOp.andi, Scalar.select]

theorem argmin_start (d : Fin 512 → ℝ) (j : Fin 512) (w : BitVec 32) :
    reducer_argmin_f32_i32 (F := Ideal) ((⊤ : EReal), w) (pairAt d j) = pairAt d j := by
  simp [reducer_argmin_f32_i32, pairAt, Ideal.cmpf_def, Ideal.cmp, IntOp.ori, IntOp.andi, IntOp.cmpi, Scalar.select]

/-- The fold of the comparisons over a list of places: one of them, and the first least. -/
theorem argmin_foldl (d : Fin 512 → ℝ) (l : List (Fin 512)) (k : Fin 512) :
    ∃ r, (l.map (pairAt d)).foldl (reducer_argmin_f32_i32 (F := Ideal)) (pairAt d k) = pairAt d r ∧
      ∀ j, j = k ∨ j ∈ l → d r < d j ∨ (d r = d j ∧ r ≤ j) := by
  induction l generalizing k with
  | nil => exact ⟨k, rfl, fun j hj => by rcases hj with rfl | hj; exacts [Or.inr ⟨rfl, le_rfl⟩, absurd hj (by simp)]⟩
  | cons a l ih =>
    rw [List.map_cons, List.foldl_cons, argmin_step]
    split
    · next h =>
      obtain ⟨r, hr, hb⟩ := ih k
      refine ⟨r, hr, fun j hj => ?_⟩
      rcases hj with rfl | hj
      · exact hb j (Or.inl rfl)
      rcases List.mem_cons.mp hj with rfl | hj
      · rcases hb k (Or.inl rfl) with h1 | h1 <;> rcases h with h2 | h2
        · exact Or.inl (h1.trans h2)
        · exact Or.inl (h2.1 ▸ h1)
        · exact Or.inl (h1.1 ▸ h2)
        · exact Or.inr ⟨h1.1.trans h2.1, h1.2.trans h2.2.le⟩
      · exact hb j (Or.inr hj)
    · next h =>
      obtain ⟨r, hr, hb⟩ := ih a
      refine ⟨r, hr, fun j hj => ?_⟩
      rcases hj with rfl | hj
      · have h1 : d a ≤ d j := not_lt.mp fun e => h (Or.inl e)
        rcases hb a (Or.inl rfl) with h2 | h2
        · exact Or.inl (h2.trans_le h1)
        · rcases h1.lt_or_eq with h3 | h3
          · exact Or.inl (h2.1 ▸ h3)
          · exact Or.inr ⟨h2.1.trans h3, h2.2.trans (not_lt.mp fun e => h (Or.inr ⟨h3.symm, e⟩))⟩
      · exact hb j ((List.mem_cons.mp hj).imp id id)

theorem argmin_list (d : Fin 512 → ℝ) (l : List (Fin 512)) (hl : ∀ k, k ∈ l) (w : BitVec 32) :
    ∃ r, (l.map (pairAt d)).foldl (reducer_argmin_f32_i32 (F := Ideal)) ((⊤ : EReal), w) = pairAt d r ∧ IsFirst d r := by
  cases l with
  | nil => exact absurd (hl 0) (by simp)
  | cons a l =>
    rw [List.map_cons, List.foldl_cons, argmin_start]
    obtain ⟨r, hr, hb⟩ := argmin_foldl d l a
    refine ⟨r, hr, fun j => ?_, fun j hj => ?_⟩
    · rcases hb j (List.mem_cons.mp (hl j)) with h | h
      exacts [h.le, h.1.le]
    · rcases hb j (List.mem_cons.mp (hl j)) with h | h
      exacts [h, absurd hj (not_lt.mpr h.2)]

/-- The codebook coordinate of an index of the distances. -/
def place (i : S2x512x56x56.Idx) : Fin 512 := i 1

/-- The place the reference's search finds is the first least. -/
theorem argmin_read (D : FVec Ideal S2x512x56x56 .f32) (I : S2x512x56x56.Idx → BitVec 32) (ix : S_.Idx → Ideal .f32) (iy : S_.Idx → BitVec 32)
    (hr : S2x512x56x56.ReducesTo [1] S2x56x56) (hu : 0 < S_.numel) (b : Fin 2) (h u : Fin 56) (d : Fin 512 → ℝ)
    (hD : ∀ k, D (ix4 b k h u) = ((d k : ℝ) : EReal)) (hI : ∀ k, I (ix4 b k h u) = BitVec.ofNat 32 k.val) (hix : ∀ i, ix i = (⊤ : EReal)) :
    ∃ r, (Host.argReduce (reducer_argmin_f32_i32 (F := Ideal)) D I ix iy hr hu (ix3 b h u)).2 = BitVec.ofNat 32 r.val ∧ IsFirst d r := by
  rw [Ideal.argReduce_eq_reduce2, Host.reduce2_eq_foldl_fiber, hix]
  have hd : ∀ i : S2x512x56x56.Idx, hr.drop i = ix3 b h u ↔ i = ix4 b (place i) h u := by
    intro i
    constructor
    · intro e
      have e0 : (i 0 : Fin 2) = b := Fin.ext (congrArg Fin.val (congrFun e 0))
      have e1 : (i 2 : Fin 56) = h := Fin.ext (congrArg Fin.val (congrFun e 1))
      have e2 : (i 3 : Fin 56) = u := Fin.ext (congrArg Fin.val (congrFun e 2))
      subst e0 e1 e2
      funext k
      fin_cases k <;> rfl
    · intro e
      rw [e]
      funext k
      fin_cases k <;> rfl
  obtain ⟨l, hl⟩ : ∃ l : List (Fin 512), l = ((List.finRange S2x512x56x56.numel).filter fun n =>
      hr.drop (S2x512x56x56.rowMajor.symm n) = ix3 b h u).map fun n => place (S2x512x56x56.rowMajor.symm n) := ⟨_, rfl⟩
  have hf : Host.argReduceFiber D I hr (ix3 b h u) = l.map (pairAt d) := by
    rw [hl, Host.argReduceFiber, List.map_map]
    refine List.map_congr_left fun n hn => ?_
    have e := (hd _).mp (of_decide_eq_true (List.mem_filter.mp hn).2)
    show (D (S2x512x56x56.rowMajor.symm n), I (S2x512x56x56.rowMajor.symm n)) = pairAt d (place (S2x512x56x56.rowMajor.symm n))
    generalize place (S2x512x56x56.rowMajor.symm n) = k at e ⊢
    rw [e]
    exact Prod.ext (hD k) (hI k)
  have hm : ∀ k, k ∈ l := by
    intro k
    rw [hl]
    refine List.mem_map.mpr ⟨S2x512x56x56.rowMajor (ix4 b k h u), List.mem_filter.mpr ⟨List.mem_finRange _, ?_⟩, ?_⟩
    · refine decide_eq_true ?_
      rw [Equiv.symm_apply_apply]
      exact (hd _).mpr rfl
    · rw [Equiv.symm_apply_apply]
      rfl
  rw [hf]
  obtain ⟨r, hr', hb⟩ := argmin_list d l hm (iy (Shape.Idx.first hu))
  exact ⟨r, congrArg Prod.snd hr', hb⟩

/-- A looked-up row. -/
theorem gather_read (E : FVec Ideal S512x64 .f32) (I : IVec S2x56x56x1 32) (b : Fin 2) (h u : Fin 56) (a : Fin 64) (r : Fin 512)
    (hr : I (ix4 b h u 0) = BitVec.ofNat 32 r.val) :
    Host.gather gather_S512x64_S2x56x56x1_S2x56x56x64_3_0_n_n_0_3_164 E I (ix4 b h u a) = E (ix2 r a) := by
  have hs : ∀ c, gather_S512x64_S2x56x56x1_S2x56x56x64_3_0_n_n_0_3_164.siIdx (ix4 b h u a) c = ix4 b h u 0 := by
    intro c
    have hc : c.val = 0 := Nat.lt_one_iff.mp c.isLt
    funext k
    unfold GatherDims.siIdx
    fin_cases k
    · rw [dif_neg (by decide)]; rfl
    · rw [dif_neg (by decide)]; rfl
    · rw [dif_neg (by decide)]; rfl
    · rw [dif_pos (by decide)]; exact Fin.ext hc
  have hv : (BitVec.ofNat 32 r.val).toInt = r.val := by
    rw [BitVec.toInt_eq_toNat_of_lt] <;> simp <;> omega
  have hlt := r.isLt
  unfold Host.gather
  congr 1
  funext k
  apply Fin.ext
  unfold GatherDims.operandIdx
  fin_cases k
  · have hst : gather_S512x64_S2x56x56x1_S2x56x56x64_3_0_n_n_0_3_164.start (ix4 b h u a) I 0 = r.val := by
      unfold GatherDims.start
      rw [dif_pos (by decide), hs, hr, hv]
      show min r.val (512 - 1) = r.val
      omega
    exact hst
  · have h0 : gather_S512x64_S2x56x56x1_S2x56x56x64_3_0_n_n_0_3_164.start (ix4 b h u a) I 1 = 0 := by
      unfold GatherDims.start
      rw [dif_neg (by decide)]
    have h1 : gather_S512x64_S2x56x56x1_S2x56x56x64_3_0_n_n_0_3_164.batchCoord (ix4 b h u a) 1 = 0 :=
      GatherDims.batchCoord_eq_zero _ _ _ (by decide)
    have h2 : gather_S512x64_S2x56x56x1_S2x56x56x64_3_0_n_n_0_3_164.offCoord (ix4 b h u a) 1 = a.val := by
      unfold GatherDims.offCoord
      rw [dif_pos (by decide)]
      rfl
    show gather_S512x64_S2x56x56x1_S2x56x56x64_3_0_n_n_0_3_164.start (ix4 b h u a) I 1
      + gather_S512x64_S2x56x56x1_S2x56x56x64_3_0_n_n_0_3_164.batchCoord (ix4 b h u a) 1
      + gather_S512x64_S2x56x56x1_S2x56x56x64_3_0_n_n_0_3_164.offCoord (ix4 b h u a) 1 = a.val
    rw [h0, h1, h2]
    omega

/-- The distances. -/
theorem dist6 (V : Val0) (z : Img 64 56) (e : Fin 512 → Fin 64 → ℝ) (hz : Is4 (V (Proc.devRef .tc main_v286)) z)
    (he : ∀ i j, V (Proc.devRef .tc main_arg13) (ix2 i j) = ((e i j : ℝ) : EReal)) (b : Fin 2) (k : Fin 512) (h u : Fin 56) :
    after (s6.take 8) V (Proc.devRef .tc main_v293) (ix4 b k h u) = ((dist z e b h u k : ℝ) : EReal) := by
  after_reads_at
  simp only [hz _ _ _ _, he _ _, ← EReal.coe_sub, ← EReal.coe_mul, coe_sum]
  rfl

/-- The places found. -/
theorem arg6 (V : Val0) (d : Fin 2 → Fin 56 → Fin 56 → Fin 512 → ℝ)
    (hd : ∀ b k h u, V (Proc.devRef .tc main_v293) (ix4 b k h u) = ((d b h u k : ℝ) : EReal)) (b : Fin 2) (h u : Fin 56) :
    ∃ r, after ((s6.drop 8).take 5) V (Proc.devRef .tc main_v294) (ix3 b h u) = BitVec.ofNat 32 r.val ∧ IsFirst (d b h u) r := by
  after_reads_at
  exact argmin_read _ _ _ _ _ _ b h u (d b h u) (fun k => hd b k h u) (fun k => by pointwise)
    (fun i => by pointwise; simp [Ideal.ofBits, Ideal.ieee])

/-- The rows looked up. -/
theorem take6 (V : Val0) (e : Fin 512 → Fin 64 → ℝ) (p : Fin 2 → Fin 56 → Fin 56 → Fin 512)
    (hp : ∀ b h u, V (Proc.devRef .tc main_v294) (ix3 b h u) = BitVec.ofNat 32 (p b h u).val)
    (he : ∀ i j, V (Proc.devRef .tc main_arg13) (ix2 i j) = ((e i j : ℝ) : EReal)) (b : Fin 2) (a : Fin 64) (h u : Fin 56) :
    after (s6.drop 13) V (Proc.devRef .tc main_v296) (ix4 b a h u) = ((e (p b h u) a : ℝ) : EReal) := by
  after_reads_at
  rw [gather_read _ _ b h u a (p b h u) (by pointwise; exact hp b h u), he]

end Cert.Proof.Ref
end
-- ==== Proof.RefAll.lean ====
/- The reference over the real numbers: from real arguments its results are the network's. -/
module

public import proofs.«01_k».proof.Proof.RefVq

@[expose] public section

set_option maxRecDepth 16384

noncomputable section

namespace Cert.Proof.Ref

open Idealize.ShloMosaic Idealize.SL.Sem Cert.ReferenceIdeal Cert.Proof.Spec
open Idealize.ShloMosaic.StableHlo (IsSeq seq after after_cons after_nil)

/-- The argument buffers hold the network's arguments. -/
structure Args (V : Val0) (N : Net) : Prop where
  x : Is4 (V (Proc.devRef .tc main_arg0)) N.x
  w1 : Is4 (V (Proc.devRef .tc main_arg1)) N.w1
  b1 : Is1 (V (Proc.devRef .tc main_arg2)) N.b1
  g1 : Is1 (V (Proc.devRef .tc main_arg3)) N.g1
  be1 : Is1 (V (Proc.devRef .tc main_arg4)) N.be1
  w2 : Is4 (V (Proc.devRef .tc main_arg5)) N.w2
  b2 : Is1 (V (Proc.devRef .tc main_arg6)) N.b2
  g2 : Is1 (V (Proc.devRef .tc main_arg7)) N.g2
  be2 : Is1 (V (Proc.devRef .tc main_arg8)) N.be2
  w3 : ∀ i j, V (Proc.devRef .tc main_arg9) (ix4 i j 0 0) = ((N.w3 i j : ℝ) : EReal)
  b3 : Is1 (V (Proc.devRef .tc main_arg10)) N.b3
  g3 : Is1 (V (Proc.devRef .tc main_arg11)) N.g3
  be3 : Is1 (V (Proc.devRef .tc main_arg12)) N.be3
  emb : ∀ i j, V (Proc.devRef .tc main_arg13) (ix2 i j) = ((N.emb i j : ℝ) : EReal)
  w4 : ∀ i j, V (Proc.devRef .tc main_arg14) (ix4 i j 0 0) = ((N.w4 i j : ℝ) : EReal)
  b4 : Is1 (V (Proc.devRef .tc main_arg15)) N.b4
  g4 : Is1 (V (Proc.devRef .tc main_arg16)) N.g4
  be4 : Is1 (V (Proc.devRef .tc main_arg17)) N.be4

theorem Args.congr {V W : Val0} {N : Net} (h : Args V N)
    (e : ∀ b ∈ args, W (Proc.devRef .tc b) = V (Proc.devRef .tc b)) : Args W N where
  x := by rw [e main_arg0 (by simp [args])]; exact h.x
  w1 := by rw [e main_arg1 (by simp [args])]; exact h.w1
  b1 := by rw [e main_arg2 (by simp [args])]; exact h.b1
  g1 := by rw [e main_arg3 (by simp [args])]; exact h.g1
  be1 := by rw [e main_arg4 (by simp [args])]; exact h.be1
  w2 := by rw [e main_arg5 (by simp [args])]; exact h.w2
  b2 := by rw [e main_arg6 (by simp [args])]; exact h.b2
  g2 := by rw [e main_arg7 (by simp [args])]; exact h.g2
  be2 := by rw [e main_arg8 (by simp [args])]; exact h.be2
  w3 := by rw [e main_arg9 (by simp [args])]; exact h.w3
  b3 := by rw [e main_arg10 (by simp [args])]; exact h.b3
  g3 := by rw [e main_arg11 (by simp [args])]; exact h.g3
  be3 := by rw [e main_arg12 (by simp [args])]; exact h.be3
  emb := by rw [e main_arg13 (by simp [args])]; exact h.emb
  w4 := by rw [e main_arg14 (by simp [args])]; exact h.w4
  b4 := by rw [e main_arg15 (by simp [args])]; exact h.b4
  g4 := by rw [e main_arg16 (by simp [args])]; exact h.g4
  be4 := by rw [e main_arg17 (by simp [args])]; exact h.be4

theorem Args.after {V : Val0} {N : Net} {l : Line} (h : Args V N) (k : Keeps l) : Args (after l V) N := h.congr (k V)

section
variable {V : Val0} {N : Net} (H : Args V N)
include H

theorem layer1 : Is4 (after s0 V (Proc.devRef .tc main_v100)) (bias (conv N.x N.w1 : Img 16 112) N.b1) := by
  rw [after_split s0 2]
  refine conv0 _ N.x N.w1 N.b1 ?_ ?_ fun b a h u => pad0 V N.x H.x b a h u
  · have e : after (s0.take 2) V (Proc.devRef .tc main_arg1) = V (Proc.devRef .tc main_arg1) := by after_reads_simp
    rw [e]; exact H.w1
  · have e : after (s0.take 2) V (Proc.devRef .tc main_arg2) = V (Proc.devRef .tc main_arg2) := by after_reads_simp
    rw [e]; exact H.b1

theorem layer2 (hx : Is4 (V (Proc.devRef .tc main_v126)) N.h1) :
    Is4 (after s2 V (Proc.devRef .tc main_v227)) (bias (conv N.h1 N.w2 : Img 32 56) N.b2) := by
  rw [after_split s2 2]
  refine conv2 _ N.h1 N.w2 N.b2 ?_ ?_ fun b a h u => pad2 V N.h1 hx b a h u
  · have e : after (s2.take 2) V (Proc.devRef .tc main_arg5) = V (Proc.devRef .tc main_arg5) := by after_reads_simp
    rw [e]; exact H.w2
  · have e : after (s2.take 2) V (Proc.devRef .tc main_arg6) = V (Proc.devRef .tc main_arg6) := by after_reads_simp
    rw [e]; exact H.b2

theorem layerQ (hz : Is4 (V (Proc.devRef .tc main_v286)) N.ze) :
    Is4 (after s6 V (Proc.devRef .tc main_v296)) N.zq := by
  rw [after_split s6 8, after_split (s6.drop 8) 5]
  have e1 : after (s6.take 8) V (Proc.devRef .tc main_arg13) = V (Proc.devRef .tc main_arg13) := by after_reads_simp
  have e2 : ∀ W : Val0, after ((s6.drop 8).take 5) W (Proc.devRef .tc main_arg13) = W (Proc.devRef .tc main_arg13) := fun W => by
    after_reads_simp
  intro b a h u
  refine take6 _ N.emb (fun b h u => near N.ze N.emb b h u) (fun b h u => ?_) (fun i j => ?_) b a h u
  · obtain ⟨r, hr, hf⟩ := arg6 (after (s6.take 8) V) (fun b h u => dist N.ze N.emb b h u)
      (fun b k h u => dist6 V N.ze N.emb hz H.emb b k h u) b h u
    rw [hr, hf.unique (near_first N.ze N.emb b h u)]
  · rw [e2, e1]; exact H.emb i j

end

section
variable {V : Val0} {N : Net} (H : Args V N)
include H

theorem args1 : Args (R1 V) N := H.after keeps0
theorem args2 : Args (R2 V) N := (args1 H).after keeps1
theorem args3 : Args (R3 V) N := (args2 H).after keeps2
theorem args4 : Args (R4 V) N := (args3 H).after keeps3
theorem args5 : Args (R5 V) N := (args4 H).after keeps4
theorem args6 : Args (R6 V) N := (args5 H).after keeps5
theorem args7 : Args (R7 V) N := (args6 H).after keeps6
theorem args8 : Args (R8 V) N := (args7 H).after keeps7
theorem args9 : Args (R9 V) N := (args8 H).after keeps8

theorem r2_h1 : Is4 (R2 V (Proc.devRef .tc main_v126)) N.h1 := by
  have h := bn1 (R1 V) _ N.g1 N.be1 (layer1 H) (args1 H).g1 (args1 H).be1
  rw [norm_bias] at h
  exact h

theorem r4_h2 : Is4 (R4 V (Proc.devRef .tc main_v253)) N.h2 := by
  have h := bn3 (R3 V) _ N.g2 N.be2 (layer2 (args2 H) (r2_h1 H)) (args3 H).g2 (args3 H).be2
  rw [norm_bias] at h
  exact h

theorem r6_ze : Is4 (R6 V (Proc.devRef .tc main_v286)) N.ze := by
  have h := bn5 (R5 V) _ N.g3 N.be3 (mix4 (R4 V) N.h2 N.w3 N.b3 (args4 H).w3 (args4 H).b3 (r4_h2 H)) (args5 H).g3 (args5 H).be3
  rw [norm_bias] at h
  exact h

theorem r7_zq : Is4 (R7 V (Proc.devRef .tc main_v296)) N.zq := layerQ (args6 H) (r6_ze H)

theorem r9_d1 : Is4 (R9 V (Proc.devRef .tc main_v331)) N.d1 := by
  have h := bn8 (R8 V) _ N.g4 N.be4 (mix7 (R7 V) N.zq N.w4 N.b4 (args7 H).w4 (args7 H).b4 (r7_zq H)) (args8 H).g4 (args8 H).be4
  rw [norm_bias] at h
  exact h

/-- The reference's first result is the encoding. -/
theorem ref_ze : Is4 (R10 V (Proc.devRef .tc main_v286)) N.ze := by
  have e : R10 V (Proc.devRef .tc main_v286) = R6 V (Proc.devRef .tc main_v286) := by
    unfold R10 R9 R8 R7
    rw [keeps9_ze, keeps8_ze, keeps7_ze, keeps6_ze]
  rw [e]
  exact r6_ze H

/-- The reference's second result is the quantized encoding. -/
theorem ref_zq : Is4 (R10 V (Proc.devRef .tc main_v296)) N.zq := by
  have e : R10 V (Proc.devRef .tc main_v296) = R7 V (Proc.devRef .tc main_v296) := by
    unfold R10 R9 R8
    rw [keeps9_zq, keeps8_zq, keeps7_zq]
  rw [e]
  exact r7_zq H

/-- The reference's third result is the first layer of the decoder, in rows. -/
theorem ref_d1 (r : Fin 6272) (k : Fin 32) : R10 V (Proc.devRef .tc main_v333) (ix2 r k) = ((rows N.d1 r k : ℝ) : EReal) :=
  rows9 (R9 V) N.d1 (r9_d1 H) r k

end

end Cert.Proof.Ref
end
-- ==== Proof.Finite.lean ====
/- The precondition: every entry of every argument is a real number. -/
module

public import proofs.«01_k».proof.Defs
public import proofs.«01_k».proof.Proof.KerAll
public import proofs.«01_k».proof.Proof.RefAll
public import Idealize.ShloMosaic.Lib.ReduceAll

@[expose] public section

set_option maxRecDepth 16384

noncomputable section

namespace Cert.Proof

open Idealize.ShloMosaic Idealize.SL.Sem Cert.Proof.Spec

/-- The shapes the precondition's operations take. -/
instance finite_facts : Cert.Pre_finite.Facts := by
  constructor <;> decide

theorem one_and (a b : BitVec 1) : IntOp.andi a b = 1#1 ↔ a = 1#1 ∧ b = 1#1 := by
  revert a b
  decide

/-- An entry whose magnitude is below infinity is real. -/
theorem real_of_lt (x : EReal) (h : FloatOps.cmpf (F := Ideal) (φ := .f32) .olt (FloatOps.absf (F := Ideal) (φ := .f32) x) (Ideal.ofBits .f32 0x7F800000#32) = 1#1) :
    ((x.toReal : ℝ) : EReal) = x := by
  refine EReal.coe_toReal ?_ ?_
  · rintro rfl
    simp [FloatOps.cmpf, FloatOps.absf, Ideal.ofBits, Ideal.ieee] at h
    simp [Ideal.cmp] at h
  · rintro rfl
    simp [FloatOps.cmpf, FloatOps.absf, Ideal.ofBits, Ideal.ieee] at h
    simp [Ideal.cmp] at h

open Cert.Pre_finite in
theorem real_of_all {s : Shape} {axes : List (Fin s.rank)} (x : FVec Ideal s .f32) (hb : S_.BroadcastsInDim s (![] : Fin 0 → Fin s.rank))
    (hr : s.ReducesTo axes S_) (init : IVec S_ 1) (hu : 0 < S_.numel) (j : S_.Idx)
    (e : Host.reduce IntOp.andi (cmpf .olt (Host.absf x) (broadcastInDim s ![] hb (constant S_ .f32 0x7F800000#32 : FVec Ideal S_ .f32))) init hr hu j = 1#1)
    (i : s.Idx) : (((x i : EReal).toReal : ℝ) : EReal) = x i := by
  haveI : Subsingleton S_.Idx := ⟨fun a b => funext fun k => k.elim0⟩
  exact real_of_lt (x i) (Host.reduce_andi_all _ init hr hu j e i)

theorem real_args (a0 : FVec Ideal Pre_finite.S2x1x224x224 .f32) (a1 : FVec Ideal Pre_finite.S16x1x4x4 .f32) (a2 a3 a4 : FVec Ideal Pre_finite.S16 .f32)
    (a5 : FVec Ideal Pre_finite.S32x16x4x4 .f32) (a6 a7 a8 : FVec Ideal Pre_finite.S32 .f32) (a9 : FVec Ideal Pre_finite.S64x32x1x1 .f32)
    (a10 a11 a12 : FVec Ideal Pre_finite.S64 .f32) (a13 : FVec Ideal Pre_finite.S512x64 .f32) (a14 : FVec Ideal Pre_finite.S32x64x1x1 .f32)
    (a15 a16 a17 : FVec Ideal Pre_finite.S32 .f32)
    (h : Pre_finite.fn (F := Ideal) a0 a1 a2 a3 a4 a5 a6 a7 a8 a9 a10 a11 a12 a13 a14 a15 a16 a17 = fun _ => 1#1) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i)
      ∧ (∀ i, (((a4 i : EReal).toReal : ℝ) : EReal) = a4 i) ∧ (∀ i, (((a5 i : EReal).toReal : ℝ) : EReal) = a5 i)
      ∧ (∀ i, (((a6 i : EReal).toReal : ℝ) : EReal) = a6 i) ∧ (∀ i, (((a7 i : EReal).toReal : ℝ) : EReal) = a7 i)
      ∧ (∀ i, (((a8 i : EReal).toReal : ℝ) : EReal) = a8 i) ∧ (∀ i, (((a9 i : EReal).toReal : ℝ) : EReal) = a9 i)
      ∧ (∀ i, (((a10 i : EReal).toReal : ℝ) : EReal) = a10 i) ∧ (∀ i, (((a11 i : EReal).toReal : ℝ) : EReal) = a11 i)
      ∧ (∀ i, (((a12 i : EReal).toReal : ℝ) : EReal) = a12 i) ∧ (∀ i, (((a13 i : EReal).toReal : ℝ) : EReal) = a13 i)
      ∧ (∀ i, (((a14 i : EReal).toReal : ℝ) : EReal) = a14 i) ∧ (∀ i, (((a15 i : EReal).toReal : ℝ) : EReal) = a15 i)
      ∧ (∀ i, (((a16 i : EReal).toReal : ℝ) : EReal) = a16 i) ∧ (∀ i, (((a17 i : EReal).toReal : ℝ) : EReal) = a17 i) := by
  have pre := congrFun h (fun i => i.elim0)
  dsimp only [Pre_finite.fn, Pre_finite.fn_part1, Pre_finite.fn_part2, Pre_finite.fn_part3, Pre_finite.fn_part4, Pre_finite.fn_part5] at pre
  simp only [andi, one_and, and_assoc] at pre
  obtain ⟨-, h0, h1, h2, h3, h4, h5, h6, h7, h8, h9, h10, h11, h12, h13, h14, h15, h16, h17⟩ := pre
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6, real_of_all _ _ _ _ _ _ h7,
    real_of_all _ _ _ _ _ _ h8, real_of_all _ _ _ _ _ _ h9, real_of_all _ _ _ _ _ _ h10, real_of_all _ _ _ _ _ _ h11,
    real_of_all _ _ _ _ _ _ h12, real_of_all _ _ _ _ _ _ h13, real_of_all _ _ _ _ _ _ h14, real_of_all _ _ _ _ _ _ h15,
    real_of_all _ _ _ _ _ _ h16, real_of_all _ _ _ _ _ _ h17⟩

/-- The shapes the operations of the second layer's precondition take. -/
instance finite3_facts : Cert.Pre_finite3.Facts := by
  constructor <;> decide

theorem real_args3 (a0 : FVec Ideal Pre_finite3.S6272x32 .f32) (a1 : FVec Ideal Pre_finite3.S32x16x4x4 .f32) (a2 a3 a4 : FVec Ideal Pre_finite3.S16 .f32)
    (h : Pre_finite3.fn (F := Ideal) a0 a1 a2 a3 a4 = fun _ => 1#1) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i)
      ∧ (∀ i, (((a4 i : EReal).toReal : ℝ) : EReal) = a4 i) := by
  have pre := congrFun h (fun i => i.elim0)
  dsimp only [Pre_finite3.fn, Pre_finite3.fn_part1] at pre
  simp only [andi, one_and, and_assoc] at pre
  obtain ⟨-, h0, h1, h2, h3, h4⟩ := pre
  exact ⟨real_of_all _ _ _ _ _ _ h0, real_of_all _ _ _ _ _ _ h1, real_of_all _ _ _ _ _ _ h2, real_of_all _ _ _ _ _ _ h3,
    real_of_all _ _ _ _ _ _ h4⟩

/-- The network an initial memory's arguments hold. -/
def netOf (m : (ℓ : Loc KernelIdeal.nD KernelIdeal.τ KernelIdeal.sig) → Buf (Elt Ideal) ℓ) (c : Dev KernelIdeal.nD) : Net :=
  let at4 := fun {n₀ n₁ n₂ n₃ : ℕ} (X : (⟨4, ![n₀, n₁, n₂, n₃]⟩ : Shape).Idx → EReal) (i : Fin n₀) (j : Fin n₁) (k : Fin n₂) (l : Fin n₃) => (X (ix4 i j k l)).toReal
  let at1 := fun {n₀ : ℕ} (X : (⟨1, ![n₀]⟩ : Shape).Idx → EReal) (i : Fin n₀) => (X (ix1 i)).toReal
  let A := fun b : Ref KernelIdeal.sig .tc => m ((c.tc : Thread KernelIdeal.nD KernelIdeal.τ).loc b)
  { x := at4 (A KernelIdeal.main_arg0), w1 := at4 (A KernelIdeal.main_arg1), b1 := at1 (A KernelIdeal.main_arg2),
    g1 := at1 (A KernelIdeal.main_arg3), be1 := at1 (A KernelIdeal.main_arg4), w2 := at4 (A KernelIdeal.main_arg5),
    b2 := at1 (A KernelIdeal.main_arg6), g2 := at1 (A KernelIdeal.main_arg7), be2 := at1 (A KernelIdeal.main_arg8),
    w3 := fun i j => at4 (n₀ := 64) (n₁ := 32) (n₂ := 1) (n₃ := 1) (A KernelIdeal.main_arg9) i j 0 0, b3 := at1 (A KernelIdeal.main_arg10), g3 := at1 (A KernelIdeal.main_arg11),
    be3 := at1 (A KernelIdeal.main_arg12), emb := fun i j => EReal.toReal (A KernelIdeal.main_arg13 (ix2 i j)),
    w4 := fun i j => at4 (n₀ := 32) (n₁ := 64) (n₂ := 1) (n₃ := 1) (A KernelIdeal.main_arg14) i j 0 0, b4 := at1 (A KernelIdeal.main_arg15), g4 := at1 (A KernelIdeal.main_arg16),
    be4 := at1 (A KernelIdeal.main_arg17) }

/-- The kernel's arguments are those of the network. -/
theorem given (m : (ℓ : Loc KernelIdeal.nD KernelIdeal.τ KernelIdeal.sig) → Buf (Elt Ideal) ℓ) (ρ : Dev KernelIdeal.nD → PrngReg)
    (h : Pre_KernelIdeal_finite m) (c : Dev KernelIdeal.nD) : Ker.Given (KernelIdeal.Gen.W0 m ρ c) (netOf m c) :=
  let ⟨h0, h1, h2, h3, h4, h5, h6, h7, h8, h9, h10, h11, h12, h13, h14, h15, h16, h17⟩ := real_args _ _ _ _ _ _ _ _ _ _ _ _ _ _ _ _ _ _ (h c)
  {
    x := fun i j k l => (h0 (ix4 i j k l)).symm
    w1 := fun i j k l => (h1 (ix4 i j k l)).symm
    g1 := fun i => (h3 (ix1 i)).symm
    be1 := fun i => (h4 (ix1 i)).symm
    w2 := fun i j k l => (h5 (ix4 i j k l)).symm
    g2 := fun i => (h7 (ix1 i)).symm
    be2 := fun i => (h8 (ix1 i)).symm
    w3 := fun i j => (h9 (ix4 i j 0 0)).symm
    g3 := fun i => (h11 (ix1 i)).symm
    be3 := fun i => (h12 (ix1 i)).symm
    emb := fun i j => (h13 (ix2 i j)).symm
    w4 := fun i j => (h14 (ix4 i j 0 0)).symm
    g4 := fun i => (h16 (ix1 i)).symm
    be4 := fun i => (h17 (ix1 i)).symm
  }

/-- The reference's arguments, when they are the kernel's, are those of the same network. -/
theorem given_ref (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : Pre_KernelIdeal_finite m) (c : Dev KernelIdeal.nD)
    (e : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)
      ∧ m' ((c.tc : Thread ReferenceIdeal.nD ReferenceIdeal.τ).loc ReferenceIdeal.main_arg14) = m ((c.tc : Thread KernelIdeal.nD KernelIdeal.τ).loc KernelIdeal.main_arg14)
      ∧ m' ((c.tc : Thread ReferenceIdeal.nD ReferenceIdeal.τ).loc ReferenceIdeal.main_arg15) = m ((c.tc : Thread KernelIdeal.nD KernelIdeal.τ).loc KernelIdeal.main_arg15)
      ∧ m' ((c.tc : Thread ReferenceIdeal.nD ReferenceIdeal.τ).loc ReferenceIdeal.main_arg16) = m ((c.tc : Thread KernelIdeal.nD KernelIdeal.τ).loc KernelIdeal.main_arg16)
      ∧ m' ((c.tc : Thread ReferenceIdeal.nD ReferenceIdeal.τ).loc ReferenceIdeal.main_arg17) = m ((c.tc : Thread KernelIdeal.nD KernelIdeal.τ).loc KernelIdeal.main_arg17)) :
    Ref.Args (StableHlo.launchContents m' c) (netOf m c) :=
  let ⟨h0, h1, h2, h3, h4, h5, h6, h7, h8, h9, h10, h11, h12, h13, h14, h15, h16, h17⟩ := real_args _ _ _ _ _ _ _ _ _ _ _ _ _ _ _ _ _ _ (h c)
  let ⟨e0, e1, e2, e3, e4, e5, e6, e7, e8, e9, e10, e11, e12, e13, e14, e15, e16, e17⟩ := e
  {
    x := fun i j k l => (congrFun e0 (ix4 i j k l)).trans (h0 (ix4 i j k l)).symm
    w1 := fun i j k l => (congrFun e1 (ix4 i j k l)).trans (h1 (ix4 i j k l)).symm
    b1 := fun i => (congrFun e2 (ix1 i)).trans (h2 (ix1 i)).symm
    g1 := fun i => (congrFun e3 (ix1 i)).trans (h3 (ix1 i)).symm
    be1 := fun i => (congrFun e4 (ix1 i)).trans (h4 (ix1 i)).symm
    w2 := fun i j k l => (congrFun e5 (ix4 i j k l)).trans (h5 (ix4 i j k l)).symm
    b2 := fun i => (congrFun e6 (ix1 i)).trans (h6 (ix1 i)).symm
    g2 := fun i => (congrFun e7 (ix1 i)).trans (h7 (ix1 i)).symm
    be2 := fun i => (congrFun e8 (ix1 i)).trans (h8 (ix1 i)).symm
    w3 := fun i j => (congrFun e9 (ix4 i j 0 0)).trans (h9 (ix4 i j 0 0)).symm
    b3 := fun i => (congrFun e10 (ix1 i)).trans (h10 (ix1 i)).symm
    g3 := fun i => (congrFun e11 (ix1 i)).trans (h11 (ix1 i)).symm
    be3 := fun i => (congrFun e12 (ix1 i)).trans (h12 (ix1 i)).symm
    emb := fun i j => (congrFun e13 (ix2 i j)).trans (h13 (ix2 i j)).symm
    w4 := fun i j => (congrFun e14 (ix4 i j 0 0)).trans (h14 (ix4 i j 0 0)).symm
    b4 := fun i => (congrFun e15 (ix1 i)).trans (h15 (ix1 i)).symm
    g4 := fun i => (congrFun e16 (ix1 i)).trans (h16 (ix1 i)).symm
    be4 := fun i => (congrFun e17 (ix1 i)).trans (h17 (ix1 i)).symm
  }

end Cert.Proof
end
-- ==== Proof.OutSpec.lean ====
/- A transposed convolution as mathematics: an image spread out by two, the sums of a transposed convolution over it,
   and the same sums phase by phase over the image itself. -/
module

public import Idealize.ShloMosaic.PureOps.Ideal

@[expose] public section

noncomputable section

namespace Cert.Proof.Out

open Finset

/-- A plane of `n × n` values. -/
abbrev Plane (n : ℕ) : Type := Fin n → Fin n → EReal

variable {q n : ℕ}

/-- A plane spread out by two, with a border of two zeros. -/
def spread (x : Plane n) (i j : ℕ) : EReal :=
  if h : (2 ≤ i ∧ (i - 2) % 2 = 0 ∧ (i - 2) / 2 < n) ∧ 2 ≤ j ∧ (j - 2) % 2 = 0 ∧ (j - 2) / 2 < n then
    x ⟨(i - 2) / 2, h.1.2.2⟩ ⟨(j - 2) / 2, h.2.2.2⟩
  else 0

/-- A plane with a border of one zero. -/
def border (x : Plane n) (i j : ℕ) : EReal :=
  if h : (1 ≤ i ∧ i - 1 < n) ∧ 1 ≤ j ∧ j - 1 < n then x ⟨i - 1, h.1.2⟩ ⟨j - 1, h.2.2⟩ else 0

/-- At even places the spread plane is the bordered one. -/
theorem spread_even (x : Plane n) (i j : ℕ) : spread x (2 * i) (2 * j) = border x i j := by
  unfold spread border
  have hi : (2 ≤ 2 * i ∧ (2 * i - 2) % 2 = 0 ∧ (2 * i - 2) / 2 < n) ↔ (1 ≤ i ∧ i - 1 < n) := by omega
  have hj : (2 ≤ 2 * j ∧ (2 * j - 2) % 2 = 0 ∧ (2 * j - 2) / 2 < n) ↔ (1 ≤ j ∧ j - 1 < n) := by omega
  split_ifs with h1 h2 h2
  · exact congrArg₂ x (Fin.ext (by simp only; omega)) (Fin.ext (by simp only; omega))
  · exact absurd ⟨hi.1 h1.1, hj.1 h1.2⟩ h2
  · exact absurd ⟨hi.2 h2.1, hj.2 h2.2⟩ h1
  · rfl

/-- At odd rows the spread plane is zero. -/
theorem spread_odd_row (x : Plane n) (i j : ℕ) (h : i % 2 = 1) : spread x i j = 0 :=
  dif_neg fun k => by omega

/-- At odd columns the spread plane is zero. -/
theorem spread_odd_col (x : Plane n) (i j : ℕ) (h : j % 2 = 1) : spread x i j = 0 :=
  dif_neg fun k => by omega

/-- A transposed convolution at stride two with 4 × 4 windows: the windows, flipped, over the spread planes. -/
def deconv (x : Fin q → Plane n) (w : Fin q → Fin 4 → Fin 4 → EReal) (h u : ℕ) : EReal :=
  ∑ i : Fin 4, ∑ j : Fin 4, ∑ k, w k i.rev j.rev * spread (x k) (i + h) (j + u)

/-- The same sum at one of the four phases: four taps of the bordered planes. -/
def phase (x : Fin q → Plane n) (w : Fin q → Fin 4 → Fin 4 → EReal) (a c : Fin 2) (h u : ℕ) : EReal :=
  ∑ d : Fin 2, ∑ e : Fin 2, ∑ k, border (x k) (1 + a + h - d) (1 + c + u - e)
    * w k ⟨1 + 2 * d - a, by omega⟩ ⟨1 + 2 * e - c, by omega⟩

/-- A sum over four places of which two vanish. -/
theorem sum_even (f : Fin 4 → EReal) (h1 : f 1 = 0) (h3 : f 3 = 0) : ∑ i, f i = f 2 + f 0 := by
  rw [Fin.sum_univ_four, h1, h3, add_zero, add_zero, add_comm]

theorem sum_odd (f : Fin 4 → EReal) (h0 : f 0 = 0) (h2 : f 2 = 0) : ∑ i, f i = f 3 + f 1 := by
  rw [Fin.sum_univ_four, h0, h2, zero_add, add_zero, add_comm]

/-- Rows of one parity: over four places, the two that meet even rows. -/
theorem sum_parity (a : Fin 2) (f : Fin 4 → EReal) (hf : ∀ i : Fin 4, (i.val + a.val) % 2 = 1 → f i = 0) :
    ∑ i, f i = ∑ d : Fin 2, f ⟨2 + a - 2 * d, by omega⟩ := by
  rw [Fin.sum_univ_two]
  fin_cases a
  · exact sum_even f (hf 1 (by decide)) (hf 3 (by decide))
  · exact sum_odd f (hf 0 (by decide)) (hf 2 (by decide))

/-- The transposed convolution at an output of a phase is the phase's sum. -/
theorem deconv_phase (x : Fin q → Plane n) (w : Fin q → Fin 4 → Fin 4 → EReal) (a c : Fin 2) (h u : ℕ) :
    deconv x w (2 * h + a) (2 * u + c) = phase x w a c h u := by
  unfold deconv phase
  rw [sum_parity a]
  · refine Fintype.sum_congr _ _ fun d => ?_
    rw [sum_parity c]
    · refine Fintype.sum_congr _ _ fun e => Fintype.sum_congr _ _ fun k => ?_
      have hi : (2 + a.val - 2 * d.val) + (2 * h + a.val) = 2 * (1 + a + h - d) := by omega
      have hj : (2 + c.val - 2 * e.val) + (2 * u + c.val) = 2 * (1 + c + u - e) := by omega
      show w k _ _ * spread (x k) ((2 + a.val - 2 * d.val) + (2 * h + a.val)) ((2 + c.val - 2 * e.val) + (2 * u + c.val)) = _
      rw [hi, hj, spread_even, mul_comm]
      refine congrArg₂ (fun i j => border (x k) _ _ * w k i j) (Fin.ext ?_) (Fin.ext ?_) <;> simp only [Fin.val_rev] <;> omega
    · intro j hj
      exact Finset.sum_eq_zero fun k _ => by rw [spread_odd_col _ _ _ (by omega), mul_zero]
  · intro i hi
    exact Finset.sum_eq_zero fun j _ => Finset.sum_eq_zero fun k _ => by rw [spread_odd_row _ _ _ (by omega), mul_zero]

end Cert.Proof.Out
end
-- ==== Proof.OutKer.lean ====
/- The last layer's call: the arrays its host operations give it, the array it leaves, and the layout of the result. -/
module

public import proofs.«01_k».proof.Proof.Gen.Kernel2Ideal.Frame
public import proofs.«01_k».proof.Proof.OutSpec
public import Idealize.ShloMosaic.Lib.Pointwise
public import Idealize.ShloMosaic.Lib.Pipeline.Value
public import Idealize.ShloMosaic.Lib.StableHlo.ReadAt
public import Idealize.ShloMosaic.Lib.MatmulPlain

@[expose] public section

set_option maxRecDepth 16384

noncomputable section

namespace Cert.Proof.Out

open Idealize.ShloMosaic Idealize.SL.Sem Cert.Kernel2Ideal Cert.Kernel2Ideal.Gen
open Idealize.ShloMosaic.StableHlo (after)

/-- The contents of the kernel's buffers. -/
abbrev KVal : Type := Valuation τ sig (Elt Ideal)

section
set_option maxHeartbeats 4000000

/-- The bordered argument. -/
theorem border_read (V : KVal) (hc : V (Proc.devRef .tc main_c) = fun _ => 0#32) (b : Fin 2) (h u : Fin 114) (k : Fin 16) :
    after hostOps0_1 V (Proc.devRef .tc main_v0) (ix4 b h u k) = border (fun i j => V (Proc.devRef .tc main_arg0) (ix4 b i j k)) h u := by
  after_reads_at
  unfold border
  simp only [hc]
  split_ifs
  · rfl
  · simp [FloatOps.sitofp]

/-- Sixteen pieces of sixteen lanes side by side. -/
def pieces (P : Fin 16 → S25088x16.Idx → EReal) : S25088x256.Idx → EReal :=
  concatenate S25088x256 1 [⟨S25088x16, P 0⟩, ⟨S25088x16, P 1⟩, ⟨S25088x16, P 2⟩, ⟨S25088x16, P 3⟩, ⟨S25088x16, P 4⟩, ⟨S25088x16, P 5⟩, ⟨S25088x16, P 6⟩, ⟨S25088x16, P 7⟩, ⟨S25088x16, P 8⟩, ⟨S25088x16, P 9⟩, ⟨S25088x16, P 10⟩, ⟨S25088x16, P 11⟩, ⟨S25088x16, P 12⟩, ⟨S25088x16, P 13⟩, ⟨S25088x16, P 14⟩, ⟨S25088x16, P 15⟩] concatenates_S25088x16_S25088x16_S25088x16_S25088x16_S25088x16_S25088x16_S25088x16_S25088x16_S25088x16_S25088x16_S25088x16_S25088x16_S25088x16_S25088x16_S25088x16_S25088x16_S25088x256_d1

theorem pieces_read (P : Fin 16 → S25088x16.Idx → EReal) (r : Fin 25088) (t k : Fin 16) (l : Fin 256)
    (hl : l.val = 16 * t.val + k.val) : pieces P (ix2 r l) = P t (ix2 r k) :=
  concatenate_ofFn_apply 1 P concatenates_S25088x16_S25088x16_S25088x16_S25088x16_S25088x16_S25088x16_S25088x16_S25088x16_S25088x16_S25088x16_S25088x16_S25088x16_S25088x16_S25088x16_S25088x16_S25088x16_S25088x256_d1 rfl 16 rfl (ix2 r l) t
    (show l.val / 16 = t.val by omega) (ix2 r k) (show k.val = l.val % 16 by omega)
    (by intro a ha; match a with | 0 => rfl | 1 => exact absurd rfl ha)

/-- The sixteen pieces. -/
def pieceOf (V : KVal) : Fin 16 → S25088x16.Idx → EReal :=
  ![V (Proc.devRef .tc main_v2), V (Proc.devRef .tc main_v4), V (Proc.devRef .tc main_v6), V (Proc.devRef .tc main_v8), V (Proc.devRef .tc main_v10), V (Proc.devRef .tc main_v12), V (Proc.devRef .tc main_v14), V (Proc.devRef .tc main_v16), V (Proc.devRef .tc main_v18), V (Proc.devRef .tc main_v20), V (Proc.devRef .tc main_v22), V (Proc.devRef .tc main_v24), V (Proc.devRef .tc main_v26), V (Proc.devRef .tc main_v28), V (Proc.devRef .tc main_v30), V (Proc.devRef .tc main_v32)]

theorem v33_eq (V : KVal) : after ((hostOps0_2.drop 32).take 1) V (Proc.devRef .tc main_v33) = pieces (pieceOf V) := by
  after_reads_simp
  rfl

/-- A piece is the bordered argument at its tap. -/
theorem pieceOf_read (V : KVal) (r : Fin 25088) (k t : Fin 16) :
    pieceOf (after (hostOps0_2.take 32) V) t (ix2 r k)
      = V (Proc.devRef .tc main_v0) (ix4 ⟨r / 12544, by omega⟩ ⟨1 + t.val / 8 + r / 112 % 112 - t.val / 2 % 2, by omega⟩
        ⟨1 + t.val / 4 % 2 + r % 112 - t.val % 2, by omega⟩ k) := by
  unfold pieceOf
  fin_cases t <;>
    simp only [Fin.mk_zero, Fin.mk_one, Fin.reduceFinMk, Matrix.cons_val] <;>
    after_reads_at <;>
    exact congrArg (V (Proc.devRef .tc main_v0)) (by
      congr 1 <;> apply Fin.ext <;> simp <;> omega)

/-- Four columns of sixteen weights one above the other. -/
def stack (P : Fin 4 → S16x1.Idx → EReal) : S64x1.Idx → EReal :=
  concatenate S64x1 0 [⟨S16x1, P 0⟩, ⟨S16x1, P 1⟩, ⟨S16x1, P 2⟩, ⟨S16x1, P 3⟩] concatenates_S16x1_S16x1_S16x1_S16x1_S64x1_d0

theorem stack_read (P : Fin 4 → S16x1.Idx → EReal) (l : Fin 64) :
    stack P (ix2 l 0) = P ⟨l / 16, by omega⟩ (ix2 ⟨l % 16, by omega⟩ 0) :=
  concatenate_ofFn_apply 0 P concatenates_S16x1_S16x1_S16x1_S16x1_S64x1_d0 rfl 16 rfl (ix2 l 0) ⟨l / 16, by omega⟩ rfl (ix2 ⟨l % 16, by omega⟩ 0) rfl
    (by intro a ha; match a with | 0 => exact absurd rfl ha | 1 => rfl)

/-- Four bands of sixty-four rows one above the other. -/
def bands (P : Fin 4 → S64x4.Idx → EReal) : S256x4.Idx → EReal :=
  concatenate S256x4 0 [⟨S64x4, P 0⟩, ⟨S64x4, P 1⟩, ⟨S64x4, P 2⟩, ⟨S64x4, P 3⟩] concatenates_S64x4_S64x4_S64x4_S64x4_S256x4_d0

theorem bands_read (P : Fin 4 → S64x4.Idx → EReal) (l : Fin 256) (s : Fin 4) :
    bands P (ix2 l s) = P ⟨l / 64, by omega⟩ (ix2 ⟨l % 64, by omega⟩ s) :=
  concatenate_ofFn_apply 0 P concatenates_S64x4_S64x4_S64x4_S64x4_S256x4_d0 rfl 64 rfl (ix2 l s) ⟨l / 64, by omega⟩ rfl (ix2 ⟨l % 64, by omega⟩ s) rfl
    (by intro a ha; match a with | 0 => exact absurd rfl ha | 1 => rfl)

/-- The weights of a group's four taps. -/
def tapOf (V : KVal) : Fin 4 → Fin 4 → S16x1.Idx → EReal :=
  ![![V (Proc.devRef .tc main_v35), V (Proc.devRef .tc main_v37), V (Proc.devRef .tc main_v39), V (Proc.devRef .tc main_v41)],
    ![V (Proc.devRef .tc main_v44), V (Proc.devRef .tc main_v46), V (Proc.devRef .tc main_v48), V (Proc.devRef .tc main_v50)],
    ![V (Proc.devRef .tc main_v53), V (Proc.devRef .tc main_v55), V (Proc.devRef .tc main_v57), V (Proc.devRef .tc main_v59)],
    ![V (Proc.devRef .tc main_v62), V (Proc.devRef .tc main_v64), V (Proc.devRef .tc main_v66), V (Proc.devRef .tc main_v68)]]

/-- A group's column of weights. -/
def colOf (V : KVal) : Fin 4 → S64x1.Idx → EReal :=
  ![V (Proc.devRef .tc main_v42), V (Proc.devRef .tc main_v51), V (Proc.devRef .tc main_v60), V (Proc.devRef .tc main_v69)]

/-- A group's column of weights among four. -/
def bandOf (V : KVal) : Fin 4 → S64x4.Idx → EReal :=
  ![V (Proc.devRef .tc main_call1_v4), V (Proc.devRef .tc main_call1_v5), V (Proc.devRef .tc main_call1_v6), V (Proc.devRef .tc main_call1_v7)]

theorem colOf_eq (V : KVal) (g : Fin 4) : colOf (after (hostOps0_2.drop 33) V) g = stack (tapOf (after (hostOps0_2.drop 33) V) g) := by
  unfold colOf tapOf
  fin_cases g <;>
    simp only [Fin.mk_zero, Fin.mk_one, Fin.reduceFinMk, Matrix.cons_val] <;>
    after_reads_simp <;> rfl

theorem tapOf_read (V : KVal) (g t : Fin 4) (k : Fin 16) :
    tapOf (after (hostOps0_2.drop 33) V) g t (ix2 k 0)
      = V (Proc.devRef .tc main_arg1) (ix4 k 0 ⟨1 + 2 * (t.val / 2) - g.val / 2, by omega⟩ ⟨1 + 2 * (t.val % 2) - g.val % 2, by omega⟩) := by
  unfold tapOf
  fin_cases g <;> fin_cases t <;>
    simp only [Fin.mk_zero, Fin.mk_one, Fin.reduceFinMk, Matrix.cons_val] <;>
    after_reads_at <;> rfl

theorem v70_eq (V : KVal) : after (hostOps0_3.drop 8) V (Proc.devRef .tc main_v70) = bands (bandOf V) := by
  after_reads_simp
  rfl

theorem bandOf_read (V : KVal) (g s : Fin 4) (l : Fin 64) :
    bandOf (after (hostOps0_3.take 8) V) g (ix2 l s) = if s = g then colOf V g (ix2 l 0) else 0 := by
  unfold bandOf colOf
  fin_cases g <;> fin_cases s <;>
    simp only [Fin.mk_zero, Fin.mk_one, Fin.reduceFinMk, Matrix.cons_val] <;>
    after_reads_at

theorem tail_read (V : KVal) (b : Fin 2) (h u : Fin 224) :
    after hostOps1 V (Proc.devRef .tc main_v75) (ix4 b 0 h u)
      = V (Proc.devRef .tc main_v72) (ix2 ⟨b * 12544 + h / 2 * 112 + u / 2, by omega⟩ ⟨h % 2 * 2 + u % 2, by omega⟩) := by
  after_reads_at

theorem after_cut (l : List (HloOp τ sig (Elt Ideal))) (k : ℕ) (V : KVal) : after l V = after (l.drop k) (after (l.take k) V) := by
  rw [← StableHlo.after_append, List.take_append_drop]

/-- The contents before the call. -/
def before (V : KVal) : KVal := after hostOps0_4 (after hostOps0_3 (after hostOps0_2 (after hostOps0_1 (after hostOps0 V))))

/-- The call's windows: sixteen taps of the bordered argument, four for each phase. -/
theorem windows_read (V : KVal) (r : Fin 25088) (l : Fin 256) :
    before V (Proc.devRef .tc main_v33) (ix2 r l)
      = border (fun i j => V (Proc.devRef .tc main_arg0) (ix4 ⟨r / 12544, by omega⟩ i j ⟨l % 16, by omega⟩))
          (1 + l.val / 128 + r / 112 % 112 - l.val / 32 % 2) (1 + l.val / 64 % 2 + r % 112 - l.val / 16 % 2) := by
  have e4 : ∀ W : KVal, after hostOps0_4 W (Proc.devRef .tc main_v33) = W (Proc.devRef .tc main_v33) := fun W => by after_reads_simp
  have e3 : ∀ W : KVal, after hostOps0_3 W (Proc.devRef .tc main_v33) = W (Proc.devRef .tc main_v33) := fun W => by after_reads_simp
  have e2 : ∀ W : KVal, after ((hostOps0_2.drop 32).drop 1) W (Proc.devRef .tc main_v33) = W (Proc.devRef .tc main_v33) := fun W => by
    after_reads_simp
  have ec : after hostOps0 V (Proc.devRef .tc main_c) = fun _ => 0#32 := by after_reads_simp; rfl
  have ea : after hostOps0 V (Proc.devRef .tc main_arg0) = V (Proc.devRef .tc main_arg0) := by after_reads_simp
  unfold before
  rw [e4, e3, after_cut hostOps0_2 32, after_cut (hostOps0_2.drop 32) 1, e2, v33_eq,
    pieces_read _ r ⟨l / 16, by omega⟩ ⟨l % 16, by omega⟩ l (by simp only; omega), pieceOf_read, border_read _ ec, ea]
  simp only
  congr 1
  · omega
  · omega

/-- The call's weights: each phase's four taps in the phase's column. -/
theorem weights_read (V : KVal) (l : Fin 256) (s : Fin 4) :
    before V (Proc.devRef .tc main_v70) (ix2 l s)
      = if s.val = l.val / 64 then
          V (Proc.devRef .tc main_arg1) (ix4 ⟨l % 16, by omega⟩ 0 ⟨1 + 2 * (l / 32 % 2) - l / 128, by omega⟩ ⟨1 + 2 * (l / 16 % 2) - l / 64 % 2, by omega⟩)
        else (0 : EReal) := by
  have e4 : ∀ W : KVal, after hostOps0_4 W (Proc.devRef .tc main_v70) = W (Proc.devRef .tc main_v70) := fun W => by after_reads_simp
  have e2 : ∀ W : KVal, after (hostOps0_2.take 33) W (Proc.devRef .tc main_arg1) = W (Proc.devRef .tc main_arg1) := fun W => by after_reads_simp
  have e1 : ∀ W : KVal, after hostOps0_1 W (Proc.devRef .tc main_arg1) = W (Proc.devRef .tc main_arg1) := fun W => by after_reads_simp
  have e0 : ∀ W : KVal, after hostOps0 W (Proc.devRef .tc main_arg1) = W (Proc.devRef .tc main_arg1) := fun W => by after_reads_simp
  unfold before
  rw [e4, after_cut hostOps0_3 8, v70_eq, bands_read, bandOf_read, after_cut hostOps0_2 33, colOf_eq, stack_read, tapOf_read, e2, e1, e0]
  have hs : (s = ⟨l.val / 64, by omega⟩) ↔ s.val = l.val / 64 := Fin.ext_iff
  simp only [hs]
  refine if_congr Iff.rfl ?_ rfl
  refine congrArg (V (Proc.devRef .tc main_arg1)) ?_
  congr 1 <;> apply Fin.ext <;> simp only <;> omega

theorem bias_read (V : KVal) : before V (Proc.devRef .tc main_v71) (ix2 0 0) = V (Proc.devRef .tc main_arg2) (ix1 0) := by
  have e3 : ∀ W : KVal, after hostOps0_3 W (Proc.devRef .tc main_arg2) = W (Proc.devRef .tc main_arg2) := fun W => by after_reads_simp
  have e2 : ∀ W : KVal, after hostOps0_2 W (Proc.devRef .tc main_arg2) = W (Proc.devRef .tc main_arg2) := fun W => by after_reads_simp
  have e1 : ∀ W : KVal, after hostOps0_1 W (Proc.devRef .tc main_arg2) = W (Proc.devRef .tc main_arg2) := fun W => by after_reads_simp
  have e0 : ∀ W : KVal, after hostOps0 W (Proc.devRef .tc main_arg2) = W (Proc.devRef .tc main_arg2) := fun W => by after_reads_simp
  have e4 : ∀ W : KVal, after hostOps0_4 W (Proc.devRef .tc main_v71) (ix2 0 0) = W (Proc.devRef .tc main_arg2) (ix1 0) := fun W => by
    after_reads_at
  unfold before
  rw [e4, e3, e2, e1, e0]

theorem corner : (![0, 0] : Fin 2 → Nat) = fun _ => 0 := funext fun a => by fin_cases a <;> rfl

/-- The call on a block of windows: dots, the bias, and the logistic function. -/
theorem call_read (x0 : Vec Ideal S3136x256 .f32) (x1 : Vec Ideal S256x4 .f32) (x2 : Vec Ideal S1x1 .f32) (r : Fin 3136) (s : Fin 4) :
    out0_3 x0 x1 x2 (ix2 r s) = Ideal.logistic ((∑ l : Fin 256, x0 (ix2 r l) * x1 (ix2 l s)) + x2 (ix2 0 0)) := by
  unfold out0_3
  rw [View.canon_unit_zero corner]
  simp only [View.ld_unit_zero (S := S3136x256) corner, View.ld_unit_zero (S := S256x4) corner, View.ld_unit_zero (S := S1x1) corner]
  unfold k0_pay1
  pointwise
  try rfl

/-- A sum over the lanes, by phases, taps and channels. -/
theorem sum_lanes (f : Fin 256 → EReal) :
    ∑ l, f l = ∑ g : Fin 4, ∑ t : Fin 4, ∑ k : Fin 16, f ⟨64 * g + 16 * t + k, by omega⟩ := by
  have e : ∀ g : Fin 4, (∑ t : Fin 4, ∑ k : Fin 16, f ⟨64 * g + 16 * t + k, by omega⟩) = ∑ i : Fin 64, f ⟨64 * g + i, by omega⟩ := fun g => by
    rw [← Fintype.sum_prod_type' (f := fun (t : Fin 4) (k : Fin 16) => f ⟨64 * g + 16 * t + k, by omega⟩)]
    refine ((Equiv.sum_comp (finProdFinEquiv (m := 4) (n := 16)) _).symm.trans (Fintype.sum_congr _ _ fun p => congrArg f (Fin.ext ?_))).symm
    show 64 * g.val + (p.2.val + 16 * p.1.val) = 64 * g.val + 16 * p.1.val + p.2.val
    omega
  simp only [e]
  rw [← Fintype.sum_prod_type' (f := fun (g : Fin 4) (i : Fin 64) => f ⟨64 * g + i, by omega⟩)]
  refine (Equiv.sum_comp (finProdFinEquiv (m := 4) (n := 64)) f).symm.trans (Fintype.sum_congr _ _ fun p => congrArg f (Fin.ext ?_))
  show p.2.val + 64 * p.1.val = 64 * p.1.val + p.2.val
  omega

/-- A sum over four taps, by rows and columns. -/
theorem sum_taps (f : Fin 4 → EReal) : ∑ t, f t = ∑ d : Fin 2, ∑ e : Fin 2, f ⟨2 * d + e, by omega⟩ := by
  rw [Fin.sum_univ_four, Fin.sum_univ_two, Fin.sum_univ_two, Fin.sum_univ_two, ← add_assoc]
  rfl

/-- A row of windows against a phase's column of weights is the phase's sum. -/
theorem dot_phase (V : KVal) (r : Fin 25088) (s : Fin 4) :
    (∑ l : Fin 256, HMul.hMul (α := EReal) (β := EReal) (before V (Proc.devRef .tc main_v33) (ix2 r l)) (before V (Proc.devRef .tc main_v70) (ix2 l s)))
      = phase (fun k i j => V (Proc.devRef .tc main_arg0) (ix4 ⟨r / 12544, by omega⟩ i j k))
          (fun k i j => V (Proc.devRef .tc main_arg1) (ix4 k 0 i j)) ⟨s / 2, by omega⟩ ⟨s % 2, by omega⟩ (r / 112 % 112) (r % 112) := by
  rw [sum_lanes, Finset.sum_eq_single s]
  · rw [sum_taps]
    refine Fintype.sum_congr _ _ fun d => Fintype.sum_congr _ _ fun e => Fintype.sum_congr _ _ fun k => ?_
    rw [windows_read, weights_read, if_pos (by simp only; omega)]
    have h1 : (64 * s.val + 16 * (2 * d.val + e.val) + k.val) % 16 = k.val := by omega
    have h2 : (64 * s.val + 16 * (2 * d.val + e.val) + k.val) / 128 = s.val / 2 := by omega
    have h3 : (64 * s.val + 16 * (2 * d.val + e.val) + k.val) / 32 % 2 = d.val := by omega
    have h4 : (64 * s.val + 16 * (2 * d.val + e.val) + k.val) / 64 % 2 = s.val % 2 := by omega
    have h5 : (64 * s.val + 16 * (2 * d.val + e.val) + k.val) / 16 % 2 = e.val := by omega
    simp only [h1, h2, h3, h4, h5]
  · intro g _ hg
    refine Finset.sum_eq_zero fun t _ => Finset.sum_eq_zero fun k _ => ?_
    rw [weights_read, if_neg (fun h => hg (Fin.ext (by simp only at h; omega))), mul_zero]
  · intro h
    exact absurd (Finset.mem_univ s) h

end

end Cert.Proof.Out
end
-- ==== Proof.OutAll.lean ====
/- The last layer as a whole: what the call leaves block by block, the kernel's result, and its equality with the
   reference's. -/
module

public import proofs.«01_k».proof.Proof.OutKer

@[expose] public section

set_option maxRecDepth 16384

noncomputable section

namespace Cert.Proof.Out

open Idealize.ShloMosaic Idealize.ShloMosaic.TcCoe Idealize.SL.Sem Cert.Kernel2Ideal Cert.Kernel2Ideal.Gen
open Idealize.ShloMosaic.StableHlo (after)
open Idealize.ShloMosaic.Pipeline (Dat Cfg Window)

/-- The call's whole result, of the arrays it is given. -/
def result (x0 : Vec Ideal S25088x256 .f32) (x1 : Vec Ideal S256x4 .f32) (x2 : Vec Ideal S1x1 .f32) : Vec Ideal S25088x4 .f32 :=
  fun i => Ideal.logistic ((∑ l : Fin 256, x0 (ix2 (i 0) l) * x1 (ix2 l (i 1))) + x2 (ix2 0 0))

variable (m : (ℓ : Loc nD τ sig) → Buf (Elt Ideal) ℓ) (c : Dev nD)

/-- The row blocks of the windows and of the result are at the rows of the point. -/
theorem row_block : ∀ t : Fin grid0.N, cc0_transform_0 (grid0.coords t) 0 = t.val ∧ cc0_transform_3 (grid0.coords t) 0 = t.val := by decide

/-- An index of a 1 × 1 or 256 × 4 array read through an embedding that keeps both coordinates. -/
theorem keep2 {p q : ℕ} (e : (⟨2, ![p, q]⟩ : Shape).Idx → (⟨2, ![p, q]⟩ : Shape).Idx)
    (h0 : ∀ j, (e j 0).val = 0 * p + 1 * (j 0).val) (h1 : ∀ j, (e j 1).val = 0 * q + 1 * (j 1).val) (j : (⟨2, ![p, q]⟩ : Shape).Idx) :
    e j = j := by
  funext a; apply Fin.ext
  match a with
  | ⟨0, _⟩ => exact (h0 j).trans (by rw [Nat.zero_mul, Nat.zero_add, Nat.one_mul]; rfl)
  | ⟨1, _⟩ => exact (h1 j).trans (by rw [Nat.zero_mul, Nat.zero_add, Nat.one_mul]; rfl)

theorem point_lt (t : Fin cfg0.N) : t.val < 8 := lt_of_lt_of_eq t.isLt N_0

theorem blk_rows (t : Fin cfg0.N) (r : Fin 3136) (l : Fin 256) :
    iblk m c 0 t (ix2 r l) = V m c main_v33 (ix2 ⟨t.val * 3136 + r.val, by have := point_lt t; omega⟩ l) := by
  refine congrArg (V m c main_v33) (funext fun a => Fin.ext ?_)
  match a with
  | ⟨0, _⟩ =>
    show cc0_transform_0 (grid0.coords t) 0 * 3136 + 1 * r.val = t.val * 3136 + r.val
    rw [(row_block t).1, Nat.one_mul]
  | ⟨1, _⟩ =>
    show 0 * 256 + 1 * l.val = l.val
    omega

theorem blk_weights (t : Fin cfg0.N) : iblk m c 1 t = V m c main_v70 :=
  funext fun j => congrArg (V m c main_v70) (keep2 (p := 256) (q := 4) ((cfg0.win 1).blk t).view.emb (fun _ => rfl) (fun _ => rfl) j)

theorem blk_bias (t : Fin cfg0.N) : iblk m c 2 t = V m c main_v71 :=
  funext fun j => congrArg (V m c main_v71) (keep2 (p := 1) (q := 1) ((cfg0.win 2).blk t).view.emb (fun _ => rfl) (fun _ => rfl) j)

theorem emb_rows (t : Fin cfg0.N) (r : Fin 3136) (s : Fin 4) :
    ((cfg0.win 3).blk t).view.emb (ix2 r s) = ix2 ⟨t.val * 3136 + r.val, by have := point_lt t; omega⟩ s := by
  refine funext fun a => Fin.ext ?_
  match a with
  | ⟨0, _⟩ =>
    show cc0_transform_3 (grid0.coords t) 0 * 3136 + 1 * r.val = t.val * 3136 + r.val
    rw [(row_block t).2, Nat.one_mul]
  | ⟨1, _⟩ =>
    show 0 * 4 + 1 * s.val = s.val
    omega

theorem result_read (x0 : Vec Ideal S25088x256 .f32) (x1 : Vec Ideal S256x4 .f32) (x2 : Vec Ideal S1x1 .f32) (r : Fin 25088) (s : Fin 4) :
    result x0 x1 x2 (ix2 r s) = Ideal.logistic ((∑ l : Fin 256, x0 (ix2 r l) * x1 (ix2 l s)) + x2 (ix2 0 0)) := rfl

/-- What the call leaves at a point is that point's rows of the whole result. -/
theorem point_result (t : Fin cfg0.N) (r : Fin 3136) (s : Fin 4) :
    out0_3 (iblk m c 0 t) (iblk m c 1 t) (iblk m c 2 t) (ix2 r s)
      = result (V m c main_v33) (V m c main_v70) (V m c main_v71) (ix2 ⟨t.val * 3136 + r.val, by have := point_lt t; omega⟩ s) := by
  rw [blk_weights, blk_bias, call_read, result_read]
  refine congrArg Ideal.logistic (congrArg (· + _) (Fintype.sum_congr _ _ fun l => ?_))
  rw [blk_rows]

/-- The rows of the points cover the result. -/
theorem rows_cover (i : S25088x4.Idx) : ∃ t : Fin cfg0.N, i ∈ ((cfg0.win 3).blk t).view.set := by
  obtain ⟨r, s, rfl⟩ : ∃ (r : Fin 25088) (s : Fin 4), i = ix2 r s := ⟨i 0, i 1, eq_ix2 i⟩
  have hN : cfg0.N = 8 := N_0
  obtain ⟨t, ht⟩ : ∃ t : Fin cfg0.N, t.val = r.val / 3136 := ⟨⟨r.val / 3136, by omega⟩, rfl⟩
  have h := ((cfg0.win 3).blk t).view.emb_mem_set (ix2 (⟨r.val % 3136, by omega⟩ : Fin 3136) s)
  rw [emb_rows] at h
  have e : (⟨t.val * 3136 + r.val % 3136, by omega⟩ : Fin 25088) = r := Fin.ext (by simp only; omega)
  rw [e] at h
  exact ⟨t, h⟩

/-- The call leaves its function of the arrays it is given. -/
theorem call_result : (dats m 0 c).arrAt 3 cfg0.N = result (V m c main_v33) (V m c main_v70) (V m c main_v71) :=
  (dats m 0 c).arrAt_eq_of_cover 3 (result (V m c main_v33) (V m c main_v70) (V m c main_v71))
    (fun t _ => by
      show (cfg0.win 3).cut (grid0.coords t) ((dats m 0 c).after 3 t) = _
      rw [after0_3]
      have h := point_result m c t
      generalize out0_3 (iblk m c 0 t) (iblk m c 1 t) (iblk m c 2 t) = X at h ⊢
      generalize result (V m c main_v33) (V m c main_v70) (V m c main_v71) = Y at h ⊢
      funext j
      show X j = Y (((cfg0.win 3).blk t).view.emb j)
      obtain ⟨r, s, rfl⟩ : ∃ (r : Fin 3136) (s : Fin 4), j = ix2 r s := ⟨j 0, j 1, eq_ix2 j⟩
      rw [h, emb_rows])
    fun i => (rows_cover i).imp fun t h => ⟨flush0_3 t, h⟩

/-- The launch's contents of the buffers. -/
abbrev start : KVal := fun b => m (c, b)

theorem before_eq : V0 m c = before (start m c) := by
  show after (List.flatten [hostOps0, hostOps0_1, hostOps0_2, hostOps0_3, hostOps0_4]) (start m c) = _
  unfold before
  simp only [List.flatten_cons, List.flatten_nil, List.append_nil, StableHlo.after_append]

/-- The kernel's result at an output: the transposed convolution, the bias and the logistic function. -/
theorem kernel_read (b : Fin 2) (h u : Fin 224) :
    Pipeline.afterTail₀ cfgs (dats m) 0 (V0 m) [hostOps1] c main_v75 (ix4 b 0 h u)
      = Ideal.logistic (deconv (fun k i j => start m c (Proc.devRef .tc main_arg0) (ix4 b i j k))
          (fun k i j => start m c (Proc.devRef .tc main_arg1) (ix4 k 0 i j)) h u + start m c (Proc.devRef .tc main_arg2) (ix1 0)) := by
  unfold Pipeline.afterTail₀
  simp only [List.flatten_cons, List.flatten_nil, List.append_nil]
  rw [tail_read]
  have hw := Pipeline.withArrays_arr spec0 (by decide) c (V0 m c) (fun w => (dats m 0 c).arrAt w cfg0.N) 3
  refine (congrFun (hw.trans (call_result m c)) _).trans ?_
  rw [result_read]
  simp only [V]
  rw [before_eq]
  refine congrArg Ideal.logistic (congrArg₂ (· + ·) ?_ (bias_read _))
  refine (dot_phase (start m c) _ _).trans ?_
  have e := deconv_phase (fun k i j => start m c (Proc.devRef .tc main_arg0) (ix4 b i j k))
    (fun k i j => start m c (Proc.devRef .tc main_arg1) (ix4 k 0 i j)) ⟨h.val % 2, by omega⟩ ⟨u.val % 2, by omega⟩ (h.val / 2) (u.val / 2)
  simp only [Nat.div_add_mod] at e
  rw [e]
  have h1 : (b.val * 12544 + h.val / 2 * 112 + u.val / 2) / 12544 = b.val := by omega
  have h2 : (b.val * 12544 + h.val / 2 * 112 + u.val / 2) / 112 % 112 = h.val / 2 := by omega
  have h3 : (b.val * 12544 + h.val / 2 * 112 + u.val / 2) % 112 = u.val / 2 := by omega
  have h4 : (h.val % 2 * 2 + u.val % 2) / 2 = h.val % 2 := by omega
  have h5 : (h.val % 2 * 2 + u.val % 2) % 2 = u.val % 2 := by omega
  simp only [h1, h2, h3, h4, h5, Fin.eta]

end Cert.Proof.Out
end
-- ==== Proof.OutRef.lean ====
/- The reference of the last layer: its lines of host operations, their run, and the array they end with. -/
module

public import proofs.«01_k».proof.Proof.Gen.Reference2Ideal
public import proofs.«01_k».proof.Proof.OutSpec
public import Idealize.ShloMosaic.Lib.Claim
public import Idealize.ShloMosaic.Lib.Quiescent
public import Idealize.ShloMosaic.Lib.StableHlo.ReadAt
public import Idealize.ShloMosaic.Lib.Pointwise

@[expose] public section

set_option maxRecDepth 16384

noncomputable section

namespace Cert.Proof.Out

open Idealize.ShloMosaic Idealize.SL.Sem Cert.Reference2Ideal
open Idealize.ShloMosaic.StableHlo (IsSeq seq after after_cons after_nil)

/-- A line of operations of the reference. -/
abbrev Ops : Type := List (HloOp τ sig (Elt Ideal))

section
set_option maxHeartbeats 4000000

def first : {ops : Ops // ∀ d, IsSeq (main_part0 (F := Ideal) d) ops} := by apply Subtype.mk; hlo_seq
def second : {ops : Ops // ∀ d, IsSeq (main_part1 (F := Ideal) d) ops} := by apply Subtype.mk; hlo_seq

/-- All operations of the reference, in order. -/
def ops : Ops := first.1 ++ second.1

theorem main_ops (d : Dev nD) : IsSeq (main (F := Ideal) d) ops := by
  have h0 := first.2 d
  have h1 := second.2 d
  unfold IsSeq at *
  unfold main ops
  rw [h0, h1, StableHlo.seq_append]

/-- The operations that transpose and spread the argument. -/
def opening : Ops := first.1.take 3
/-- The operations of the sixteen taps. -/
def taps : Ops := first.1.drop 3 ++ second.1.take 41
/-- The operations after the taps. -/
def closing : Ops := second.1.drop 41

/-- The contents of the reference's buffers. -/
abbrev RVal : Type := Valuation τ sig (Elt Ideal)

theorem after_ops (V : RVal) : after ops V = after closing (after taps (after opening V)) := by
  unfold ops opening taps closing
  rw [← StableHlo.after_append, ← StableHlo.after_append, ← List.append_assoc, ← List.append_assoc, List.take_append_drop, List.append_assoc,
    List.take_append_drop]

theorem ops_bufs : ops.Forall fun op => op.bufs ⊆ StableHlo.tcRefs τ sig := by
  refine List.forall_append.mpr ⟨?_, ?_⟩
  · unfold first
    simp only [List.forall_cons]
    and_intros <;>
      first
        | exact trivial
        | with_reducible exact StableHlo.nullary_bufs_sub ..
        | with_reducible exact StableHlo.unary_bufs_sub ..
        | with_reducible exact StableHlo.binary_bufs_sub ..
        | with_reducible exact StableHlo.reshape_bufs_sub ..
  · unfold second
    simp only [List.forall_cons]
    and_intros <;>
      first
        | exact trivial
        | with_reducible exact StableHlo.nullary_bufs_sub ..
        | with_reducible exact StableHlo.unary_bufs_sub ..
        | with_reducible exact StableHlo.binary_bufs_sub ..
        | with_reducible exact StableHlo.reshape_bufs_sub ..

theorem ops_fresh : ops.Forall fun op => op.fresh = ∅ := by
  refine List.forall_append.mpr ⟨?_, ?_⟩
  · unfold first
    simp only [List.forall_cons]
    and_intros <;> first | exact trivial | rfl
  · unfold second
    simp only [List.forall_cons]
    and_intros <;> first | exact trivial | rfl

theorem spread_read (V : RVal) (b : Fin 2) (k : Fin 16) (h u : Fin 227) :
    after opening V (Proc.devRef .tc main_v1) (ix4 b k h u) = spread (fun i j => V (Proc.devRef .tc main_arg0) (ix4 b i j k)) h u := by
  unfold opening
  after_reads_at
  rfl

/-- The sixteen taps add up to the transposed convolution. -/
theorem taps_read (V : RVal) (x : Fin 2 → Fin 16 → Plane 112)
    (hx : ∀ b k (h u : Fin 227), V (Proc.devRef .tc main_v1) (ix4 b k h u) = spread (x b k) h u) (b : Fin 2) (h u : Fin 224) :
    after taps V (Proc.devRef .tc main_v98) (ix4 b 0 h u)
      = deconv (x b) (fun k i j => V (Proc.devRef .tc main_arg1) (ix4 k 0 i j)) h u := by
  unfold taps
  after_reads_at
  simp only [hx]
  simp [deconv, Fin.sum_univ_four, Fin.rev, ← add_assoc]

/-- The bias and the logistic function end the reference. -/
theorem closing_read (V : RVal) (b : Fin 2) (h u : Fin 224) :
    after closing V (Proc.devRef .tc main_v107) (ix4 b 0 h u)
      = Ideal.logistic (HAdd.hAdd (α := EReal) (V (Proc.devRef .tc main_v98) (ix4 b 0 h u)) (V (Proc.devRef .tc main_arg2) (ix1 0))) := by
  unfold closing
  after_reads_at
  rfl

/-- What the reference leaves in its result buffer. -/
theorem ref_read (V : RVal) (b : Fin 2) (h u : Fin 224) :
    after ops V (Proc.devRef .tc main_v107) (ix4 b 0 h u)
      = Ideal.logistic (deconv (fun k i j => V (Proc.devRef .tc main_arg0) (ix4 b i j k))
          (fun k i j => V (Proc.devRef .tc main_arg1) (ix4 k 0 i j)) h u + V (Proc.devRef .tc main_arg2) (ix1 0)) := by
  have e1 : after opening V (Proc.devRef .tc main_arg1) = V (Proc.devRef .tc main_arg1) := by unfold opening; after_reads_simp
  have e2 : after taps (after opening V) (Proc.devRef .tc main_arg2) = V (Proc.devRef .tc main_arg2) := by
    unfold taps opening; after_reads_simp
  rw [after_ops, closing_read, e2, taps_read (after opening V) (fun b k i j => V (Proc.devRef .tc main_arg0) (ix4 b i j k))
    (fun b k h u => spread_read V b k h u), e1]

/-- The arguments end as they began. -/
theorem ref_arg0 (V : RVal) : after ops V (Proc.devRef .tc main_arg0) = V (Proc.devRef .tc main_arg0) := by
  rw [after_ops]; unfold closing taps opening; after_reads_simp
theorem ref_arg1 (V : RVal) : after ops V (Proc.devRef .tc main_arg1) = V (Proc.devRef .tc main_arg1) := by
  rw [after_ops]; unfold closing taps opening; after_reads_simp
theorem ref_arg2 (V : RVal) : after ops V (Proc.devRef .tc main_arg2) = V (Proc.devRef .tc main_arg2) := by
  rw [after_ops]; unfold closing taps opening; after_reads_simp

end

/-- The run: every buffer ends at the contents after the last operation. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (StableHlo.launchContents m d) (Proc.devRef .tc b) :=
  StableHlo.run_hlo (defs (F := Ideal)) (main (F := Ideal)) main_ops (by decide) (by decide) ops_bufs (List.forall_iff_forall_mem.mp ops_fresh) m ρ

end Cert.Proof.Out
end
-- ==== Proof.MidRef.lean ====
/- The reference of the decoder's second layer: its lines of host operations, their run, and the array they end with. -/
module

public import proofs.«01_k».proof.Proof.Gen.Reference3Ideal
public import proofs.«01_k».proof.Proof.OutSpec
public import proofs.«01_k».proof.Proof.RefVal
public import Idealize.ShloMosaic.Lib.Claim
public import Idealize.ShloMosaic.Lib.Quiescent
public import Idealize.ShloMosaic.Lib.StableHlo.ReadAt
public import Idealize.ShloMosaic.Lib.Pointwise

@[expose] public section

set_option maxRecDepth 16384

noncomputable section

namespace Cert.Proof.Mid

open Idealize.ShloMosaic Idealize.SL.Sem Cert.Reference3Ideal Cert.Proof.Spec
open Idealize.ShloMosaic.StableHlo (IsSeq seq after after_cons after_nil)
open Cert.Proof.Out (Plane deconv)
open Cert.Proof.Ref (Is4 Is1)

/-- A line of operations of the reference. -/
abbrev Ops : Type := List (HloOp τ sig (Elt Ideal))

section
set_option maxHeartbeats 4000000

def first : {ops : Ops // ∀ d, IsSeq (main_part0 (F := Ideal) d) ops} := by apply Subtype.mk; hlo_seq
def second : {ops : Ops // ∀ d, IsSeq (main_part1 (F := Ideal) d) ops} := by apply Subtype.mk; hlo_seq
def third : {ops : Ops // ∀ d, IsSeq (main_part2 (F := Ideal) d) ops} := by apply Subtype.mk; hlo_seq

/-- All operations of the reference, in order. -/
def ops : Ops := first.1 ++ (second.1 ++ third.1)

theorem main_ops (d : Dev nD) : IsSeq (main (F := Ideal) d) ops := by
  have h0 := first.2 d
  have h1 := second.2 d
  have h2 := third.2 d
  unfold IsSeq at *
  unfold main ops
  rw [h0, h1, h2, StableHlo.seq_append, StableHlo.seq_append]

/-- The operations that lay the rows out as planes and spread them. -/
def opening : Ops := first.1.take 4
/-- The operations of the sixteen taps. -/
def taps : Ops := first.1.drop 4 ++ second.1.take 42
/-- The operations that add the bias. -/
def biasing : Ops := (second.1.drop 42).take 3
/-- The operations of the normalization, and the final transposition. -/
def norming : Ops := (second.1.drop 42).drop 3 ++ third.1

/-- The contents of the reference's buffers. -/
abbrev RVal : Type := Valuation τ sig (Elt Ideal)

theorem after_ops (V : RVal) : after ops V = after norming (after biasing (after taps (after opening V))) := by
  have e : ops = opening ++ (taps ++ (biasing ++ norming)) := by
    unfold ops opening taps biasing norming
    rw [← List.append_assoc ((second.1.drop 42).take 3), List.take_append_drop, List.append_assoc, ← List.append_assoc (second.1.take 42),
      List.take_append_drop, ← List.append_assoc (first.1.take 4), List.take_append_drop]
  rw [e, StableHlo.after_append, StableHlo.after_append, StableHlo.after_append]

theorem ops_bufs : ops.Forall fun op => op.bufs ⊆ StableHlo.tcRefs τ sig := by
  refine List.forall_append.mpr ⟨?_, List.forall_append.mpr ⟨?_, ?_⟩⟩ <;> [unfold first; unfold second; unfold third] <;>
    simp only [List.forall_cons] <;> and_intros <;>
    first
      | exact trivial
      | with_reducible exact StableHlo.nullary_bufs_sub ..
      | with_reducible exact StableHlo.unary_bufs_sub ..
      | with_reducible exact StableHlo.binary_bufs_sub ..
      | with_reducible exact StableHlo.reshape_bufs_sub ..

theorem ops_fresh : ops.Forall fun op => op.fresh = ∅ := by
  refine List.forall_append.mpr ⟨?_, List.forall_append.mpr ⟨?_, ?_⟩⟩ <;> [unfold first; unfold second; unfold third] <;>
    simp only [List.forall_cons] <;> and_intros <;> first | exact trivial | rfl

/-- The plane of a channel of an image, from the rows of positions. -/
def plane (X : (⟨2, ![6272, 32]⟩ : Shape).Idx → EReal) (b : Fin 2) (k : Fin 32) : Plane 56 :=
  fun i j => X (ix2 ⟨b * 3136 + i * 56 + j, by omega⟩ k)

theorem spread_read (V : RVal) (b : Fin 2) (k : Fin 32) (h u : Fin 115) :
    after opening V (Proc.devRef .tc main_v2) (ix4 b k h u) = Out.spread (plane (V (Proc.devRef .tc main_arg0)) b k) h u := by
  unfold opening
  after_reads_at
  rfl

/-- The sixteen taps add up to the transposed convolution. -/
theorem taps_read (V : RVal) (x : Fin 2 → Fin 32 → Plane 56)
    (hx : ∀ b k (h u : Fin 115), V (Proc.devRef .tc main_v2) (ix4 b k h u) = Out.spread (x b k) h u) (b : Fin 2) (o : Fin 16) (h u : Fin 112) :
    after taps V (Proc.devRef .tc main_v99) (ix4 b o h u)
      = deconv (x b) (fun k i j => V (Proc.devRef .tc main_arg1) (ix4 k o i j)) h u := by
  unfold taps
  after_reads_at
  simp only [hx]
  simp [deconv, Fin.sum_univ_four, Fin.rev, ← add_assoc]

theorem bias_read (V : RVal) (b : Fin 2) (o : Fin 16) (h u : Fin 112) :
    after biasing V (Proc.devRef .tc main_v102) (ix4 b o h u)
      = HAdd.hAdd (α := EReal) (V (Proc.devRef .tc main_v99) (ix4 b o h u)) (V (Proc.devRef .tc main_arg2) (ix1 o)) := by
  unfold biasing
  after_reads_at

/-- The normalization of real planes, rectified, with the channels last. -/
theorem norm_stage (V : RVal) (y : Img 16 112) (g be : Fin 16 → ℝ) (hy : Is4 (V (Proc.devRef .tc main_v102)) y)
    (hg : Is1 (V (Proc.devRef .tc main_arg3)) g) (hb : Is1 (V (Proc.devRef .tc main_arg4)) be) (b : Fin 2) (h u : Fin 112) (o : Fin 16) :
    after norming V (Proc.devRef .tc main_v129) (ix4 b h u o) = ((relu (norm y g be) b o h u : ℝ) : EReal) := by
  unfold norming
  after_reads_at
  simp only [hostReduceAdd_channel]
  pointwise
  simp only [hostReduceAdd_channel, hy _ _ _ _, hg _, hb _, ofBits_eps, zero_add]
  rw [norm_read y g be _ Ref.ofBits_25088, coe_max_zero]
  rfl

/-- What the reference leaves of a transposed convolution that is real. -/
theorem ref_read (V : RVal) (y : Img 16 112) (s g be : Fin 16 → ℝ)
    (hy : ∀ (b : Fin 2) (o : Fin 16) (h u : Fin 112), deconv (plane (V (Proc.devRef .tc main_arg0)) b)
      (fun k i j => V (Proc.devRef .tc main_arg1) (ix4 k o i j)) h u = ((y b o h u : ℝ) : EReal))
    (hs : Is1 (V (Proc.devRef .tc main_arg2)) s) (hg : Is1 (V (Proc.devRef .tc main_arg3)) g) (hb : Is1 (V (Proc.devRef .tc main_arg4)) be)
    (b : Fin 2) (h u : Fin 112) (o : Fin 16) :
    after ops V (Proc.devRef .tc main_v129) (ix4 b h u o) = ((relu (norm y g be) b o h u : ℝ) : EReal) := by
  have e1 : after opening V (Proc.devRef .tc main_arg1) = V (Proc.devRef .tc main_arg1) := by unfold opening; after_reads_simp
  have e2 : after taps (after opening V) (Proc.devRef .tc main_arg2) = V (Proc.devRef .tc main_arg2) := by
    unfold taps opening; after_reads_simp
  have e3 : after biasing (after taps (after opening V)) (Proc.devRef .tc main_arg3) = V (Proc.devRef .tc main_arg3) := by
    unfold biasing taps opening; after_reads_simp
  have e4 : after biasing (after taps (after opening V)) (Proc.devRef .tc main_arg4) = V (Proc.devRef .tc main_arg4) := by
    unfold biasing taps opening; after_reads_simp
  rw [after_ops, ← norm_bias y s g be]
  refine norm_stage _ (bias y s) g be ?_ (by rw [e3]; exact hg) (by rw [e4]; exact hb) b h u o
  intro b o h u
  rw [bias_read, e2, taps_read (after opening V) (plane (V (Proc.devRef .tc main_arg0))) (fun b k h u => spread_read V b k h u), e1, hy, hs,
    ← EReal.coe_add]
  rfl

/-- The arguments end as they began. -/
theorem ref_arg0 (V : RVal) : after ops V (Proc.devRef .tc main_arg0) = V (Proc.devRef .tc main_arg0) := by
  rw [after_ops]; unfold norming biasing taps opening; after_reads_simp
theorem ref_arg1 (V : RVal) : after ops V (Proc.devRef .tc main_arg1) = V (Proc.devRef .tc main_arg1) := by
  rw [after_ops]; unfold norming biasing taps opening; after_reads_simp
theorem ref_arg2 (V : RVal) : after ops V (Proc.devRef .tc main_arg2) = V (Proc.devRef .tc main_arg2) := by
  rw [after_ops]; unfold norming biasing taps opening; after_reads_simp
theorem ref_arg3 (V : RVal) : after ops V (Proc.devRef .tc main_arg3) = V (Proc.devRef .tc main_arg3) := by
  rw [after_ops]; unfold norming biasing taps opening; after_reads_simp
theorem ref_arg4 (V : RVal) : after ops V (Proc.devRef .tc main_arg4) = V (Proc.devRef .tc main_arg4) := by
  rw [after_ops]; unfold norming biasing taps opening; after_reads_simp

end

/-- The run: every buffer ends at the contents after the last operation. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (StableHlo.launchContents m d) (Proc.devRef .tc b) :=
  StableHlo.run_hlo (defs (F := Ideal)) (main (F := Ideal)) main_ops (by decide) (by decide) ops_bufs (List.forall_iff_forall_mem.mp ops_fresh) m ρ

end Cert.Proof.Mid
end
-- ==== Proof.MidKer.lean ====
/- The host operations of the decoder's second layer: the arrays they give the call, and the layout of its result. -/
module

public import proofs.«01_k».proof.Proof.Gen.Kernel3Ideal.Frame
public import proofs.«01_k».proof.Proof.OutKer
public import proofs.«01_k».proof.Proof.MidRef
public import Idealize.ShloMosaic.Lib.Pointwise
public import Idealize.ShloMosaic.Lib.Pipeline.Value
public import Idealize.ShloMosaic.Lib.StableHlo.ReadAt
public import Idealize.ShloMosaic.Lib.MatmulPlain

@[expose] public section

set_option maxRecDepth 16384

noncomputable section

namespace Cert.Proof.Mid

open Idealize.ShloMosaic Idealize.SL.Sem Cert.Kernel3Ideal Cert.Kernel3Ideal.Gen
open Idealize.ShloMosaic.StableHlo (after)
open Cert.Proof.Out (Plane border phase)

/-- The contents of the kernel's buffers. -/
abbrev KVal : Type := Valuation τ sig (Elt Ideal)

section
set_option maxHeartbeats 4000000

/-- The rows laid out as images. -/
theorem rows_read (V : KVal) (b : Fin 2) (i j : Fin 56) (k : Fin 32) :
    after hostOps0 V (Proc.devRef .tc main_v0) (ix4 b i j k) = V (Proc.devRef .tc main_arg0) (ix2 ⟨b * 3136 + i * 56 + j, by omega⟩ k) := by
  after_reads_at

/-- The bordered images. -/
theorem border_read (V : KVal) (hc : V (Proc.devRef .tc main_c) = fun _ => 0#32) (b : Fin 2) (h u : Fin 58) (k : Fin 32) :
    after hostOps0_1 V (Proc.devRef .tc main_v1) (ix4 b h u k) = border (fun i j => V (Proc.devRef .tc main_v0) (ix4 b i j k)) h u := by
  after_reads_at
  unfold border
  simp only [hc]
  split_ifs
  · rfl
  · simp [FloatOps.sitofp]

/-- Sixteen pieces of thirty-two lanes side by side. -/
def pieces (P : Fin 16 → S6272x32.Idx → EReal) : S6272x512.Idx → EReal :=
  concatenate S6272x512 1 [⟨S6272x32, P 0⟩, ⟨S6272x32, P 1⟩, ⟨S6272x32, P 2⟩, ⟨S6272x32, P 3⟩, ⟨S6272x32, P 4⟩, ⟨S6272x32, P 5⟩, ⟨S6272x32, P 6⟩, ⟨S6272x32, P 7⟩, ⟨S6272x32, P 8⟩, ⟨S6272x32, P 9⟩, ⟨S6272x32, P 10⟩, ⟨S6272x32, P 11⟩, ⟨S6272x32, P 12⟩, ⟨S6272x32, P 13⟩, ⟨S6272x32, P 14⟩, ⟨S6272x32, P 15⟩] concatenates_S6272x32_S6272x32_S6272x32_S6272x32_S6272x32_S6272x32_S6272x32_S6272x32_S6272x32_S6272x32_S6272x32_S6272x32_S6272x32_S6272x32_S6272x32_S6272x32_S6272x512_d1

theorem pieces_read (P : Fin 16 → S6272x32.Idx → EReal) (r : Fin 6272) (t : Fin 16) (k : Fin 32) (l : Fin 512)
    (hl : l.val = 32 * t.val + k.val) : pieces P (ix2 r l) = P t (ix2 r k) :=
  concatenate_ofFn_apply 1 P concatenates_S6272x32_S6272x32_S6272x32_S6272x32_S6272x32_S6272x32_S6272x32_S6272x32_S6272x32_S6272x32_S6272x32_S6272x32_S6272x32_S6272x32_S6272x32_S6272x32_S6272x512_d1 rfl 32 rfl (ix2 r l) t
    (show l.val / 32 = t.val by omega) (ix2 r k) (show k.val = l.val % 32 by omega)
    (by intro a ha; match a with | 0 => rfl | 1 => exact absurd rfl ha)

/-- The sixteen pieces. -/
def pieceOf (V : KVal) : Fin 16 → S6272x32.Idx → EReal :=
  ![V (Proc.devRef .tc main_v3), V (Proc.devRef .tc main_v5), V (Proc.devRef .tc main_v7), V (Proc.devRef .tc main_v9), V (Proc.devRef .tc main_v11), V (Proc.devRef .tc main_v13), V (Proc.devRef .tc main_v15), V (Proc.devRef .tc main_v17), V (Proc.devRef .tc main_v19), V (Proc.devRef .tc main_v21), V (Proc.devRef .tc main_v23), V (Proc.devRef .tc main_v25), V (Proc.devRef .tc main_v27), V (Proc.devRef .tc main_v29), V (Proc.devRef .tc main_v31), V (Proc.devRef .tc main_v33)]

theorem v34_eq (V : KVal) : after ((hostOps0_2.drop 32).take 1) V (Proc.devRef .tc main_v34) = pieces (pieceOf V) := by
  after_reads_simp
  rfl

/-- A piece is the bordered images at its tap. -/
theorem pieceOf_read (V : KVal) (r : Fin 6272) (k : Fin 32) (t : Fin 16) :
    pieceOf (after (hostOps0_2.take 32) V) t (ix2 r k)
      = V (Proc.devRef .tc main_v1) (ix4 ⟨r / 3136, by omega⟩ ⟨1 + t.val / 8 + r / 56 % 56 - t.val / 2 % 2, by omega⟩
        ⟨1 + t.val / 4 % 2 + r % 56 - t.val % 2, by omega⟩ k) := by
  unfold pieceOf
  fin_cases t <;>
    simp only [Fin.mk_zero, Fin.mk_one, Fin.reduceFinMk, Matrix.cons_val] <;>
    after_reads_at <;>
    exact congrArg (V (Proc.devRef .tc main_v1)) (by
      congr 1 <;> apply Fin.ext <;> simp <;> omega)

/-- Four blocks of weights one above the other. -/
def stack (P : Fin 4 → S32x16.Idx → EReal) : S128x16.Idx → EReal :=
  concatenate S128x16 0 [⟨S32x16, P 0⟩, ⟨S32x16, P 1⟩, ⟨S32x16, P 2⟩, ⟨S32x16, P 3⟩] concatenates_S32x16_S32x16_S32x16_S32x16_S128x16_d0

theorem stack_read (P : Fin 4 → S32x16.Idx → EReal) (l : Fin 128) (o : Fin 16) :
    stack P (ix2 l o) = P ⟨l / 32, by omega⟩ (ix2 ⟨l % 32, by omega⟩ o) :=
  concatenate_ofFn_apply 0 P concatenates_S32x16_S32x16_S32x16_S32x16_S128x16_d0 rfl 32 rfl (ix2 l o) ⟨l / 32, by omega⟩ rfl (ix2 ⟨l % 32, by omega⟩ o) rfl
    (by intro a ha; match a with | 0 => exact absurd rfl ha | 1 => rfl)

/-- Four bands of rows one above the other. -/
def bands (P : Fin 4 → S128x64.Idx → EReal) : S512x64.Idx → EReal :=
  concatenate S512x64 0 [⟨S128x64, P 0⟩, ⟨S128x64, P 1⟩, ⟨S128x64, P 2⟩, ⟨S128x64, P 3⟩] concatenates_S128x64_S128x64_S128x64_S128x64_S512x64_d0

theorem bands_read (P : Fin 4 → S128x64.Idx → EReal) (l : Fin 512) (s : Fin 64) :
    bands P (ix2 l s) = P ⟨l / 128, by omega⟩ (ix2 ⟨l % 128, by omega⟩ s) :=
  concatenate_ofFn_apply 0 P concatenates_S128x64_S128x64_S128x64_S128x64_S512x64_d0 rfl 128 rfl (ix2 l s) ⟨l / 128, by omega⟩ rfl (ix2 ⟨l % 128, by omega⟩ s) rfl
    (by intro a ha; match a with | 0 => exact absurd rfl ha | 1 => rfl)

/-- The weights of a group's four taps. -/
def tapOf (V : KVal) : Fin 4 → Fin 4 → S32x16.Idx → EReal :=
  ![![V (Proc.devRef .tc main_v36), V (Proc.devRef .tc main_v38), V (Proc.devRef .tc main_v40), V (Proc.devRef .tc main_v42)],
    ![V (Proc.devRef .tc main_v45), V (Proc.devRef .tc main_v47), V (Proc.devRef .tc main_v49), V (Proc.devRef .tc main_v51)],
    ![V (Proc.devRef .tc main_v54), V (Proc.devRef .tc main_v56), V (Proc.devRef .tc main_v58), V (Proc.devRef .tc main_v60)],
    ![V (Proc.devRef .tc main_v63), V (Proc.devRef .tc main_v65), V (Proc.devRef .tc main_v67), V (Proc.devRef .tc main_v69)]]

/-- A group's block of weights. -/
def colOf (V : KVal) : Fin 4 → S128x16.Idx → EReal :=
  ![V (Proc.devRef .tc main_v43), V (Proc.devRef .tc main_v52), V (Proc.devRef .tc main_v61), V (Proc.devRef .tc main_v70)]

/-- A group's block of weights among the lanes of all four groups. -/
def bandOf (V : KVal) : Fin 4 → S128x64.Idx → EReal :=
  ![V (Proc.devRef .tc main_call1_v4), V (Proc.devRef .tc main_call1_v5), V (Proc.devRef .tc main_call1_v6), V (Proc.devRef .tc main_call1_v7)]

theorem colOf_eq (V : KVal) (g : Fin 4) : colOf (after (hostOps0_2.drop 33) V) g = stack (tapOf (after (hostOps0_2.drop 33) V) g) := by
  unfold colOf tapOf
  fin_cases g <;>
    simp only [Fin.mk_zero, Fin.mk_one, Fin.reduceFinMk, Matrix.cons_val] <;>
    after_reads_simp <;> rfl

theorem tapOf_read (V : KVal) (g t : Fin 4) (k : Fin 32) (o : Fin 16) :
    tapOf (after (hostOps0_2.drop 33) V) g t (ix2 k o)
      = V (Proc.devRef .tc main_arg1) (ix4 k o ⟨1 + 2 * (t.val / 2) - g.val / 2, by omega⟩ ⟨1 + 2 * (t.val % 2) - g.val % 2, by omega⟩) := by
  unfold tapOf
  fin_cases g <;> fin_cases t <;>
    simp only [Fin.mk_zero, Fin.mk_one, Fin.reduceFinMk, Matrix.cons_val] <;>
    after_reads_at <;> rfl

theorem v71_eq (V : KVal) : after (hostOps0_3.drop 8) V (Proc.devRef .tc main_v71) = bands (bandOf V) := by
  after_reads_simp
  rfl

/-- The lane of channel `o` of group `s`. -/
def lane (s : Fin 4) (o : Fin 16) : Fin 64 := ⟨16 * s + o, by omega⟩

theorem bandOf_read (V : KVal) (g s : Fin 4) (l : Fin 128) (o : Fin 16) :
    bandOf (after (hostOps0_3.take 8) V) g (ix2 l (lane s o)) = if s = g then colOf V g (ix2 l o) else 0 := by
  unfold bandOf colOf lane
  fin_cases g <;>
    simp only [Fin.mk_zero, Fin.mk_one, Fin.reduceFinMk, Matrix.cons_val] <;>
    after_reads_at <;>
    simp only [Fin.ext_iff, Fin.val_zero, Fin.val_one, Fin.val_two, show (3 : Fin 4).val = 3 from rfl] <;>
    split_ifs with h k <;>
    first
      | rfl
      | (exfalso; omega)
      | exact congrArg (V _) (congrArg (ix2 l) (Fin.ext (by simp only; omega)))

theorem tail_read (V : KVal) (b : Fin 2) (h u : Fin 112) (o : Fin 16) :
    after hostOps1 V (Proc.devRef .tc main_v77) (ix4 b h u o)
      = V (Proc.devRef .tc main_v74) (ix2 ⟨b * 3136 + h / 2 * 56 + u / 2, by omega⟩ (lane ⟨h % 2 * 2 + u % 2, by omega⟩ o)) := by
  unfold lane
  after_reads_at
  exact congrArg (fun k => V (Proc.devRef .tc main_v74) (ix2 _ k)) (Fin.ext (by simp only; omega))

theorem after_cut (l : List (HloOp τ sig (Elt Ideal))) (k : ℕ) (V : KVal) : after l V = after (l.drop k) (after (l.take k) V) := by
  rw [← StableHlo.after_append, List.take_append_drop]

/-- The contents before the call. -/
def before (V : KVal) : KVal := after hostOps0_4 (after hostOps0_3 (after hostOps0_2 (after hostOps0_1 (after hostOps0 V))))

/-- The plane of a channel of an image, from the rows of positions. -/
abbrev planeOf (V : KVal) (b : Fin 2) (k : Fin 32) : Plane 56 := plane (V (Proc.devRef .tc main_arg0)) b k

/-- The call's windows: sixteen taps of the bordered images, four for each phase. -/
theorem windows_read (V : KVal) (r : Fin 6272) (l : Fin 512) :
    before V (Proc.devRef .tc main_v34) (ix2 r l)
      = border (planeOf V ⟨r / 3136, by omega⟩ ⟨l % 32, by omega⟩)
          (1 + l.val / 256 + r / 56 % 56 - l.val / 64 % 2) (1 + l.val / 128 % 2 + r % 56 - l.val / 32 % 2) := by
  have e4 : ∀ W : KVal, after hostOps0_4 W (Proc.devRef .tc main_v34) = W (Proc.devRef .tc main_v34) := fun W => by after_reads_simp
  have e3 : ∀ W : KVal, after hostOps0_3 W (Proc.devRef .tc main_v34) = W (Proc.devRef .tc main_v34) := fun W => by after_reads_simp
  have e2 : ∀ W : KVal, after ((hostOps0_2.drop 32).drop 1) W (Proc.devRef .tc main_v34) = W (Proc.devRef .tc main_v34) := fun W => by
    after_reads_simp
  have ec : after hostOps0 V (Proc.devRef .tc main_c) = fun _ => 0#32 := by after_reads_simp; rfl
  unfold before
  rw [e4, e3, after_cut hostOps0_2 32, after_cut (hostOps0_2.drop 32) 1, e2, v34_eq,
    pieces_read _ r ⟨l / 32, by omega⟩ ⟨l % 32, by omega⟩ l (by simp only; omega), pieceOf_read, border_read _ ec]
  have e : (fun i j => after hostOps0 V (Proc.devRef .tc main_v0) (ix4 ⟨r / 3136, by omega⟩ i j ⟨l % 32, by omega⟩))
      = planeOf V ⟨r / 3136, by omega⟩ ⟨l % 32, by omega⟩ := funext fun i => funext fun j => rows_read V _ i j _
  refine (congrArg (fun x => border x _ _) e).trans ?_
  refine congrArg₂ (border _) ?_ ?_ <;> simp only <;> omega

/-- The call's weights: each phase's four taps in the phase's lanes. -/
theorem weights_read (V : KVal) (l : Fin 512) (s : Fin 4) (o : Fin 16) :
    before V (Proc.devRef .tc main_v71) (ix2 l (lane s o))
      = if s.val = l.val / 128 then
          V (Proc.devRef .tc main_arg1) (ix4 ⟨l % 32, by omega⟩ o ⟨1 + 2 * (l / 64 % 2) - l / 256, by omega⟩ ⟨1 + 2 * (l / 32 % 2) - l / 128 % 2, by omega⟩)
        else (0 : EReal) := by
  have e4 : ∀ W : KVal, after hostOps0_4 W (Proc.devRef .tc main_v71) = W (Proc.devRef .tc main_v71) := fun W => by after_reads_simp
  have e2 : ∀ W : KVal, after (hostOps0_2.take 33) W (Proc.devRef .tc main_arg1) = W (Proc.devRef .tc main_arg1) := fun W => by after_reads_simp
  have e1 : ∀ W : KVal, after hostOps0_1 W (Proc.devRef .tc main_arg1) = W (Proc.devRef .tc main_arg1) := fun W => by after_reads_simp
  have e0 : ∀ W : KVal, after hostOps0 W (Proc.devRef .tc main_arg1) = W (Proc.devRef .tc main_arg1) := fun W => by after_reads_simp
  unfold before
  rw [e4, after_cut hostOps0_3 8, v71_eq, bands_read, bandOf_read, after_cut hostOps0_2 33, colOf_eq, stack_read, tapOf_read, e2, e1, e0]
  have hs : (s = ⟨l.val / 128, by omega⟩) ↔ s.val = l.val / 128 := Fin.ext_iff
  simp only [hs]
  refine if_congr Iff.rfl ?_ rfl
  refine congrArg (V (Proc.devRef .tc main_arg1)) ?_
  congr 1 <;> apply Fin.ext <;> simp only <;> omega

/-- The scale and the shift of each channel. -/
theorem scales_read (V : KVal) (o : Fin 16) :
    before V (Proc.devRef .tc main_v72) (ix2 0 o) = V (Proc.devRef .tc main_arg3) (ix1 o)
      ∧ before V (Proc.devRef .tc main_v73) (ix2 0 o) = V (Proc.devRef .tc main_arg4) (ix1 o) := by
  have e3 : ∀ W : KVal, after hostOps0_3 W (Proc.devRef .tc main_arg3) = W (Proc.devRef .tc main_arg3)
      ∧ after hostOps0_3 W (Proc.devRef .tc main_arg4) = W (Proc.devRef .tc main_arg4) := fun W => by constructor <;> after_reads_simp
  have e2 : ∀ W : KVal, after hostOps0_2 W (Proc.devRef .tc main_arg3) = W (Proc.devRef .tc main_arg3)
      ∧ after hostOps0_2 W (Proc.devRef .tc main_arg4) = W (Proc.devRef .tc main_arg4) := fun W => by constructor <;> after_reads_simp
  have e1 : ∀ W : KVal, after hostOps0_1 W (Proc.devRef .tc main_arg3) = W (Proc.devRef .tc main_arg3)
      ∧ after hostOps0_1 W (Proc.devRef .tc main_arg4) = W (Proc.devRef .tc main_arg4) := fun W => by constructor <;> after_reads_simp
  have e0 : ∀ W : KVal, after hostOps0 W (Proc.devRef .tc main_arg3) = W (Proc.devRef .tc main_arg3)
      ∧ after hostOps0 W (Proc.devRef .tc main_arg4) = W (Proc.devRef .tc main_arg4) := fun W => by constructor <;> after_reads_simp
  have e4 : ∀ W : KVal, after hostOps0_4 W (Proc.devRef .tc main_v72) (ix2 0 o) = W (Proc.devRef .tc main_arg3) (ix1 o)
      ∧ after hostOps0_4 W (Proc.devRef .tc main_v73) (ix2 0 o) = W (Proc.devRef .tc main_arg4) (ix1 o) := fun W => by
    constructor <;> after_reads_at
  unfold before
  exact ⟨by rw [(e4 _).1, (e3 _).1, (e2 _).1, (e1 _).1, (e0 _).1], by rw [(e4 _).2, (e3 _).2, (e2 _).2, (e1 _).2, (e0 _).2]⟩

/-- A sum over `p` blocks of `q` places. -/
theorem sum_blocks {p q : ℕ} (f : Fin (p * q) → EReal) :
    ∑ l, f l = ∑ i : Fin p, ∑ j : Fin q, f (finProdFinEquiv (i, j)) := by
  rw [← Equiv.sum_comp finProdFinEquiv f, Fintype.sum_prod_type]

/-- A sum over the lanes of a window, by phases, taps and channels. -/
theorem sum_lanes (f : Fin 512 → EReal) :
    ∑ l, f l = ∑ g : Fin 4, ∑ t : Fin 4, ∑ k : Fin 32, f ⟨128 * g + 32 * t + k, by omega⟩ := by
  refine (sum_blocks (p := 4) (q := 128) f).trans (Fintype.sum_congr _ _ fun g => ?_)
  refine (sum_blocks (p := 4) (q := 32) fun i => f (finProdFinEquiv (m := 4) (n := 128) (g, i))).trans
    (Fintype.sum_congr _ _ fun t => Fintype.sum_congr _ _ fun k => congrArg f (Fin.ext ?_))
  show k.val + 32 * t.val + 128 * g.val = 128 * g.val + 32 * t.val + k.val
  omega

/-- A row of windows against a phase's lanes of weights is the phase's sum. -/
theorem dot_phase (V : KVal) (r : Fin 6272) (s : Fin 4) (o : Fin 16) :
    (∑ l : Fin 512, HMul.hMul (α := EReal) (β := EReal) (before V (Proc.devRef .tc main_v34) (ix2 r l)) (before V (Proc.devRef .tc main_v71) (ix2 l (lane s o))))
      = phase (planeOf V ⟨r / 3136, by omega⟩)
          (fun k i j => V (Proc.devRef .tc main_arg1) (ix4 k o i j)) ⟨s / 2, by omega⟩ ⟨s % 2, by omega⟩ (r / 56 % 56) (r % 56) := by
  rw [sum_lanes, Finset.sum_eq_single s]
  · rw [Out.sum_taps]
    refine Fintype.sum_congr _ _ fun d => Fintype.sum_congr _ _ fun e => Fintype.sum_congr _ _ fun k => ?_
    rw [windows_read, weights_read, if_pos (by simp only; omega)]
    have h1 : (128 * s.val + 32 * (2 * d.val + e.val) + k.val) % 32 = k.val := by omega
    have h2 : (128 * s.val + 32 * (2 * d.val + e.val) + k.val) / 256 = s.val / 2 := by omega
    have h3 : (128 * s.val + 32 * (2 * d.val + e.val) + k.val) / 64 % 2 = d.val := by omega
    have h4 : (128 * s.val + 32 * (2 * d.val + e.val) + k.val) / 128 % 2 = s.val % 2 := by omega
    have h5 : (128 * s.val + 32 * (2 * d.val + e.val) + k.val) / 32 % 2 = e.val := by omega
    simp only [h1, h2, h3, h4, h5]
  · intro g _ hg
    refine Finset.sum_eq_zero fun t _ => Finset.sum_eq_zero fun k _ => ?_
    rw [weights_read, if_neg (fun h => hg (Fin.ext (by simp only at h; omega))), mul_zero]
  · intro h
    exact absurd (Finset.mem_univ s) h

end

end Cert.Proof.Mid
end
-- ==== Proof.MidCall.lean ====
/- The call of the decoder's second layer over the real numbers: a product of matrices whose lanes are four phases of
   sixteen channels, normalized channel by channel over rows and phases, and rectified. -/
module

public import proofs.«01_k».proof.Proof.MidKer
public import proofs.«01_k».proof.Proof.KerConv

@[expose] public section

set_option maxRecDepth 16384

noncomputable section

namespace Cert.Proof.Mid

open Idealize.ShloMosaic Idealize.SL.Sem Cert.Kernel3Ideal Cert.Kernel3Ideal.Gen Cert.Proof.Spec
open Cert.Proof.Ker (Is2 ofBits_rows bn_read)

theorem ofBits_quarter : Ideal.ofBits .f32 1048576000#32 = ((4⁻¹ : ℝ) : EReal) := by
  simp [Ideal.ofBits, Ideal.ieee]
  rw [← EReal.coe_mul]
  norm_num

/-- The product, entry by entry. -/
theorem prod_read (x0 : Vec Ideal S6272x512 .f32) (x1 : Vec Ideal S512x64 .f32) (r : Fin 6272) (l : Fin 64) :
    k0_pay2 x0 x1 (ix2 r l) = ∑ i : Fin 512, HMul.hMul (α := EReal) (β := EReal) (x0 (ix2 r i)) (x1 (ix2 i l)) := by
  unfold k0_pay2
  pointwise

/-- The mean of each channel over rows and phases, from the means of the lanes. -/
def laneMean (Y : FVec Ideal S6272x64 .f32) : FVec Ideal S1x16 .f32 :=
  have v := divf (shapeCast S1x64 (multiReduction .add [0] S64 Y 0x00000000#32 reduces_S6272x64_S64 (.inl rfl) rfl) shapeCasts_S64_S1x64)
    (broadcast S1x64 (Scalar.ofBits (F := Ideal) .f32 0x45C40000#32))
  mulf (addf (addf (addf (addf (broadcast S1x16 (Scalar.ofBits (F := Ideal) .f32 0x00000000#32))
    (extractStridedSlice S1x16 ![0, 0] v slices_S1x64_o0_0_S1x16)) (extractStridedSlice S1x16 ![0, 16] v slices_S1x64_o0_16_S1x16))
    (extractStridedSlice S1x16 ![0, 32] v slices_S1x64_o0_32_S1x16)) (extractStridedSlice S1x16 ![0, 48] v slices_S1x64_o0_48_S1x16))
    (broadcast S1x16 (Scalar.ofBits (F := Ideal) .f32 0x3E800000#32))

theorem sum_phases (y : Fin 6272 → Fin 64 → ℝ) (k : Fin 16) :
    ((∑ r, y r (lane 0 k)) / Fintype.card (Fin 6272) + (∑ r, y r (lane 1 k)) / Fintype.card (Fin 6272)
      + (∑ r, y r (lane 2 k)) / Fintype.card (Fin 6272) + (∑ r, y r (lane 3 k)) / Fintype.card (Fin 6272)) * 4⁻¹
      = (∑ q : Fin 6272 × Fin 4, y q.1 (lane q.2 k)) / Fintype.card (Fin 6272 × Fin 4) := by
  rw [Fintype.sum_prod_type_right, Fin.sum_univ_four, Fintype.card_prod, Fintype.card_fin, Fintype.card_fin]
  push_cast
  ring

theorem laneMean_read (Y : FVec Ideal S6272x64 .f32) (y : Fin 6272 → Fin 64 → ℝ) (hy : Is2 Y y) :
    Is2 (laneMean Y) (fun _ k => (∑ q : Fin 6272 × Fin 4, y q.1 (lane q.2 k)) / Fintype.card (Fin 6272 × Fin 4)) := by
  intro r k
  unfold laneMean
  pointwise
  simp only [hy _ _, coe_sum, ofBits_rows, ofBits_quarter]
  simp only [div_coe _ _ (Nat.cast_ne_zero.mpr (Fintype.card_ne_zero (α := Fin 6272))), ← EReal.coe_mul, ← EReal.coe_add, zero_add]
  refine congrArg _ (Eq.trans ?_ (sum_phases y k))
  rw [show (⟨k.val, by omega⟩ : Fin 64) = lane 0 k from Fin.ext (by show k.val = 16 * 0 + k.val; omega)]
  rfl

/-- Four copies of a row of sixteen, read at a lane. -/
theorem tiled (A : Fin 16 → EReal) (s : Fin 4) (k : Fin 16) :
    (if h : (lane s k).val < 16 then A ⟨(lane s k).val, h⟩
      else if h : (lane s k).val - 16 < 16 then A ⟨(lane s k).val - 16, h⟩
      else if h : (lane s k).val - 16 - 16 < 16 then A ⟨(lane s k).val - 16 - 16, h⟩
      else A ⟨(lane s k).val - 16 - 16 - 16, by have := (lane s k).isLt; omega⟩) = A k := by
  have hl : (lane s k).val = 16 * s.val + k.val := rfl
  split_ifs <;> exact congrArg A (Fin.ext (by simp only []; omega))

/-- Rows of four phases scaled and shifted channel by channel, and rectified. -/
def scaled (v4 : FVec Ideal S6272x64 .f32) (A B : FVec Ideal S1x16 .f32) : FVec Ideal S6272x64 .f32 :=
  maximumf (addf (mulf v4 (broadcastTo S6272x64 (concatenate S1x64 1 [⟨S1x16, A⟩, ⟨S1x16, A⟩, ⟨S1x16, A⟩, ⟨S1x16, A⟩]
      concatenates_S1x16_S1x16_S1x16_S1x16_S1x64_d1) broadcasts_S1x64_S6272x64))
    (broadcastTo S6272x64 (concatenate S1x64 1 [⟨S1x16, B⟩, ⟨S1x16, B⟩, ⟨S1x16, B⟩, ⟨S1x16, B⟩]
      concatenates_S1x16_S1x16_S1x16_S1x16_S1x64_d1) broadcasts_S1x64_S6272x64))
    (broadcast S6272x64 (Scalar.ofBits (F := Ideal) .f32 0x00000000#32))

theorem scaled_read (v4 : FVec Ideal S6272x64 .f32) (A B : FVec Ideal S1x16 .f32) (r : Fin 6272) (s : Fin 4) (k : Fin 16) :
    scaled v4 A B (ix2 r (lane s k)) = max (v4 (ix2 r (lane s k)) * A (ix2 0 k) + B (ix2 0 k)) 0 := by
  unfold scaled
  pointwise
  rw [tiled (fun k => A (ix2 0 k)), tiled (fun k => B (ix2 0 k))]

/-- The scale of each channel, from its variance. -/
def factor (v6 v41 : FVec Ideal S1x16 .f32) : FVec Ideal S1x16 .f32 :=
  mulf (rsqrt (addf v41 (broadcast S1x16 (Scalar.ofBits (F := Ideal) .f32 0x3727C5AC#32)))) v6

/-- The call's result of a real product and real scales and shifts. -/
theorem call_read (x0 : Vec Ideal S6272x512 .f32) (x1 : Vec Ideal S512x64 .f32) (x2 x3 : Vec Ideal S1x16 .f32)
    (y : Fin 6272 → Fin 64 → ℝ) (g be : Fin 1 → Fin 16 → ℝ) (hy : Is2 (k0_pay2 x0 x1) y) (h2 : Is2 x2 g) (h3 : Is2 x3 be)
    (r : Fin 6272) (s : Fin 4) (k : Fin 16) :
    out0_4 x0 x1 x2 x3 (ix2 r (lane s k))
      = ((max (bn (fun q : Fin 6272 × Fin 4 => y q.1 (lane q.2 k)) (g 0 k) (be 0 k) (r, s)) 0 : ℝ) : EReal) := by
  have e : out0_4 x0 x1 x2 x3 = k0_pay1 (k0_pay2 x0 x1) (k0_pay3 x2) (k0_pay4 x3) (k0_pay5 x0 x1) (k0_pay6 x0 x1)
      (Scalar.ofBits (F := Ideal) .f32 0x3727C5AC#32) := by
    unfold out0_4
    rw [View.canon_unit_zero Ker.zero2]
    simp only [View.ld_unit_zero (S := S6272x512) Ker.zero2, View.ld_unit_zero (S := S512x64) Ker.zero2, View.ld_unit_zero (S := S1x16) Ker.zero2]
  have e3 : Is2 (k0_pay3 x2) g := by intro i j; unfold k0_pay3; pointwise; exact h2 i j
  have e4 : Is2 (k0_pay4 x3) be := by intro i j; unfold k0_pay4; pointwise; exact h3 i j
  have e5 : k0_pay5 x0 x1 = laneMean (k0_pay2 x0 x1) := rfl
  have e6 : k0_pay6 x0 x1 = subf (laneMean (mulf (k0_pay2 x0 x1) (k0_pay2 x0 x1))) (mulf (laneMean (k0_pay2 x0 x1)) (laneMean (k0_pay2 x0 x1))) := rfl
  rw [e, e5, e6]
  generalize k0_pay2 x0 x1 = Y at hy
  generalize k0_pay3 x2 = G at e3
  generalize k0_pay4 x3 = B at e4
  have hq : Is2 (mulf Y Y) (fun r l => y r l * y r l) := by
    intro i j
    show Y (ix2 i j) * Y (ix2 i j) = _
    rw [hy, ← EReal.coe_mul]
  have hm := laneMean_read Y y hy
  have hv := laneMean_read _ _ hq
  generalize laneMean Y = M at hm
  generalize laneMean (mulf Y Y) = Q at hv
  have hk : ∀ W, k0_pay1 Y G B M W (Scalar.ofBits (F := Ideal) .f32 0x3727C5AC#32) = scaled Y (factor G W) (subf B (mulf M (factor G W))) := fun _ => rfl
  have hf : factor G (subf Q (mulf M M)) (ix2 0 k)
      = Ideal.rsqrt (Q (ix2 0 k) - M (ix2 0 k) * M (ix2 0 k) + Ideal.ofBits .f32 925353388#32) * G (ix2 0 k) := rfl
  have hb : ∀ W, subf B (mulf M W) (ix2 0 k) = B (ix2 0 k) - M (ix2 0 k) * W (ix2 0 k) := fun _ => rfl
  rw [hk, scaled_read, hb, hf, hy, e3, e4, ofBits_eps, ← coe_max_zero]
  exact congrArg (max · 0) (bn_read (fun q : Fin 6272 × Fin 4 => y q.1 (lane q.2 k)) (g 0 k) (be 0 k) (r, s) _ _ (hm 0 k) (hv 0 k))

end Cert.Proof.Mid
end
-- ==== Proof.MidAll.lean ====
/- The decoder's second layer as a whole: what the call leaves, the kernel's result, and the values it has on real arguments. -/
module

public import proofs.«01_k».proof.Proof.MidCall
public import proofs.«01_k».proof.Proof.OutAll

@[expose] public section

set_option maxRecDepth 16384

noncomputable section

namespace Cert.Proof.Mid

open Idealize.ShloMosaic Idealize.ShloMosaic.TcCoe Idealize.SL.Sem Cert.Kernel3Ideal Cert.Kernel3Ideal.Gen Cert.Proof.Spec
open Idealize.ShloMosaic.StableHlo (after)
open Idealize.ShloMosaic.Pipeline (Dat Cfg Window)
open Cert.Proof.Out (Plane deconv keep2)
open Cert.Proof.Ker (Is2)
open Cert.Proof.Ref (Is1)

/-- A transposed convolution of real planes with real weights is real. -/
theorem deconv_real {q n : ℕ} (x : Fin q → Plane n) (w : Fin q → Fin 4 → Fin 4 → EReal) (hx : ∀ k i j, ((x k i j).toReal : EReal) = x k i j)
    (hw : ∀ k i j, ((w k i j).toReal : EReal) = w k i j) (h u : ℕ) : ((deconv x w h u).toReal : EReal) = deconv x w h u := by
  have hs : ∀ k a b, ((Out.spread (x k) a b).toReal : EReal) = Out.spread (x k) a b := by
    intro k a b
    unfold Out.spread
    split_ifs
    · exact hx _ _ _
    · simp
  have e : deconv x w h u = ((∑ i : Fin 4, ∑ j : Fin 4, ∑ k, (w k i.rev j.rev).toReal * (Out.spread (x k) (i + h) (j + u)).toReal : ℝ) : EReal) := by
    unfold deconv
    simp only [← coe_sum, EReal.coe_mul, hw, hs]
  rw [e, EReal.toReal_coe]

/-- The positions of a `112 × 112` channel as the rows and phases of a matrix. -/
def phases : Fin 6272 × Fin 4 ≃ Pix 112 where
  toFun r := (⟨r.1 / 3136, by omega⟩, ⟨2 * (r.1 / 56 % 56) + r.2 / 2, by omega⟩, ⟨2 * (r.1 % 56) + r.2 % 2, by omega⟩)
  invFun p := (⟨p.1 * 3136 + p.2.1 / 2 * 56 + p.2.2 / 2, by omega⟩, ⟨p.2.1 % 2 * 2 + p.2.2 % 2, by omega⟩)
  left_inv r := by
    obtain ⟨a, s⟩ := r
    refine Prod.ext (Fin.ext ?_) (Fin.ext ?_) <;> simp only [] <;> omega
  right_inv p := by
    obtain ⟨b, h, u⟩ := p
    refine Prod.ext (Fin.ext ?_) (Prod.ext (Fin.ext ?_) (Fin.ext ?_)) <;> simp only [] <;> omega

/-- An image's values laid out by rows and lanes. -/
def rows (y : Img 16 112) (r : Fin 6272) (l : Fin 64) : ℝ :=
  y (phases (r, ⟨l / 16, by omega⟩)).1 ⟨l % 16, by omega⟩ (phases (r, ⟨l / 16, by omega⟩)).2.1 (phases (r, ⟨l / 16, by omega⟩)).2.2

theorem rows_lane (y : Img 16 112) (r : Fin 6272) (s : Fin 4) (o : Fin 16) :
    rows y r (lane s o) = y (phases (r, s)).1 o (phases (r, s)).2.1 (phases (r, s)).2.2 := by
  unfold rows
  have e1 : (⟨(lane s o).val / 16, by have := (lane s o).isLt; omega⟩ : Fin 4) = s := Fin.ext (by show (16 * s.val + o.val) / 16 = s.val; omega)
  have e2 : (⟨(lane s o).val % 16, by omega⟩ : Fin 16) = o := Fin.ext (by show (16 * s.val + o.val) % 16 = o.val; omega)
  rw [e1, e2]

variable (m : (ℓ : Loc nD τ sig) → Buf (Elt Ideal) ℓ) (c : Dev nD)

theorem blk_windows (t : Fin cfg0.N) : iblk m c 0 t = V m c main_v34 :=
  funext fun j => congrArg (V m c main_v34) (keep2 (p := 6272) (q := 512) ((cfg0.win 0).blk t).view.emb (fun _ => rfl) (fun _ => rfl) j)

theorem blk_weights (t : Fin cfg0.N) : iblk m c 1 t = V m c main_v71 :=
  funext fun j => congrArg (V m c main_v71) (keep2 (p := 512) (q := 64) ((cfg0.win 1).blk t).view.emb (fun _ => rfl) (fun _ => rfl) j)

theorem blk_scale (t : Fin cfg0.N) : iblk m c 2 t = V m c main_v72 :=
  funext fun j => congrArg (V m c main_v72) (keep2 (p := 1) (q := 16) ((cfg0.win 2).blk t).view.emb (fun _ => rfl) (fun _ => rfl) j)

theorem blk_shift (t : Fin cfg0.N) : iblk m c 3 t = V m c main_v73 :=
  funext fun j => congrArg (V m c main_v73) (keep2 (p := 1) (q := 16) ((cfg0.win 3).blk t).view.emb (fun _ => rfl) (fun _ => rfl) j)

theorem emb_result (t : Fin cfg0.N) (j : S6272x64.Idx) : ((cfg0.win 4).blk t).view.emb j = j :=
  keep2 (p := 6272) (q := 64) ((cfg0.win 4).blk t).view.emb (fun _ => rfl) (fun _ => rfl) j

/-- The only point covers the result. -/
theorem point_cover (i : S6272x64.Idx) : ∃ t : Fin cfg0.N, i ∈ ((cfg0.win 4).blk t).view.set := by
  have hN : cfg0.N = 1 := N_0
  obtain ⟨t⟩ : Nonempty (Fin cfg0.N) := ⟨⟨0, by omega⟩⟩
  have h := ((cfg0.win 4).blk t).view.emb_mem_set i
  rw [emb_result] at h
  exact ⟨t, h⟩

/-- The call leaves its function of the arrays it is given. -/
theorem call_result : (dats m 0 c).arrAt 4 cfg0.N = out0_4 (V m c main_v34) (V m c main_v71) (V m c main_v72) (V m c main_v73) :=
  (dats m 0 c).arrAt_eq_of_cover 4 (out0_4 (V m c main_v34) (V m c main_v71) (V m c main_v72) (V m c main_v73))
    (fun t _ => by
      show (cfg0.win 4).cut (grid0.coords t) ((dats m 0 c).after 4 t) = _
      rw [after0_4, blk_windows, blk_weights, blk_scale, blk_shift]
      generalize out0_4 (V m c main_v34) (V m c main_v71) (V m c main_v72) (V m c main_v73) = X
      funext j
      exact (congrArg X (emb_result t j)).symm)
    fun i => (point_cover i).imp fun t h => ⟨flush0_4 t, h⟩

/-- The launch's contents of the buffers. -/
abbrev start : KVal := fun b => m (c, b)

theorem before_eq : V0 m c = before (start m c) := by
  show after (List.flatten [hostOps0, hostOps0_1, hostOps0_2, hostOps0_3, hostOps0_4]) (start m c) = _
  unfold before
  simp only [List.flatten_cons, List.flatten_nil, List.append_nil, StableHlo.after_append]

/-- The product's rows are the transposed convolution, phase by phase. -/
theorem product_read (W : KVal) (y : Img 16 112)
    (hy : ∀ (b : Fin 2) (o : Fin 16) (h u : Fin 112), deconv (planeOf W b)
      (fun k i j => W (Proc.devRef .tc main_arg1) (ix4 k o i j)) h u = ((y b o h u : ℝ) : EReal)) :
    Is2 (k0_pay2 (before W (Proc.devRef .tc main_v34)) (before W (Proc.devRef .tc main_v71))) (rows y) := by
  intro r l
  obtain ⟨s, o, rfl⟩ : ∃ (s : Fin 4) (o : Fin 16), l = lane s o :=
    ⟨⟨l / 16, by omega⟩, ⟨l % 16, by omega⟩, Fin.ext (by show l.val = 16 * (l.val / 16) + l.val % 16; omega)⟩
  rw [prod_read, rows_lane, ← hy]
  exact (dot_phase W r s o).trans (Out.deconv_phase _ _ _ _ _ _).symm

/-- The kernel's result at an output, when the transposed convolution is real: its normalization, rectified. -/
theorem kernel_read (y : Img 16 112) (g be : Fin 16 → ℝ)
    (hy : ∀ (b : Fin 2) (o : Fin 16) (h u : Fin 112), deconv (planeOf (start m c) b)
      (fun k i j => start m c (Proc.devRef .tc main_arg1) (ix4 k o i j)) h u = ((y b o h u : ℝ) : EReal))
    (hg : Is1 (start m c (Proc.devRef .tc main_arg3)) g) (hb : Is1 (start m c (Proc.devRef .tc main_arg4)) be)
    (b : Fin 2) (h u : Fin 112) (o : Fin 16) :
    Pipeline.afterTail₀ cfgs (dats m) 0 (V0 m) [hostOps1] c main_v77 (ix4 b h u o) = ((relu (norm y g be) b o h u : ℝ) : EReal) := by
  unfold Pipeline.afterTail₀
  simp only [List.flatten_cons, List.flatten_nil, List.append_nil]
  rw [tail_read]
  have hw := Pipeline.withArrays_arr spec0 (by decide) c (V0 m c) (fun w => (dats m 0 c).arrAt w cfg0.N) 4
  refine (congrFun (hw.trans (call_result m c)) _).trans ?_
  simp only [V]
  rw [before_eq]
  refine (call_read _ _ _ _ (rows y) (fun _ => g) (fun _ => be) (product_read (start m c) y hy) ?_ ?_ _ _ _).trans ?_
  · intro i k
    obtain rfl : i = 0 := Subsingleton.elim _ _
    exact (scales_read (start m c) k).1.trans (hg k)
  · intro i k
    obtain rfl : i = 0 := Subsingleton.elim _ _
    exact (scales_read (start m c) k).2.trans (hb k)
  · simp only [rows_lane]
    have e := bn_equiv phases (fun p : Pix 112 => y p.1 o p.2.1 p.2.2) (g o) (be o) (phases.symm (b, h, u))
    rw [Equiv.apply_symm_apply] at e
    exact congrArg (fun v : ℝ => ((max v 0 : ℝ) : EReal)) e

end Cert.Proof.Mid
end
-- ==== Proof.lean ====
/- The claim: the frames, and that the kernel and the reference, on real arguments, end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Finite
public import proofs.«01_k».proof.Proof.OutAll
public import proofs.«01_k».proof.Proof.OutRef
public import proofs.«01_k».proof.Proof.MidAll
public import Idealize.ShloMosaic.Adequacy
public import Idealize.ShloMosaic.Init

@[expose] public section

noncomputable section

namespace Cert.Proof

open Idealize.ShloMosaic Idealize.SL.Sem Cert.Kernel

/-- The frame of the reference, argument by argument. -/
theorem quiescent_ref : quiescent_ReferenceIdeal (hReferenceIdeal := Cert.ReferenceIdeal.Gen.facts) := fun m g _ =>
  θ_run_mono (Ref.frame m g) fun r hr => ⟨fun c => by
    have h := hr.1 c
    simp only [Ref.args, List.forall_mem_cons, List.not_mem_nil, false_imp_iff, implies_true, and_true] at h
    exact h, hr.2⟩

open Cert.Proof.Ref (Is4)

/-- Contents of rank four that are the same real array are equal. -/
theorem same4 {a b c d : ℕ} {X Y : (⟨4, ![a, b, c, d]⟩ : Shape).Idx → EReal} {x : Fin a → Fin b → Fin c → Fin d → ℝ} (hX : Is4 X x) (hY : Is4 Y x) : X = Y := by
  funext i
  rw [eq_ix4 i]
  exact (hX _ _ _ _).trans (hY _ _ _ _).symm

/-- Contents of rank two that are the same real matrix are equal. -/
theorem same2 {a b : ℕ} {X Y : (⟨2, ![a, b]⟩ : Shape).Idx → EReal} {x : Fin a → Fin b → ℝ} (hX : Ker.Is2 X x) (hY : Ker.Is2 Y x) : X = Y := by
  funext i
  rw [eq_ix2 i]
  exact (hX _ _).trans (hY _ _).symm

/-- On real arguments the kernel and the reference end with the same encoding, the same quantized encoding and the same
    first layer of the decoder. -/
theorem algebraic : algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  refine ⟨fun c => KernelIdeal.Gen.W13 m g c (Proc.devRef .tc KernelIdeal.main_v78), fun c => KernelIdeal.Gen.W13 m g c (Proc.devRef .tc KernelIdeal.main_v80),
    fun c => KernelIdeal.Gen.W13 m g c (Proc.devRef .tc KernelIdeal.main_v76_2), ?_, ?_⟩
  · refine θ_run_mono (Ker.run m g) fun r h c => ⟨h c _ (KernelIdeal.Gen.mem_uc KernelIdeal.main_v78 (by decide)),
      h c _ (KernelIdeal.Gen.mem_uc KernelIdeal.main_v80 (by decide)), h c _ (KernelIdeal.Gen.mem_uc KernelIdeal.main_v76_2 (by decide)),
      (h c _ (KernelIdeal.Gen.mem_uc KernelIdeal.main_arg0 (by decide))).trans (KernelIdeal.Gen.W13_main_arg0 m g c),
      (h c _ (KernelIdeal.Gen.mem_uc KernelIdeal.main_arg1 (by decide))).trans (KernelIdeal.Gen.W13_main_arg1 m g c),
      (h c _ (KernelIdeal.Gen.mem_uc KernelIdeal.main_arg2 (by decide))).trans (KernelIdeal.Gen.W13_main_arg2 m g c),
      (h c _ (KernelIdeal.Gen.mem_uc KernelIdeal.main_arg3 (by decide))).trans (KernelIdeal.Gen.W13_main_arg3 m g c),
      (h c _ (KernelIdeal.Gen.mem_uc KernelIdeal.main_arg4 (by decide))).trans (KernelIdeal.Gen.W13_main_arg4 m g c),
      (h c _ (KernelIdeal.Gen.mem_uc KernelIdeal.main_arg5 (by decide))).trans (KernelIdeal.Gen.W13_main_arg5 m g c),
      (h c _ (KernelIdeal.Gen.mem_uc KernelIdeal.main_arg6 (by decide))).trans (KernelIdeal.Gen.W13_main_arg6 m g c),
      (h c _ (KernelIdeal.Gen.mem_uc KernelIdeal.main_arg7 (by decide))).trans (KernelIdeal.Gen.W13_main_arg7 m g c),
      (h c _ (KernelIdeal.Gen.mem_uc KernelIdeal.main_arg8 (by decide))).trans (KernelIdeal.Gen.W13_main_arg8 m g c),
      (h c _ (KernelIdeal.Gen.mem_uc KernelIdeal.main_arg9 (by decide))).trans (KernelIdeal.Gen.W13_main_arg9 m g c),
      (h c _ (KernelIdeal.Gen.mem_uc KernelIdeal.main_arg10 (by decide))).trans (KernelIdeal.Gen.W13_main_arg10 m g c),
      (h c _ (KernelIdeal.Gen.mem_uc KernelIdeal.main_arg11 (by decide))).trans (KernelIdeal.Gen.W13_main_arg11 m g c),
      (h c _ (KernelIdeal.Gen.mem_uc KernelIdeal.main_arg12 (by decide))).trans (KernelIdeal.Gen.W13_main_arg12 m g c),
      (h c _ (KernelIdeal.Gen.mem_uc KernelIdeal.main_arg13 (by decide))).trans (KernelIdeal.Gen.W13_main_arg13 m g c),
      (h c _ (KernelIdeal.Gen.mem_uc KernelIdeal.main_arg14 (by decide))).trans (KernelIdeal.Gen.W13_main_arg14 m g c),
      (h c _ (KernelIdeal.Gen.mem_uc KernelIdeal.main_arg15 (by decide))).trans (KernelIdeal.Gen.W13_main_arg15 m g c),
      (h c _ (KernelIdeal.Gen.mem_uc KernelIdeal.main_arg16 (by decide))).trans (KernelIdeal.Gen.W13_main_arg16 m g c),
      (h c _ (KernelIdeal.Gen.mem_uc KernelIdeal.main_arg17 (by decide))).trans (KernelIdeal.Gen.W13_main_arg17 m g c)⟩
  · refine θ_run_mono (Ref.run m' g') fun r h c => ?_
    have K := given m g hpre c
    have R := given_ref m m' hpre c (hargs c)
    exact ⟨(h c ReferenceIdeal.main_v286).trans (same4 (Ref.ref_ze R) (Ker.ker_z m g c K).1),
      (h c ReferenceIdeal.main_v296).trans (same4 (Ref.ref_zq R) (Ker.ker_z m g c K).2),
      (h c ReferenceIdeal.main_v333).trans (same2 (Ref.ref_d1 R) (Ker.ker_d1 m g c K)),
      (h c ReferenceIdeal.main_arg0).trans (Ref.R10_args _ _ (by simp [Ref.args])),
      (h c ReferenceIdeal.main_arg1).trans (Ref.R10_args _ _ (by simp [Ref.args])),
      (h c ReferenceIdeal.main_arg2).trans (Ref.R10_args _ _ (by simp [Ref.args])),
      (h c ReferenceIdeal.main_arg3).trans (Ref.R10_args _ _ (by simp [Ref.args])),
      (h c ReferenceIdeal.main_arg4).trans (Ref.R10_args _ _ (by simp [Ref.args])),
      (h c ReferenceIdeal.main_arg5).trans (Ref.R10_args _ _ (by simp [Ref.args])),
      (h c ReferenceIdeal.main_arg6).trans (Ref.R10_args _ _ (by simp [Ref.args])),
      (h c ReferenceIdeal.main_arg7).trans (Ref.R10_args _ _ (by simp [Ref.args])),
      (h c ReferenceIdeal.main_arg8).trans (Ref.R10_args _ _ (by simp [Ref.args])),
      (h c ReferenceIdeal.main_arg9).trans (Ref.R10_args _ _ (by simp [Ref.args])),
      (h c ReferenceIdeal.main_arg10).trans (Ref.R10_args _ _ (by simp [Ref.args])),
      (h c ReferenceIdeal.main_arg11).trans (Ref.R10_args _ _ (by simp [Ref.args])),
      (h c ReferenceIdeal.main_arg12).trans (Ref.R10_args _ _ (by simp [Ref.args])),
      (h c ReferenceIdeal.main_arg13).trans (Ref.R10_args _ _ (by simp [Ref.args])),
      (h c ReferenceIdeal.main_arg14).trans (Ref.R10_args _ _ (by simp [Ref.args])),
      (h c ReferenceIdeal.main_arg15).trans (Ref.R10_args _ _ (by simp [Ref.args])),
      (h c ReferenceIdeal.main_arg16).trans (Ref.R10_args _ _ (by simp [Ref.args])),
      (h c ReferenceIdeal.main_arg17).trans (Ref.R10_args _ _ (by simp [Ref.args]))⟩

/-- The frame of the last layer's reference. -/
theorem quiescent_out : quiescent_Reference2Ideal (hReference2Ideal := Cert.Reference2Ideal.Gen.facts) := fun m g _ =>
  θ_run_mono (Out.ref_run m g) fun r h => ⟨fun c =>
    ⟨(h c Reference2Ideal.main_arg0).trans (Out.ref_arg0 _), (h c Reference2Ideal.main_arg1).trans (Out.ref_arg1 _),
      (h c Reference2Ideal.main_arg2).trans (Out.ref_arg2 _)⟩, sem_eq_zero_of_no_sems (by decide) _⟩

/-- On any arguments the last layer's call with its host operations and the reference end with the same reconstruction. -/
theorem algebraic_out : algebraic_Kernel2Ideal_Reference2Ideal (hKernel2Ideal := Cert.Kernel2Ideal.Gen.facts)
    (hReference2Ideal := Cert.Reference2Ideal.Gen.facts) := by
  intro m g m' g' _ hargs
  refine ⟨fun c => Pipeline.afterTail₀ Kernel2Ideal.cfgs (Kernel2Ideal.Gen.dats m) 0 (Kernel2Ideal.Gen.V0 m) [Kernel2Ideal.Gen.hostOps1] c
    Kernel2Ideal.main_v75, ?_, ?_⟩
  · refine θ_run_mono (Kernel2Ideal.Gen.run_main m g) fun r h c => ⟨?_, ?_, ?_, ?_⟩
    · exact (h c).2 Kernel2Ideal.main_v75 (Pipeline.mem_restRefs_of Kernel2Ideal.main_v75 (by decide) (by decide))
    · exact ((h c).2 Kernel2Ideal.main_arg0 (Pipeline.mem_restRefs_of Kernel2Ideal.main_arg0 (by decide) (by decide))).trans
        (Kernel2Ideal.Gen.W_main_arg0 m _ c)
    · exact ((h c).2 Kernel2Ideal.main_arg1 (Pipeline.mem_restRefs_of Kernel2Ideal.main_arg1 (by decide) (by decide))).trans
        (Kernel2Ideal.Gen.W_main_arg1 m _ c)
    · exact ((h c).2 Kernel2Ideal.main_arg2 (Pipeline.mem_restRefs_of Kernel2Ideal.main_arg2 (by decide) (by decide))).trans
        (Kernel2Ideal.Gen.W_main_arg2 m _ c)
  · refine θ_run_mono (Out.ref_run m' g') fun r h c => ?_
    refine ⟨(h c Reference2Ideal.main_v107).trans ?_, (h c Reference2Ideal.main_arg0).trans (Out.ref_arg0 _),
      (h c Reference2Ideal.main_arg1).trans (Out.ref_arg1 _), (h c Reference2Ideal.main_arg2).trans (Out.ref_arg2 _)⟩
    obtain ⟨h0, h1, h2⟩ := hargs c
    have e0 : StableHlo.launchContents m' c (Proc.devRef .tc Reference2Ideal.main_arg0) = Out.start m c (Proc.devRef .tc Kernel2Ideal.main_arg0) := h0
    have e1 : StableHlo.launchContents m' c (Proc.devRef .tc Reference2Ideal.main_arg1) = Out.start m c (Proc.devRef .tc Kernel2Ideal.main_arg1) := h1
    have e2 : StableHlo.launchContents m' c (Proc.devRef .tc Reference2Ideal.main_arg2) = Out.start m c (Proc.devRef .tc Kernel2Ideal.main_arg2) := h2
    funext i
    obtain ⟨b, o, p, q, rfl⟩ : ∃ (b : Fin 2) (o : Fin 1) (p q : Fin 224), i = ix4 b o p q := ⟨i 0, i 1, i 2, i 3, eq_ix4 i⟩
    obtain rfl : o = 0 := Subsingleton.elim _ _
    refine (Out.ref_read _ b p q).trans ?_
    rw [e0, e1, e2]
    exact (Out.kernel_read m c b p q).symm

/-- The frame of the second layer's reference. -/
theorem quiescent_mid : quiescent_Reference3Ideal (hReference3Ideal := Cert.Reference3Ideal.Gen.facts) := fun m g _ =>
  θ_run_mono (Mid.ref_run m g) fun r h => ⟨fun c =>
    ⟨(h c Reference3Ideal.main_arg0).trans (Mid.ref_arg0 _), (h c Reference3Ideal.main_arg1).trans (Mid.ref_arg1 _),
      (h c Reference3Ideal.main_arg2).trans (Mid.ref_arg2 _), (h c Reference3Ideal.main_arg3).trans (Mid.ref_arg3 _),
      (h c Reference3Ideal.main_arg4).trans (Mid.ref_arg4 _)⟩, sem_eq_zero_of_no_sems (by decide) _⟩

/-- On real arguments the second layer's call with its host operations and the reference end with the same images. -/
theorem algebraic_mid : algebraic_Kernel3Ideal_Reference3Ideal_pre_finite3 (hKernel3Ideal := Cert.Kernel3Ideal.Gen.facts)
    (hReference3Ideal := Cert.Reference3Ideal.Gen.facts) (hPre_finite3 := finite3_facts) := by
  intro m g m' g' hpre hargs
  refine ⟨fun c => Pipeline.afterTail₀ Kernel3Ideal.cfgs (Kernel3Ideal.Gen.dats m) 0 (Kernel3Ideal.Gen.V0 m) [Kernel3Ideal.Gen.hostOps1] c
    Kernel3Ideal.main_v77, ?_, ?_⟩
  · refine θ_run_mono (Kernel3Ideal.Gen.run_main m g) fun r h c => ⟨?_, ?_, ?_, ?_, ?_, ?_⟩
    · exact (h c).2 Kernel3Ideal.main_v77 (Pipeline.mem_restRefs_of Kernel3Ideal.main_v77 (by decide) (by decide))
    · exact ((h c).2 Kernel3Ideal.main_arg0 (Pipeline.mem_restRefs_of Kernel3Ideal.main_arg0 (by decide) (by decide))).trans
        (Kernel3Ideal.Gen.W_main_arg0 m _ c)
    · exact ((h c).2 Kernel3Ideal.main_arg1 (Pipeline.mem_restRefs_of Kernel3Ideal.main_arg1 (by decide) (by decide))).trans
        (Kernel3Ideal.Gen.W_main_arg1 m _ c)
    · exact ((h c).2 Kernel3Ideal.main_arg2 (Pipeline.mem_restRefs_of Kernel3Ideal.main_arg2 (by decide) (by decide))).trans
        (Kernel3Ideal.Gen.W_main_arg2 m _ c)
    · exact ((h c).2 Kernel3Ideal.main_arg3 (Pipeline.mem_restRefs_of Kernel3Ideal.main_arg3 (by decide) (by decide))).trans
        (Kernel3Ideal.Gen.W_main_arg3 m _ c)
    · exact ((h c).2 Kernel3Ideal.main_arg4 (Pipeline.mem_restRefs_of Kernel3Ideal.main_arg4 (by decide) (by decide))).trans
        (Kernel3Ideal.Gen.W_main_arg4 m _ c)
  · refine θ_run_mono (Mid.ref_run m' g') fun r h c => ?_
    refine ⟨(h c Reference3Ideal.main_v129).trans ?_, (h c Reference3Ideal.main_arg0).trans (Mid.ref_arg0 _),
      (h c Reference3Ideal.main_arg1).trans (Mid.ref_arg1 _), (h c Reference3Ideal.main_arg2).trans (Mid.ref_arg2 _),
      (h c Reference3Ideal.main_arg3).trans (Mid.ref_arg3 _), (h c Reference3Ideal.main_arg4).trans (Mid.ref_arg4 _)⟩
    obtain ⟨h0, h1, h2, h3, h4⟩ := hargs c
    obtain ⟨f0, f1, f2, f3, f4⟩ := real_args3 _ _ _ _ _ (hpre c)
    let W : Mid.KVal := Mid.start m c
    have e0 : StableHlo.launchContents m' c (Proc.devRef .tc Reference3Ideal.main_arg0) = W (Proc.devRef .tc Kernel3Ideal.main_arg0) := h0
    have e1 : StableHlo.launchContents m' c (Proc.devRef .tc Reference3Ideal.main_arg1) = W (Proc.devRef .tc Kernel3Ideal.main_arg1) := h1
    have e2 : StableHlo.launchContents m' c (Proc.devRef .tc Reference3Ideal.main_arg2) = W (Proc.devRef .tc Kernel3Ideal.main_arg2) := h2
    have e3 : StableHlo.launchContents m' c (Proc.devRef .tc Reference3Ideal.main_arg3) = W (Proc.devRef .tc Kernel3Ideal.main_arg3) := h3
    have e4 : StableHlo.launchContents m' c (Proc.devRef .tc Reference3Ideal.main_arg4) = W (Proc.devRef .tc Kernel3Ideal.main_arg4) := h4
    have hy : ∀ (b : Fin 2) (o : Fin 16) (h u : Fin 112), Out.deconv (Mid.planeOf W b)
        (fun k i j => W (Proc.devRef .tc Kernel3Ideal.main_arg1) (ix4 k o i j)) h u
          = (((Out.deconv (Mid.planeOf W b) (fun k i j => W (Proc.devRef .tc Kernel3Ideal.main_arg1) (ix4 k o i j)) h u).toReal : ℝ) : EReal) :=
      fun b o h u => (Mid.deconv_real _ _ (fun k i j => f0 _) (fun k i j => f1 _) _ _).symm
    have hr := Mid.ref_read (StableHlo.launchContents m' c) (fun b o h u =>
        (Out.deconv (Mid.planeOf W b) (fun k i j => W (Proc.devRef .tc Kernel3Ideal.main_arg1) (ix4 k o i j)) h u).toReal)
      (fun k => (W (Proc.devRef .tc Kernel3Ideal.main_arg2) (ix1 k)).toReal) (fun k => (W (Proc.devRef .tc Kernel3Ideal.main_arg3) (ix1 k)).toReal)
      (fun k => (W (Proc.devRef .tc Kernel3Ideal.main_arg4) (ix1 k)).toReal)
      (by rw [e0, e1]; exact hy) (by rw [e2]; exact fun k => (f2 _).symm) (by rw [e3]; exact fun k => (f3 _).symm)
      (by rw [e4]; exact fun k => (f4 _).symm)
    have hk := Mid.kernel_read m c _ _ _ hy (fun k => (f3 (ix1 k)).symm) (fun k => (f4 (ix1 k)).symm)
    exact same4 hr hk

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    finite_facts, finite3_facts, fun m ρ _ => Cert.Kernel.Gen.frame m ρ,
    fun m ρ _ => Cert.KernelIdeal.Gen.frame m ρ, fun m ρ _ => Cert.KernelIdeal.Gen.frame m ρ, quiescent_ref, fun m g _ => quiescent_ref m g trivial,
    fun m ρ _ => Cert.Kernel2.Gen.frame m ρ, fun m ρ _ => Cert.Kernel2Ideal.Gen.frame m ρ, quiescent_out,
    fun m ρ _ => Cert.Kernel3.Gen.frame m ρ, fun m ρ _ => Cert.Kernel3Ideal.Gen.frame m ρ, fun m ρ _ => Cert.Kernel3Ideal.Gen.frame m ρ,
    quiescent_mid, fun m g _ => quiescent_mid m g trivial,
    trivial, algebraic, trivial, algebraic_out, trivial, algebraic_mid⟩

end Cert.Proof

end
